-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_mix [hPre_finite_mix : Cert.Pre_finite_mix.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_mix.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_mix [hPre_finite_mix : Cert.Pre_finite_mix.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_mix.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_mix [hKernel6Ideal : Cert.Kernel6Ideal.Facts] [hPre_finite_mix : Cert.Pre_finite_mix.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_mix m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_mix [hReference6Ideal : Cert.Reference6Ideal.Facts] [hPre_finite_mix : Cert.Pre_finite_mix.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_mix m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v57_0)) (v1 : (c : Dev Cert.Kernel4Ideal.nD) → Buf (Elt Ideal) ((c.tc : Thread Cert.Kernel4Ideal.nD Cert.Kernel4Ideal.τ).loc Cert.Kernel4Ideal.main_v57_1)) (v2 : (c : Dev Cert.Kernel4Ideal.nD) → Buf (Elt Ideal) ((c.tc : Thread Cert.Kernel4Ideal.nD Cert.Kernel4Ideal.τ).loc Cert.Kernel4Ideal.main_v57_2)) (v3 : (c : Dev Cert.Kernel4Ideal.nD) → Buf (Elt Ideal) ((c.tc : Thread Cert.Kernel4Ideal.nD Cert.Kernel4Ideal.τ).loc Cert.Kernel4Ideal.main_v57_3)) (v4 : (c : Dev Cert.Kernel4Ideal.nD) → Buf (Elt Ideal) ((c.tc : Thread Cert.Kernel4Ideal.nD Cert.Kernel4Ideal.τ).loc Cert.Kernel4Ideal.main_v57_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57_0) = v0 c
          ∧ r.2.mem ((c.tc : Thread Cert.Kernel4Ideal.nD Cert.Kernel4Ideal.τ).loc Cert.Kernel4Ideal.main_v57_1) = v1 c
          ∧ r.2.mem ((c.tc : Thread Cert.Kernel4Ideal.nD Cert.Kernel4Ideal.τ).loc Cert.Kernel4Ideal.main_v57_2) = v2 c
          ∧ r.2.mem ((c.tc : Thread Cert.Kernel4Ideal.nD Cert.Kernel4Ideal.τ).loc Cert.Kernel4Ideal.main_v57_3) = v3 c
          ∧ r.2.mem ((c.tc : Thread Cert.Kernel4Ideal.nD Cert.Kernel4Ideal.τ).loc Cert.Kernel4Ideal.main_v57_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_v50) = v3 c
          ∧ r.2.mem ((c.tc : Thread Cert.Reference4Ideal.nD Cert.Reference4Ideal.τ).loc Cert.Reference4Ideal.main_v51) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v100_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v100_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v148) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_mix [hKernel6Ideal : Cert.Kernel6Ideal.Facts] [hReference6Ideal : Cert.Reference6Ideal.Facts] [hPre_finite_mix : Cert.Pre_finite_mix.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_mix m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v64) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_v65) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite_inputs : Cert.Pre_finite_inputs.Facts) (hPre_finite_mix : Cert.Pre_finite_mix.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_mix (hKernel6Ideal := hKernel6Ideal) (hPre_finite_mix := hPre_finite_mix)
    ∧ quiescent_Reference6Ideal (hReference6Ideal := hReference6Ideal)
    ∧ quiescent_Reference6Ideal_pre_finite_mix (hReference6Ideal := hReference6Ideal) (hPre_finite_mix := hPre_finite_mix)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_mix (hKernel6Ideal := hKernel6Ideal) (hReference6Ideal := hReference6Ideal) (hPre_finite_mix := hPre_finite_mix)
-- ==== Pre_finite_inputs.lean ====
abbrev S2x4096x1024 : Shape := ⟨3, ![2, 4096, 1024]⟩
abbrev S2x6144 : Shape := ⟨2, ![2, 6144]⟩
abbrev S1024 : Shape := ⟨1, ![1024]⟩
abbrev S1024x3552 : Shape := ⟨2, ![1024, 3552]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x6144 : S_.BroadcastsInDim S2x6144 (![] : Fin 0 → Fin S2x6144.rank)
  reducesTo_S2x6144_S_d0_1 : S2x6144.ReducesTo [0, 1] S_
  bcast_S_S1024 : S_.BroadcastsInDim S1024 (![] : Fin 0 → Fin S1024.rank)
  reducesTo_S1024_S_d0 : S1024.ReducesTo [0] S_
  bcast_S_S1024x3552 : S_.BroadcastsInDim S1024x3552 (![] : Fin 0 → Fin S1024x3552.rank)
  reducesTo_S1024x3552_S_d0_1 : S1024x3552.ReducesTo [0, 1] S_

variable [Facts]

def fn_part1 {F : FTy → Type} [FloatOps F] (main_v13 : IVec S_ 1) (main_v16 : IVec S1024x3552 1) : IVec S_ 1 :=
  let main_c_5 : IVec S_ 1 := constantI S_ 1 1#1
  let main_v17 : IVec S_ 1 := (fun x v => Host.reduce IntOp.andi x v reducesTo_S1024x3552_S_d0_1 h_S_) main_v16 main_c_5
  let main_v18 : IVec S_ 1 := andi main_v13 main_v17
  main_v18

def fn {F : FTy → Type} [FloatOps F] (main_arg0 : FVec F S2x4096x1024 .f32) (main_arg1 : FVec F S2x6144 .f32) (main_arg2 : FVec F S1024 .f32) (main_arg3 : FVec F S1024x3552 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x6144 .f32 := Host.absf main_arg1
  let main_cst_0 : FVec F S_ .f32 := constant S_ .f32 0x7F800000#32
  let main_v5 : FVec F S2x6144 .f32 := broadcastInDim S2x6144 ![] bcast_S_S2x6144 main_cst_0
  let main_v6 : IVec S2x6144 1 := cmpf .olt main_v4 main_v5
  let main_c_1 : IVec S_ 1 := constantI S_ 1 1#1
  let main_v7 : IVec S_ 1 := (fun x v => Host.reduce IntOp.andi x v reducesTo_S2x6144_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x3552 .f32 := Host.absf main_arg3
  let main_cst_4 : FVec F S_ .f32 := constant S_ .f32 0x7F800000#32
  let main_v15 : FVec F S1024x3552 .f32 := broadcastInDim S1024x3552 ![] bcast_S_S1024x3552 main_cst_4
  let main_v16 : IVec S1024x3552 1 := cmpf .olt main_v14 main_v15
  fn_part1 (F := F) main_v13 main_v16
-- ==== Pre_finite_mix.lean ====
abbrev S8192x256 : Shape := ⟨2, ![8192, 256]⟩
abbrev S8192x512 : Shape := ⟨2, ![8192, 512]⟩
abbrev S2x4096x1024 : Shape := ⟨3, ![2, 4096, 1024]⟩
abbrev S2x6144 : Shape := ⟨2, ![2, 6144]⟩
abbrev S4x1024 : Shape := ⟨2, ![4, 1024]⟩
abbrev S1024x1024 : Shape := ⟨2, ![1024, 1024]⟩
abbrev S1024x16 : Shape := ⟨2, ![1024, 16]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S2x6144 : S_.BroadcastsInDim S2x6144 (![] : Fin 0 → Fin S2x6144.rank)
  reducesTo_S2x6144_S_d0_1 : S2x6144.ReducesTo [0, 1] S_
  bcast_S_S4x1024 : S_.BroadcastsInDim S4x1024 (![] : Fin 0 → Fin S4x1024.rank)
  reducesTo_S4x1024_S_d0_1 : S4x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg7 : FVec F S1024x16 .f32) (main_v33 : IVec S_ 1) : IVec S_ 1 :=
  let main_v34 : FVec F S1024x16 .f32 := Host.absf main_arg7
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  main_v38

def fn_part1 {F : FTy → Type} [FloatOps F] (main_arg4 : FVec F S2x6144 .f32) (main_arg5 : FVec F S4x1024 .f32) (main_arg6 : FVec F S1024x1024 .f32) (main_arg7 : FVec F S1024x16 .f32) (main_v13 : IVec S_ 1) (main_v16 : IVec S2x4096x1024 1) : IVec S_ 1 :=
  let main_c_5 : IVec S_ 1 := constantI S_ 1 1#1
  let main_v17 : IVec S_ 1 := (fun x v => Host.reduce IntOp.andi x v reducesTo_S2x4096x1024_S_d0_1_2 h_S_) main_v16 main_c_5
  let main_v18 : IVec S_ 1 := andi main_v13 main_v17
  let main_v19 : FVec F S2x6144 .f32 := Host.absf main_arg4
  let main_cst_6 : FVec F S_ .f32 := constant S_ .f32 0x7F800000#32
  let main_v20 : FVec F S2x6144 .f32 := broadcastInDim S2x6144 ![] bcast_S_S2x6144 main_cst_6
  let main_v21 : IVec S2x6144 1 := cmpf .olt main_v19 main_v20
  let main_c_7 : IVec S_ 1 := constantI S_ 1 1#1
  let main_v22 : IVec S_ 1 := (fun x v => Host.reduce IntOp.andi x v reducesTo_S2x6144_S_d0_1 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8192x256 .f32) (main_arg1 : FVec F S8192x256 .f32) (main_arg2 : FVec F S8192x512 .f32) (main_arg3 : FVec F S2x4096x1024 .f32) (main_arg4 : FVec F S2x6144 .f32) (main_arg5 : FVec F S4x1024 .f32) (main_arg6 : FVec F S1024x1024 .f32) (main_arg7 : FVec F S1024x16 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S2x4096x1024 .f32 := Host.absf main_arg3
  let main_cst_4 : FVec F S_ .f32 := constant S_ .f32 0x7F800000#32
  let main_v15 : FVec F S2x4096x1024 .f32 := broadcastInDim S2x4096x1024 ![] bcast_S_S2x4096x1024 main_cst_4
  let main_v16 : IVec S2x4096x1024 1 := cmpf .olt main_v14 main_v15
  fn_part1 (F := F) main_arg4 main_arg5 main_arg6 main_arg7 main_v13 main_v16
-- ==== Pre_finite_scores.lean ====
abbrev S2x4096x4x128 : Shape := ⟨4, ![2, 4096, 4, 128]⟩
abbrev S2x4096x4x64 : Shape := ⟨4, ![2, 4096, 4, 64]⟩
abbrev S2x256x4x128 : Shape := ⟨4, ![2, 256, 4, 128]⟩
abbrev S2x256x4x64 : Shape := ⟨4, ![2, 256, 4, 64]⟩
abbrev S_ : Shape := ⟨0, ![]⟩

class Facts : Prop where
  bcast_S_S2x4096x4x128 : S_.BroadcastsInDim S2x4096x4x128 (![] : Fin 0 → Fin S2x4096x4x128.rank)
  reducesTo_S2x4096x4x128_S_d0_1_2_3 : S2x4096x4x128.ReducesTo [0, 1, 2, 3] S_
  h_S_ : 0 < S_.numel
  bcast_S_S2x256x4x128 : S_.BroadcastsInDim S2x256x4x128 (![] : Fin 0 → Fin S2x256x4x128.rank)
  reducesTo_S2x256x4x128_S_d0_1_2_3 : S2x256x4x128.ReducesTo [0, 1, 2, 3] S_

variable [Facts]

def fn {F : FTy → Type} [FloatOps F] (main_arg0 : FVec F S2x4096x4x128 .f32) (main_arg1 : FVec F S2x4096x4x128 .f32) (main_arg2 : FVec F S2x4096x4x64 .f32) (main_arg3 : FVec F S2x256x4x128 .f32) (main_arg4 : FVec F S2x256x4x64 .f32) : IVec S_ 1 :=
  let main_v0 : FVec F S2x4096x4x128 .f32 := Host.absf main_arg0
  let main_cst : FVec F S_ .f32 := constant S_ .f32 0x7F800000#32
  let main_v1 : FVec F S2x4096x4x128 .f32 := broadcastInDim S2x4096x4x128 ![] bcast_S_S2x4096x4x128 main_cst
  let main_v2 : IVec S2x4096x4x128 1 := cmpf .olt main_v0 main_v1
  let main_c : IVec S_ 1 := constantI S_ 1 1#1
  let main_v3 : IVec S_ 1 := (fun x v => Host.reduce IntOp.andi x v reducesTo_S2x4096x4x128_S_d0_1_2_3 h_S_) main_v2 main_c
  let main_v4 : FVec F S2x4096x4x128 .f32 := Host.absf main_arg1
  let main_cst_0 : FVec F S_ .f32 := constant S_ .f32 0x7F800000#32
  let main_v5 : FVec F S2x4096x4x128 .f32 := broadcastInDim S2x4096x4x128 ![] bcast_S_S2x4096x4x128 main_cst_0
  let main_v6 : IVec S2x4096x4x128 1 := cmpf .olt main_v4 main_v5
  let main_c_1 : IVec S_ 1 := constantI S_ 1 1#1
  let main_v7 : IVec S_ 1 := (fun x v => Host.reduce IntOp.andi x v reducesTo_S2x4096x4x128_S_d0_1_2_3 h_S_) main_v6 main_c_1
  let main_v8 : IVec S_ 1 := andi main_v3 main_v7
  let main_v9 : FVec F S2x256x4x128 .f32 := Host.absf main_arg3
  let main_cst_2 : FVec F S_ .f32 := constant S_ .f32 0x7F800000#32
  let main_v10 : FVec F S2x256x4x128 .f32 := broadcastInDim S2x256x4x128 ![] bcast_S_S2x256x4x128 main_cst_2
  let main_v11 : IVec S2x256x4x128 1 := cmpf .olt main_v9 main_v10
  let main_c_3 : IVec S_ 1 := constantI S_ 1 1#1
  let main_v12 : IVec S_ 1 := (fun x v => Host.reduce IntOp.andi x v reducesTo_S2x256x4x128_S_d0_1_2_3 h_S_) main_v11 main_c_3
  let main_v13 : IVec S_ 1 := andi main_v8 main_v12
  main_v13
-- ==== Kernel.lean ====
abbrev S2x4096x4x128 : Shape := ⟨4, ![2, 4096, 4, 128]⟩
abbrev S2x4096x4x64 : Shape := ⟨4, ![2, 4096, 4, 64]⟩
abbrev S2x256x4x128 : Shape := ⟨4, ![2, 256, 4, 128]⟩
abbrev S2x256x4x64 : Shape := ⟨4, ![2, 256, 4, 64]⟩
abbrev S_ : Shape := ⟨0, ![]⟩
abbrev S2x4096x512 : Shape := ⟨3, ![2, 4096, 512]⟩
abbrev S2x256x512 : Shape := ⟨3, ![2, 256, 512]⟩
abbrev S8192x256 : Shape := ⟨2, ![8192, 256]⟩
abbrev S256x8192 : Shape := ⟨2, ![256, 8192]⟩
abbrev S512x256 : Shape := ⟨2, ![512, 256]⟩
abbrev S256x512 : Shape := ⟨2, ![256, 512]⟩
abbrev S2x4096x256 : Shape := ⟨3, ![2, 4096, 256]⟩
abbrev S1x256x512 : Shape := ⟨3, ![1, 256, 512]⟩
abbrev S1x4096x512 : Shape := ⟨3, ![1, 4096, 512]⟩
abbrev S256x4096 : Shape := ⟨2, ![256, 4096]⟩
abbrev S256x256 : Shape := ⟨2, ![256, 256]⟩
abbrev S1x256x256 : Shape := ⟨3, ![1, 256, 256]⟩
abbrev S1x4096x128 : Shape := ⟨3, ![1, 4096, 128]⟩
abbrev S4096x128 : Shape := ⟨2, ![4096, 128]⟩
abbrev S1x256x128 : Shape := ⟨3, ![1, 256, 128]⟩
abbrev S256x128 : Shape := ⟨2, ![256, 128]⟩
abbrev S4096x256 : Shape := ⟨2, ![4096, 256]⟩
abbrev S256 : Shape := ⟨1, ![256]⟩
abbrev S1x256 : Shape := ⟨2, ![1, 256]⟩
abbrev S64x4096 : Shape := ⟨2, ![64, 4096]⟩
abbrev S64x256 : Shape := ⟨2, ![64, 256]⟩

abbrev nBuf : Space → Nat
  | .hbm => 21
  | .vmem => 12
  | .smem => 0
  | _ => 0

abbrev bufTy : (tb : Table) → Fin (tcTables nBuf tb) → BufTy
  | .hbm, ⟨0, _⟩ => ⟨S2x4096x4x128, .f32⟩
  | .hbm, ⟨1, _⟩ => ⟨S2x4096x4x128, .f32⟩
  | .hbm, ⟨2, _⟩ => ⟨S2x4096x4x64, .f32⟩
  | .hbm, ⟨3, _⟩ => ⟨S2x256x4x128, .f32⟩
  | .hbm, ⟨4, _⟩ => ⟨S2x256x4x64, .f32⟩
  | .hbm, ⟨5, _⟩ => ⟨S_, .f32⟩
  | .hbm, ⟨6, _⟩ => ⟨S2x4096x4x128, .f32⟩
  | .hbm, ⟨7, _⟩ => ⟨S2x4096x4x128, .f32⟩
  | .hbm, ⟨8, _⟩ => ⟨S2x4096x4x128, .bf16⟩
  | .hbm, ⟨9, _⟩ => ⟨S2x4096x512, .bf16⟩
  | .hbm, ⟨10, _⟩ => ⟨S2x4096x4x128, .bf16⟩
  | .hbm, ⟨11, _⟩ => ⟨S2x4096x512, .bf16⟩
  | .hbm, ⟨12, _⟩ => ⟨S2x256x4x128, .bf16⟩
  | .hbm, ⟨13, _⟩ => ⟨S2x256x512, .bf16⟩
  | .hbm, ⟨14, _⟩ => ⟨S8192x256, .f32⟩
  | .hbm, ⟨15, _⟩ => ⟨S256x8192, .f32⟩
  | .hbm, ⟨16, _⟩ => ⟨S256x8192, .bf16⟩
  | .hbm, ⟨17, _⟩ => ⟨S512x256, .f32⟩
  | .hbm, ⟨18, _⟩ => ⟨S256x512, .f32⟩
  | .hbm, ⟨19, _⟩ => ⟨S256x512, .bf16⟩
  | .hbm, ⟨20, _⟩ => ⟨S2x4096x256, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S256x4096, .bf16⟩
  | .local _ .vmem, ⟨5, _⟩ => ⟨S256x4096, .bf16⟩
  | .local _ .vmem, ⟨6, _⟩ => ⟨S1x256x512, .bf16⟩
  | .local _ .vmem, ⟨7, _⟩ => ⟨S1x256x512, .bf16⟩
  | .local _ .vmem, ⟨8, _⟩ => ⟨S256x256, .bf16⟩
  | .local _ .vmem, ⟨9, _⟩ => ⟨S256x256, .bf16⟩
  | .local _ .vmem, ⟨10, _⟩ => ⟨S1x256x256, .bf16⟩
  | .local _ .vmem, ⟨11, _⟩ => ⟨S1x256x256, .bf16⟩
  | _, _ => ⟨S2x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x4096x4x128 : Shape := ⟨4, ![2, 4096, 4, 128]⟩
abbrev S2x4096x4x64 : Shape := ⟨4, ![2, 4096, 4, 64]⟩
abbrev S2x256x4x128 : Shape := ⟨4, ![2, 256, 4, 128]⟩
abbrev S2x256x4x64 : Shape := ⟨4, ![2, 256, 4, 64]⟩
abbrev S2x4352x4x128 : Shape := ⟨4, ![2, 4352, 4, 128]⟩
abbrev S2x4352x4x64 : Shape := ⟨4, ![2, 4352, 4, 64]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩
abbrev S2x4096x256 : Shape := ⟨3, ![2, 4096, 256]⟩

abbrev nBuf : Space → Nat
  | .hbm => 29
  | .vmem => 0
  | .smem => 0
  | _ => 0

abbrev bufTy : (tb : Table) → Fin (tcTables nBuf tb) → BufTy
  | .hbm, ⟨0, _⟩ => ⟨S2x4096x4x128, .f32⟩
  | .hbm, ⟨1, _⟩ => ⟨S2x4096x4x128, .f32⟩
  | .hbm, ⟨2, _⟩ => ⟨S2x4096x4x64, .f32⟩
  | .hbm, ⟨3, _⟩ => ⟨S2x256x4x128, .f32⟩
  | .hbm, ⟨4, _⟩ => ⟨S2x256x4x64, .f32⟩
  | .hbm, ⟨5, _⟩ => ⟨S2x4352x4x128, .f32⟩
  | .hbm, ⟨6, _⟩ => ⟨S2x4352x4x64, .f32⟩
  | .hbm, ⟨7, _⟩ => ⟨S2x4x4096x4352, .f32⟩
  | .hbm, ⟨8, _⟩ => ⟨S_, .f32⟩
  | .hbm, ⟨9, _⟩ => ⟨S2x4x4096x4352, .f32⟩
  | .hbm, ⟨10, _⟩ => ⟨S2x4x4096x4352, .f32⟩
  | .hbm, ⟨11, _⟩ => ⟨S_, .f32⟩
  | .hbm, ⟨12, _⟩ => ⟨S2x4x4096, .f32⟩
  | .hbm, ⟨13, _⟩ => ⟨S_, .f32⟩
  | .hbm, ⟨14, _⟩ => ⟨S2x4x4096, .f32⟩
  | .hbm, ⟨15, _⟩ => ⟨S2x4x4096, .f32⟩
  | .hbm, ⟨16, _⟩ => ⟨S2x4x4096x1, .f32⟩
  | .hbm, ⟨17, _⟩ => ⟨S2x4x4096x4352, .f32⟩
  | .hbm, ⟨18, _⟩ => ⟨S2x4x4096x4352, .f32⟩
  | .hbm, ⟨19, _⟩ => ⟨S2x4x4096x4352, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x4352, .f32⟩
  | .hbm, ⟨24, _⟩ => ⟨S2x4x4096x4352, .f32⟩
  | .hbm, ⟨25, _⟩ => ⟨S2x4x64x4096, .f32⟩
  | .hbm, ⟨26, _⟩ => ⟨S2x4096x4x64, .f32⟩
  | .hbm, ⟨27, _⟩ => ⟨S2x4096x4x64, .bf16⟩
  | .hbm, ⟨28, _⟩ => ⟨S2x4096x256, .bf16⟩
  | _, _ => ⟨S2x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S2x4096x1024 : Shape := ⟨3, ![2, 4096, 1024]⟩
abbrev S2x6144 : Shape := ⟨2, ![2, 6144]⟩
abbrev S1024 : Shape := ⟨1, ![1024]⟩
abbrev S1024x3552 : Shape := ⟨2, ![1024, 3552]⟩
abbrev S2x6x1024 : Shape := ⟨3, ![2, 6, 1024]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x16 : Shape := ⟨2, ![1024, 16]⟩
abbrev S1024x16x2 : Shape := ⟨3, ![1024, 16, 2]⟩
abbrev S1024x16x1 : Shape := ⟨3, ![1024, 16, 1]⟩
abbrev S1024x3584 : Shape := ⟨2, ![1024, 3584]⟩
abbrev S8192x1024 : Shape := ⟨2, ![8192, 1024]⟩
abbrev S1x1024 : Shape := ⟨2, ![1, 1024]⟩
abbrev S8192x3584 : Shape := ⟨2, ![8192, 3584]⟩
abbrev S512x1024 : Shape := ⟨2, ![512, 1024]⟩
abbrev S1x6x1024 : Shape := ⟨3, ![1, 6, 1024]⟩
abbrev S512x3584 : Shape := ⟨2, ![512, 3584]⟩
abbrev S6x1024 : Shape := ⟨2, ![6, 1024]⟩
abbrev S512 : Shape := ⟨1, ![512]⟩
abbrev S512x1 : Shape := ⟨2, ![512, 1]⟩
abbrev S512x512 : Shape := ⟨2, ![512, 512]⟩

abbrev nBuf : Space → Nat
  | .hbm => 34
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1024, .f32⟩
  | .hbm, ⟨3, _⟩ => ⟨S1024x3552, .f32⟩
  | .hbm, ⟨4, _⟩ => ⟨S2x6x1024, .f32⟩
  | .hbm, ⟨5, _⟩ => ⟨S1024x256, .f32⟩
  | .hbm, ⟨6, _⟩ => ⟨S1024x128, .f32⟩
  | .hbm, ⟨7, _⟩ => ⟨S1024x32, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x32, .f32⟩
  | .hbm, ⟨12, _⟩ => ⟨S1024x256, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x16, .f32⟩
  | .hbm, ⟨18, _⟩ => ⟨S1024x16, .f32⟩
  | .hbm, ⟨19, _⟩ => ⟨S1024x16x2, .f32⟩
  | .hbm, ⟨20, _⟩ => ⟨S1024x16x1, .f32⟩
  | .hbm, ⟨21, _⟩ => ⟨S1024x16, .f32⟩
  | .hbm, ⟨22, _⟩ => ⟨S1024x16, .f32⟩
  | .hbm, ⟨23, _⟩ => ⟨S1024x16x1, .f32⟩
  | .hbm, ⟨24, _⟩ => ⟨S1024x16, .f32⟩
  | .hbm, ⟨25, _⟩ => ⟨S1024x16x1, .f32⟩
  | .hbm, ⟨26, _⟩ => ⟨S1024x16x1, .f32⟩
  | .hbm, ⟨27, _⟩ => ⟨S1024x16x2, .f32⟩
  | .hbm, ⟨28, _⟩ => ⟨S1024x32, .f32⟩
  | .hbm, ⟨29, _⟩ => ⟨S1024x3584, .f32⟩
  | .hbm, ⟨30, _⟩ => ⟨S1024x3584, .bf16⟩
  | .hbm, ⟨31, _⟩ => ⟨S8192x1024, .f32⟩
  | .hbm, ⟨32, _⟩ => ⟨S1x1024, .f32⟩
  | .hbm, ⟨33, _⟩ => ⟨S8192x3584, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3584, .bf16⟩
  | .local _ .vmem, ⟨6, _⟩ => ⟨S512x3584, .f32⟩
  | .local _ .vmem, ⟨7, _⟩ => ⟨S512x3584, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2x4096x1024 : Shape := ⟨3, ![2, 4096, 1024]⟩
abbrev S2x6144 : Shape := ⟨2, ![2, 6144]⟩
abbrev S1024 : Shape := ⟨1, ![1024]⟩
abbrev S1024x3552 : Shape := ⟨2, ![1024, 3552]⟩
abbrev S2x1x6144 : Shape := ⟨3, ![2, 1, 6144]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x3552 : Shape := ⟨3, ![2, 4096, 3552]⟩
abbrev S8192x3552 : Shape := ⟨2, ![8192, 3552]⟩
abbrev S8192x32 : Shape := ⟨2, ![8192, 32]⟩
abbrev S8192x16x2 : Shape := ⟨3, ![8192, 16, 2]⟩
abbrev S8192x16x1 : Shape := ⟨3, ![8192, 16, 1]⟩
abbrev S8192x16 : Shape := ⟨2, ![8192, 16]⟩
abbrev S8192x384 : Shape := ⟨2, ![8192, 384]⟩
abbrev S8192x768 : Shape := ⟨2, ![8192, 768]⟩
abbrev S8192x2304 : Shape := ⟨2, ![8192, 2304]⟩
abbrev S8192x3584 : Shape := ⟨2, ![8192, 3584]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1024, .f32⟩
  | .hbm, ⟨3, _⟩ => ⟨S1024x3552, .f32⟩
  | .hbm, ⟨4, _⟩ => ⟨S2x1x6144, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x3552, .f32⟩
  | .hbm, ⟨35, _⟩ => ⟨S8192x3552, .f32⟩
  | .hbm, ⟨36, _⟩ => ⟨S8192x32, .f32⟩
  | .hbm, ⟨37, _⟩ => ⟨S8192x16x2, .f32⟩
  | .hbm, ⟨38, _⟩ => ⟨S8192x16x1, .f32⟩
  | .hbm, ⟨39, _⟩ => ⟨S8192x16, .f32⟩
  | .hbm, ⟨40, _⟩ => ⟨S8192x16, .f32⟩
  | .hbm, ⟨41, _⟩ => ⟨S8192x16x1, .f32⟩
  | .hbm, ⟨42, _⟩ => ⟨S8192x16, .f32⟩
  | .hbm, ⟨43, _⟩ => ⟨S8192x16x1, .f32⟩
  | .hbm, ⟨44, _⟩ => ⟨S8192x16x1, .f32⟩
  | .hbm, ⟨45, _⟩ => ⟨S8192x16x2, .f32⟩
  | .hbm, ⟨46, _⟩ => ⟨S8192x32, .f32⟩
  | .hbm, ⟨47, _⟩ => ⟨S8192x384, .f32⟩
  | .hbm, ⟨48, _⟩ => ⟨S8192x768, .f32⟩
  | .hbm, ⟨49, _⟩ => ⟨S8192x2304, .f32⟩
  | .hbm, ⟨50, _⟩ => ⟨S8192x32, .f32⟩
  | .hbm, ⟨51, _⟩ => ⟨S8192x32, .f32⟩
  | .hbm, ⟨52, _⟩ => ⟨S8192x3584, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Kernel3.lean ====
abbrev S16x1024 : Shape := ⟨2, ![16, 1024]⟩
abbrev S8192x1024 : Shape := ⟨2, ![8192, 1024]⟩
abbrev S8192x16 : Shape := ⟨2, ![8192, 16]⟩
abbrev S2x16x1024x1024 : Shape := ⟨4, ![2, 16, 1024, 1024]⟩
abbrev S_ : Shape := ⟨0, ![]⟩
abbrev S8192x112 : Shape := ⟨2, ![8192, 112]⟩
abbrev S8192x1152 : Shape := ⟨2, ![8192, 1152]⟩
abbrev S16x1024x1 : Shape := ⟨3, ![16, 1024, 1]⟩
abbrev S16x1024x1152 : Shape := ⟨3, ![16, 1024, 1152]⟩
abbrev S16x1024x1024 : Shape := ⟨3, ![16, 1024, 1024]⟩
abbrev S1x1024x1152 : Shape := ⟨3, ![1, 1024, 1152]⟩
abbrev S1x1x1024x1024 : Shape := ⟨4, ![1, 1, 1024, 1024]⟩
abbrev S1x1024x1024 : Shape := ⟨3, ![1, 1024, 1024]⟩
abbrev S1024x1024 : Shape := ⟨2, ![1024, 1024]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S1x1x1024x512 : Shape := ⟨4, ![1, 1, 1024, 512]⟩
abbrev S1024x512 : Shape := ⟨2, ![1024, 512]⟩
abbrev S1x1x512x1024 : Shape := ⟨4, ![1, 1, 512, 1024]⟩
abbrev S512x1024 : Shape := ⟨2, ![512, 1024]⟩

abbrev nBuf : Space → Nat
  | .hbm => 19
  | .vmem => 11
  | .smem => 0
  | _ => 0

abbrev bufTy : (tb : Table) → Fin (tcTables nBuf tb) → BufTy
  | .hbm, ⟨0, _⟩ => ⟨S16x1024, .i32⟩
  | .hbm, ⟨1, _⟩ => ⟨S8192x1024, .f32⟩
  | .hbm, ⟨2, _⟩ => ⟨S8192x16, .f32⟩
  | .hbm, ⟨3, _⟩ => ⟨S2x16x1024x1024, .f32⟩
  | .hbm, ⟨4, _⟩ => ⟨S2x16x1024x1024, .f32⟩
  | .hbm, ⟨5, _⟩ => ⟨S2x16x1024x1024, .f32⟩
  | .hbm, ⟨6, _⟩ => ⟨S_, .f32⟩
  | .hbm, ⟨7, _⟩ => ⟨S8192x112, .f32⟩
  | .hbm, ⟨8, _⟩ => ⟨S8192x1152, .f32⟩
  | .hbm, ⟨9, _⟩ => ⟨S_, .i32⟩
  | .hbm, ⟨10, _⟩ => ⟨S16x1024, .i32⟩
  | .hbm, ⟨11, _⟩ => ⟨S16x1024, .i1⟩
  | .hbm, ⟨12, _⟩ => ⟨S_, .i32⟩
  | .hbm, ⟨13, _⟩ => ⟨S16x1024, .i32⟩
  | .hbm, ⟨14, _⟩ => ⟨S16x1024, .i32⟩
  | .hbm, ⟨15, _⟩ => ⟨S16x1024, .i32⟩
  | .hbm, ⟨16, _⟩ => ⟨S16x1024x1, .i32⟩
  | .hbm, ⟨17, _⟩ => ⟨S16x1024x1152, .f32⟩
  | .hbm, ⟨18, _⟩ => ⟨S16x1024x1024, .f32⟩
  | .local _ .vmem, ⟨0, _⟩ => ⟨S1x1024x1152, .f32⟩
  | .local _ .vmem, ⟨1, _⟩ => ⟨S1x1024x1152, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .bf16⟩
  | _, _ => ⟨S16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16x1024 : Shape := ⟨2, ![16, 1024]⟩
abbrev S8192x1024 : Shape := ⟨2, ![8192, 1024]⟩
abbrev S8192x16 : Shape := ⟨2, ![8192, 16]⟩
abbrev S2x16x1024x1024 : Shape := ⟨4, ![2, 16, 1024, 1024]⟩
abbrev S16 : Shape := ⟨1, ![16]⟩
abbrev S16x1 : Shape := ⟨2, ![16, 1]⟩
abbrev S_ : Shape := ⟨0, ![]⟩
abbrev S16x1024x1 : Shape := ⟨3, ![16, 1024, 1]⟩
abbrev S16x1024x2 : Shape := ⟨3, ![16, 1024, 2]⟩
abbrev S16x1024x1024 : Shape := ⟨3, ![16, 1024, 1024]⟩
abbrev S1x16x1024x1024 : Shape := ⟨4, ![1, 16, 1024, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16x1024, .i32⟩
  | .hbm, ⟨1, _⟩ => ⟨S8192x1024, .f32⟩
  | .hbm, ⟨2, _⟩ => ⟨S8192x16, .f32⟩
  | .hbm, ⟨3, _⟩ => ⟨S2x16x1024x1024, .f32⟩
  | .hbm, ⟨4, _⟩ => ⟨S2x16x1024x1024, .f32⟩
  | .hbm, ⟨5, _⟩ => ⟨S2x16x1024x1024, .f32⟩
  | .hbm, ⟨6, _⟩ => ⟨S16, .i32⟩
  | .hbm, ⟨7, _⟩ => ⟨S16x1, .i32⟩
  | .hbm, ⟨8, _⟩ => ⟨S_, .i32⟩
  | .hbm, ⟨9, _⟩ => ⟨S16x1024, .i32⟩
  | .hbm, ⟨10, _⟩ => ⟨S16x1024, .i1⟩
  | .hbm, ⟨11, _⟩ => ⟨S_, .i32⟩
  | .hbm, ⟨12, _⟩ => ⟨S16x1024, .i32⟩
  | .hbm, ⟨13, _⟩ => ⟨S16x1024, .i32⟩
  | .hbm, ⟨14, _⟩ => ⟨S16x1024, .i32⟩
  | .hbm, ⟨15, _⟩ => ⟨S_, .i32⟩
  | .hbm, ⟨16, _⟩ => ⟨S16x1, .i32⟩
  | .hbm, ⟨17, _⟩ => ⟨S16x1, .i1⟩
  | .hbm, ⟨18, _⟩ => ⟨S_, .i32⟩
  | .hbm, ⟨19, _⟩ => ⟨S16x1, .i32⟩
  | .hbm, ⟨20, _⟩ => ⟨S16x1, .i32⟩
  | .hbm, ⟨21, _⟩ => ⟨S16x1, .i32⟩
  | .hbm, ⟨22, _⟩ => ⟨S16x1024, .i32⟩
  | .hbm, ⟨23, _⟩ => ⟨S16x1024x1, .i32⟩
  | .hbm, ⟨24, _⟩ => ⟨S16x1024x1, .i32⟩
  | .hbm, ⟨25, _⟩ => ⟨S16x1024x2, .i32⟩
  | .hbm, ⟨26, _⟩ => ⟨S16x1024, .f32⟩
  | .hbm, ⟨27, _⟩ => ⟨S_, .i32⟩
  | .hbm, ⟨28, _⟩ => ⟨S16x1024, .i32⟩
  | .hbm, ⟨29, _⟩ => ⟨S16x1024, .i1⟩
  | .hbm, ⟨30, _⟩ => ⟨S_, .i32⟩
  | .hbm, ⟨31, _⟩ => ⟨S16x1024, .i32⟩
  | .hbm, ⟨32, _⟩ => ⟨S16x1024, .i32⟩
  | .hbm, ⟨33, _⟩ => ⟨S16x1024, .i32⟩
  | .hbm, ⟨34, _⟩ => ⟨S16x1024x1, .i32⟩
  | .hbm, ⟨35, _⟩ => ⟨S16x1024x1024, .f32⟩
  | .hbm, ⟨36, _⟩ => ⟨S1x16x1024x1024, .f32⟩
  | .hbm, ⟨37, _⟩ => ⟨S16x1024x1024, .f32⟩
  | .hbm, ⟨38, _⟩ => ⟨S16x1024x1024, .f32⟩
  | .hbm, ⟨39, _⟩ => ⟨S16x1024x1024, .f32⟩
  | .hbm, ⟨40, _⟩ => ⟨S16x1024x1024, .f32⟩
  | .hbm, ⟨41, _⟩ => ⟨S_, .f32⟩
  | .hbm, ⟨42, _⟩ => ⟨S16x1024x1024, .f32⟩
  | .hbm, ⟨43, _⟩ => ⟨S16x1024x1024, .f32⟩
  | .hbm, ⟨44, _⟩ => ⟨S_, .f32⟩
  | .hbm, ⟨45, _⟩ => ⟨S16x1024x1024, .f32⟩
  | .hbm, ⟨46, _⟩ => ⟨S16x1024x1024, .f32⟩
  | .hbm, ⟨47, _⟩ => ⟨S16x1024x1024, .f32⟩
  | .hbm, ⟨48, _⟩ => ⟨S1x16x1024x1024, .f32⟩
  | .hbm, ⟨49, _⟩ => ⟨S16x1024x1024, .f32⟩
  | .hbm, ⟨50, _⟩ => ⟨S16x1024x1024, .f32⟩
  | .hbm, ⟨51, _⟩ => ⟨S16x1024x1024, .f32⟩
  | .hbm, ⟨52, _⟩ => ⟨S1x16x1024x1024, .f32⟩
  | .hbm, ⟨53, _⟩ => ⟨S16x1024x1024, .f32⟩
  | .hbm, ⟨54, _⟩ => ⟨S16x1024x1024, .f32⟩
  | .hbm, ⟨55, _⟩ => ⟨S16x1024x1, .f32⟩
  | .hbm, ⟨56, _⟩ => ⟨S16x1024x1024, .f32⟩
  | .hbm, ⟨57, _⟩ => ⟨S16x1024x1024, .f32⟩
  | _, _ => ⟨S16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel4.lean ====
abbrev S32x256x3552 : Shape := ⟨3, ![32, 256, 3552]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8x128 : Shape := ⟨2, ![8, 128]⟩
abbrev S32x256x256 : Shape := ⟨3, ![32, 256, 256]⟩
abbrev S32x256x128 : Shape := ⟨3, ![32, 256, 128]⟩
abbrev S32x256x32 : Shape := ⟨3, ![32, 256, 32]⟩
abbrev S32x256x512 : Shape := ⟨3, ![32, 256, 512]⟩
abbrev S32x256x16 : Shape := ⟨3, ![32, 256, 16]⟩
abbrev S32x256x16x2 : Shape := ⟨4, ![32, 256, 16, 2]⟩
abbrev S32x256x16x1 : Shape := ⟨4, ![32, 256, 16, 1]⟩
abbrev S32x256x3584 : Shape := ⟨3, ![32, 256, 3584]⟩
abbrev S8192x3584 : Shape := ⟨2, ![8192, 3584]⟩
abbrev S256x4x96 : Shape := ⟨3, ![256, 4, 96]⟩
abbrev S256x4x32 : Shape := ⟨3, ![256, 4, 32]⟩
abbrev S256x4x16x2 : Shape := ⟨4, ![256, 4, 16, 2]⟩
abbrev S256x4x16x1 : Shape := ⟨4, ![256, 4, 16, 1]⟩
abbrev S256x4x16 : Shape := ⟨3, ![256, 4, 16]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S256x128 : Shape := ⟨2, ![256, 128]⟩
abbrev S1x128 : Shape := ⟨2, ![1, 128]⟩
abbrev S1x256 : Shape := ⟨2, ![1, 256]⟩
abbrev S8192x512 : Shape := ⟨2, ![8192, 512]⟩
abbrev S256x8192 : Shape := ⟨2, ![256, 8192]⟩
abbrev S8192x128 : Shape := ⟨2, ![8192, 128]⟩
abbrev S8192x32 : Shape := ⟨2, ![8192, 32]⟩
abbrev S256x256 : Shape := ⟨2, ![256, 256]⟩
abbrev S256x32 : Shape := ⟨2, ![256, 32]⟩
abbrev S256x1 : Shape := ⟨2, ![256, 1]⟩
abbrev S256x64 : Shape := ⟨2, ![256, 64]⟩

abbrev nBuf : Space → Nat
  | .hbm => 70
  | .vmem => 24
  | .smem => 0
  | _ => 0

abbrev bufTy : (tb : Table) → Fin (tcTables nBuf tb) → BufTy
  | .hbm, ⟨0, _⟩ => ⟨S32x256x3552, .f32⟩
  | .hbm, ⟨1, _⟩ => ⟨S256, .f32⟩
  | .hbm, ⟨2, _⟩ => ⟨S256x384, .f32⟩
  | .hbm, ⟨3, _⟩ => ⟨S128, .f32⟩
  | .hbm, ⟨4, _⟩ => ⟨S128x512, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S32x256x256, .f32⟩
  | .hbm, ⟨9, _⟩ => ⟨S32x256x128, .f32⟩
  | .hbm, ⟨10, _⟩ => ⟨S32x256x32, .f32⟩
  | .hbm, ⟨11, _⟩ => ⟨S32x256x256, .f32⟩
  | .hbm, ⟨12, _⟩ => ⟨S32x256x256, .f32⟩
  | .hbm, ⟨13, _⟩ => ⟨S32x256x256, .f32⟩
  | .hbm, ⟨14, _⟩ => ⟨S32x256x32, .f32⟩
  | .hbm, ⟨15, _⟩ => ⟨S32x256x256, .f32⟩
  | .hbm, ⟨16, _⟩ => ⟨S32x256x512, .f32⟩
  | .hbm, ⟨17, _⟩ => ⟨S32x256x512, .f32⟩
  | .hbm, ⟨18, _⟩ => ⟨S32x256x512, .f32⟩
  | .hbm, ⟨19, _⟩ => ⟨S32x256x512, .f32⟩
  | .hbm, ⟨20, _⟩ => ⟨S32x256x16, .f32⟩
  | .hbm, ⟨21, _⟩ => ⟨S32x256x16, .f32⟩
  | .hbm, ⟨22, _⟩ => ⟨S32x256x16x2, .f32⟩
  | .hbm, ⟨23, _⟩ => ⟨S32x256x16x1, .f32⟩
  | .hbm, ⟨24, _⟩ => ⟨S32x256x16, .f32⟩
  | .hbm, ⟨25, _⟩ => ⟨S32x256x16, .f32⟩
  | .hbm, ⟨26, _⟩ => ⟨S32x256x16x1, .f32⟩
  | .hbm, ⟨27, _⟩ => ⟨S32x256x16, .f32⟩
  | .hbm, ⟨28, _⟩ => ⟨S32x256x16x1, .f32⟩
  | .hbm, ⟨29, _⟩ => ⟨S32x256x16x1, .f32⟩
  | .hbm, ⟨30, _⟩ => ⟨S32x256x16x2, .f32⟩
  | .hbm, ⟨31, _⟩ => ⟨S32x256x32, .f32⟩
  | .hbm, ⟨32, _⟩ => ⟨S32x256x3584, .f32⟩
  | .hbm, ⟨33, _⟩ => ⟨S8192x3584, .f32⟩
  | .hbm, ⟨34, _⟩ => ⟨S256x4x96, .f32⟩
  | .hbm, ⟨35, _⟩ => ⟨S256x4x32, .f32⟩
  | .hbm, ⟨36, _⟩ => ⟨S256x4x16x2, .f32⟩
  | .hbm, ⟨37, _⟩ => ⟨S256x4x16x1, .f32⟩
  | .hbm, ⟨38, _⟩ => ⟨S256x4x16, .f32⟩
  | .hbm, ⟨39, _⟩ => ⟨S256x4x16, .f32⟩
  | .hbm, ⟨40, _⟩ => ⟨S256x4x16x1, .f32⟩
  | .hbm, ⟨41, _⟩ => ⟨S256x4x16, .f32⟩
  | .hbm, ⟨42, _⟩ => ⟨S256x4x16x1, .f32⟩
  | .hbm, ⟨43, _⟩ => ⟨S256x4x16x1, .f32⟩
  | .hbm, ⟨44, _⟩ => ⟨S256x4x16x2, .f32⟩
  | .hbm, ⟨45, _⟩ => ⟨S256x4x32, .f32⟩
  | .hbm, ⟨46, _⟩ => ⟨S256x4x128, .f32⟩
  | .hbm, ⟨47, _⟩ => ⟨S256x512, .f32⟩
  | .hbm, ⟨48, _⟩ => ⟨S256x512, .bf16⟩
  | .hbm, ⟨49, _⟩ => ⟨S128x4x128, .f32⟩
  | .hbm, ⟨50, _⟩ => ⟨S128x4x64, .f32⟩
  | .hbm, ⟨51, _⟩ => ⟨S128x256, .f32⟩
  | .hbm, ⟨52, _⟩ => ⟨S128x256, .bf16⟩
  | .hbm, ⟨53, _⟩ => ⟨S128x4x64, .f32⟩
  | .hbm, ⟨54, _⟩ => ⟨S128x256, .f32⟩
  | .hbm, ⟨55, _⟩ => ⟨S256x128, .f32⟩
  | .hbm, ⟨56, _⟩ => ⟨S256x128, .bf16⟩
  | .hbm, ⟨57, _⟩ => ⟨S1x128, .f32⟩
  | .hbm, ⟨58, _⟩ => ⟨S256x128, .f32⟩
  | .hbm, ⟨59, _⟩ => ⟨S1x128, .f32⟩
  | .hbm, ⟨60, _⟩ => ⟨S256x128, .f32⟩
  | .hbm, ⟨61, _⟩ => ⟨S1x128, .f32⟩
  | .hbm, ⟨62, _⟩ => ⟨S256x128, .f32⟩
  | .hbm, ⟨63, _⟩ => ⟨S1x256, .f32⟩
  | .hbm, ⟨64, _⟩ => ⟨S1x128, .f32⟩
  | .hbm, ⟨65, _⟩ => ⟨S8192x512, .bf16⟩
  | .hbm, ⟨66, _⟩ => ⟨S8192x512, .bf16⟩
  | .hbm, ⟨67, _⟩ => ⟨S256x8192, .bf16⟩
  | .hbm, ⟨68, _⟩ => ⟨S8192x128, .f32⟩
  | .hbm, ⟨69, _⟩ => ⟨S8192x32, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x256, .f32⟩
  | .local _ .vmem, ⟨10, _⟩ => ⟨S256x512, .bf16⟩
  | .local _ .vmem, ⟨11, _⟩ => ⟨S1x128, .f32⟩
  | .local _ .vmem, ⟨12, _⟩ => ⟨S128x256, .bf16⟩
  | .local _ .vmem, ⟨13, _⟩ => ⟨S256x128, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x256, .bf16⟩
  | .local _ .vmem, ⟨19, _⟩ => ⟨S256x256, .bf16⟩
  | .local _ .vmem, ⟨20, _⟩ => ⟨S256x128, .f32⟩
  | .local _ .vmem, ⟨21, _⟩ => ⟨S256x128, .f32⟩
  | .local _ .vmem, ⟨22, _⟩ => ⟨S256x32, .f32⟩
  | .local _ .vmem, ⟨23, _⟩ => ⟨S256x32, .f32⟩
  | _, _ => ⟨S32x256x3552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57_0 : Ref sig .tc := ⟨.hbm, 65, rfl⟩
abbrev main_v57_1 : Ref sig .tc := ⟨.hbm, 66, rfl⟩
abbrev main_v57_2 : Ref sig .tc := ⟨.hbm, 67, rfl⟩
abbrev main_v57_3 : Ref sig .tc := ⟨.hbm, 68, rfl⟩
abbrev main_v57_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c27_i32 : BitVec 32 := 27#32
  let c0_i32 : BitVec 32 := 0#32
  ![arg0.toNat, c27_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S32x256x3552 : Shape := ⟨3, ![32, 256, 3552]⟩
abbrev S256 : Shape := ⟨1, ![256]⟩
abbrev S256x384 : Shape := ⟨2, ![256, 384]⟩
abbrev S128 : Shape := ⟨1, ![128]⟩
abbrev S128x512 : Shape := ⟨2, ![128, 512]⟩
abbrev S32x256x256 : Shape := ⟨3, ![32, 256, 256]⟩
abbrev S32x256x128 : Shape := ⟨3, ![32, 256, 128]⟩
abbrev S32x256x32 : Shape := ⟨3, ![32, 256, 32]⟩
abbrev S_ : Shape := ⟨0, ![]⟩
abbrev S32x256 : Shape := ⟨2, ![32, 256]⟩
abbrev S32x256x1 : Shape := ⟨3, ![32, 256, 1]⟩
abbrev S1x1x256 : Shape := ⟨3, ![1, 1, 256]⟩
abbrev S32x256x384 : Shape := ⟨3, ![32, 256, 384]⟩
abbrev S32x256x4x96 : Shape := ⟨4, ![32, 256, 4, 96]⟩
abbrev S1x1x128 : Shape := ⟨3, ![1, 1, 128]⟩
abbrev S32x256x512 : Shape := ⟨3, ![32, 256, 512]⟩
abbrev S32x256x4x128 : Shape := ⟨4, ![32, 256, 4, 128]⟩
abbrev S32x256x4x64 : Shape := ⟨4, ![32, 256, 4, 64]⟩
abbrev S32x256x1x32 : Shape := ⟨4, ![32, 256, 1, 32]⟩
abbrev S32x256x4x32 : Shape := ⟨4, ![32, 256, 4, 32]⟩
abbrev S8192x512 : Shape := ⟨2, ![8192, 512]⟩
abbrev S8192x256 : Shape := ⟨2, ![8192, 256]⟩
abbrev S256x8192 : Shape := ⟨2, ![256, 8192]⟩
abbrev S8192x128 : Shape := ⟨2, ![8192, 128]⟩
abbrev S8192x32 : Shape := ⟨2, ![8192, 32]⟩

abbrev nBuf : Space → Nat
  | .hbm => 65
  | .vmem => 0
  | .smem => 0
  | _ => 0

abbrev bufTy : (tb : Table) → Fin (tcTables nBuf tb) → BufTy
  | .hbm, ⟨0, _⟩ => ⟨S32x256x3552, .f32⟩
  | .hbm, ⟨1, _⟩ => ⟨S256, .f32⟩
  | .hbm, ⟨2, _⟩ => ⟨S256x384, .f32⟩
  | .hbm, ⟨3, _⟩ => ⟨S128, .f32⟩
  | .hbm, ⟨4, _⟩ => ⟨S128x512, .f32⟩
  | .hbm, ⟨5, _⟩ => ⟨S32x256x256, .f32⟩
  | .hbm, ⟨6, _⟩ => ⟨S32x256x128, .f32⟩
  | .hbm, ⟨7, _⟩ => ⟨S32x256x32, .f32⟩
  | .hbm, ⟨8, _⟩ => ⟨S32x256x256, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x256, .f32⟩
  | .hbm, ⟨20, _⟩ => ⟨S32x256x256, .f32⟩
  | .hbm, ⟨21, _⟩ => ⟨S1x1x256, .f32⟩
  | .hbm, ⟨22, _⟩ => ⟨S32x256x256, .f32⟩
  | .hbm, ⟨23, _⟩ => ⟨S32x256x256, .f32⟩
  | .hbm, ⟨24, _⟩ => ⟨S32x256x384, .f32⟩
  | .hbm, ⟨25, _⟩ => ⟨S32x256x4x96, .f32⟩
  | .hbm, ⟨26, _⟩ => ⟨S_, .f32⟩
  | .hbm, ⟨27, _⟩ => ⟨S32x256x4x96, .f32⟩
  | .hbm, ⟨28, _⟩ => ⟨S32x256x4x96, .f32⟩
  | .hbm, ⟨29, _⟩ => ⟨S32x256x128, .f32⟩
  | .hbm, ⟨30, _⟩ => ⟨S_, .f32⟩
  | .hbm, ⟨31, _⟩ => ⟨S32x256, .f32⟩
  | .hbm, ⟨32, _⟩ => ⟨S32x256x1, .f32⟩
  | .hbm, ⟨33, _⟩ => ⟨S_, .f32⟩
  | .hbm, ⟨34, _⟩ => ⟨S32x256x1, .f32⟩
  | .hbm, ⟨35, _⟩ => ⟨S32x256x1, .f32⟩
  | .hbm, ⟨36, _⟩ => ⟨S_, .f32⟩
  | .hbm, ⟨37, _⟩ => ⟨S32x256x1, .f32⟩
  | .hbm, ⟨38, _⟩ => ⟨S32x256x1, .f32⟩
  | .hbm, ⟨39, _⟩ => ⟨S32x256x1, .f32⟩
  | .hbm, ⟨40, _⟩ => ⟨S32x256x128, .f32⟩
  | .hbm, ⟨41, _⟩ => ⟨S32x256x128, .f32⟩
  | .hbm, ⟨42, _⟩ => ⟨S1x1x128, .f32⟩
  | .hbm, ⟨43, _⟩ => ⟨S32x256x128, .f32⟩
  | .hbm, ⟨44, _⟩ => ⟨S32x256x128, .f32⟩
  | .hbm, ⟨45, _⟩ => ⟨S32x256x512, .f32⟩
  | .hbm, ⟨46, _⟩ => ⟨S32x256x4x128, .f32⟩
  | .hbm, ⟨47, _⟩ => ⟨S32x256x4x64, .f32⟩
  | .hbm, ⟨48, _⟩ => ⟨S32x256x4x64, .f32⟩
  | .hbm, ⟨49, _⟩ => ⟨S32x256x1x32, .f32⟩
  | .hbm, ⟨50, _⟩ => ⟨S32x256x4x32, .f32⟩
  | .hbm, ⟨51, _⟩ => ⟨S32x256x4x96, .f32⟩
  | .hbm, ⟨52, _⟩ => ⟨S_, .f32⟩
  | .hbm, ⟨53, _⟩ => ⟨S32x256x4x32, .f32⟩
  | .hbm, ⟨54, _⟩ => ⟨S32x256x4x128, .f32⟩
  | .hbm, ⟨55, _⟩ => ⟨S8192x512, .f32⟩
  | .hbm, ⟨56, _⟩ => ⟨S8192x512, .bf16⟩
  | .hbm, ⟨57, _⟩ => ⟨S32x256x4x128, .f32⟩
  | .hbm, ⟨58, _⟩ => ⟨S8192x512, .f32⟩
  | .hbm, ⟨59, _⟩ => ⟨S8192x512, .bf16⟩
  | .hbm, ⟨60, _⟩ => ⟨S8192x256, .f32⟩
  | .hbm, ⟨61, _⟩ => ⟨S256x8192, .f32⟩
  | .hbm, ⟨62, _⟩ => ⟨S256x8192, .bf16⟩
  | .hbm, ⟨63, _⟩ => ⟨S8192x128, .f32⟩
  | .hbm, ⟨64, _⟩ => ⟨S8192x32, .f32⟩
  | _, _ => ⟨S32x256x3552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Kernel5.lean ====
abbrev S32x256x3552 : Shape := ⟨3, ![32, 256, 3552]⟩
abbrev S2x16x256 : Shape := ⟨3, ![2, 16, 256]⟩
abbrev S2x256 : Shape := ⟨2, ![2, 256]⟩
abbrev S64 : Shape := ⟨1, ![64]⟩
abbrev S32x256x256 : Shape := ⟨3, ![32, 256, 256]⟩
abbrev S32x256x128 : Shape := ⟨3, ![32, 256, 128]⟩
abbrev S32x256x32 : Shape := ⟨3, ![32, 256, 32]⟩
abbrev S32x256x512 : Shape := ⟨3, ![32, 256, 512]⟩
abbrev S32x256x16 : Shape := ⟨3, ![32, 256, 16]⟩
abbrev S32x256x16x2 : Shape := ⟨4, ![32, 256, 16, 2]⟩
abbrev S32x256x16x1 : Shape := ⟨4, ![32, 256, 16, 1]⟩
abbrev S32x256x3584 : Shape := ⟨3, ![32, 256, 3584]⟩
abbrev S_ : Shape := ⟨0, ![]⟩
abbrev S2x128x256 : Shape := ⟨3, ![2, 128, 256]⟩
abbrev S2x1x256 : Shape := ⟨3, ![2, 1, 256]⟩
abbrev S1x16x256 : Shape := ⟨3, ![1, 16, 256]⟩
abbrev S16x256 : Shape := ⟨2, ![16, 256]⟩
abbrev S16x128 : Shape := ⟨2, ![16, 128]⟩
abbrev S1 : Shape := ⟨1, ![1]⟩
abbrev S3 : Shape := ⟨1, ![3]⟩
abbrev S1x256 : Shape := ⟨2, ![1, 256]⟩
abbrev S256 : Shape := ⟨1, ![256]⟩
abbrev S128 : Shape := ⟨1, ![128]⟩
abbrev S32x2x4x64x64 : Shape := ⟨5, ![32, 2, 4, 64, 64]⟩
abbrev S1x64 : Shape := ⟨2, ![1, 64]⟩
abbrev S2x64 : Shape := ⟨2, ![2, 64]⟩
abbrev S1x128 : Shape := ⟨2, ![1, 128]⟩
abbrev S32x2x2x2x64x64 : Shape := ⟨6, ![32, 2, 2, 2, 64, 64]⟩
abbrev S64x2x2x64x64 : Shape := ⟨5, ![64, 2, 2, 64, 64]⟩
abbrev S1x256x128 : Shape := ⟨3, ![1, 256, 128]⟩
abbrev S1x128x256 : Shape := ⟨3, ![1, 128, 256]⟩
abbrev S1x1x256 : Shape := ⟨3, ![1, 1, 256]⟩
abbrev S1x2x2x64x64 : Shape := ⟨5, ![1, 2, 2, 64, 64]⟩
abbrev S256x128 : Shape := ⟨2, ![256, 128]⟩
abbrev S2x128x128 : Shape := ⟨3, ![2, 128, 128]⟩
abbrev S64x64 : Shape := ⟨2, ![64, 64]⟩
abbrev S64x128 : Shape := ⟨2, ![64, 128]⟩
abbrev S128x128 : Shape := ⟨2, ![128, 128]⟩
abbrev S1x1x1x64x64 : Shape := ⟨5, ![1, 1, 1, 64, 64]⟩
abbrev S1x128x128 : Shape := ⟨3, ![1, 128, 128]⟩
abbrev S1x64x128 : Shape := ⟨3, ![1, 64, 128]⟩
abbrev S1x1x128 : Shape := ⟨3, ![1, 1, 128]⟩

abbrev nBuf : Space → Nat
  | .hbm => 133
  | .vmem => 24
  | .smem => 0
  | _ => 0

abbrev hbmTy0_0 (i : Nat) : BufTy := match i % 128 with
  | 0 => ⟨S32x256x3552, .f32⟩
  | 1 => ⟨S2x16x256, .f32⟩
  | 2 => ⟨S2x256, .f32⟩
  | 3 => ⟨S64, .f32⟩
  | 4 => ⟨S32x256x256, .f32⟩
  | 5 => ⟨S32x256x128, .f32⟩
  | 6 => ⟨S32x256x32, .f32⟩
  | 7 => ⟨S32x256x256, .f32⟩
  | 8 => ⟨S32x256x256, .f32⟩
  | 9 => ⟨S32x256x256, .f32⟩
  | 10 => ⟨S32x256x32, .f32⟩
  | 11 => ⟨S32x256x256, .f32⟩
  | 12 => ⟨S32x256x512, .f32⟩
  | 13 => ⟨S32x256x512, .f32⟩
  | 14 => ⟨S32x256x512, .f32⟩
  | 15 => ⟨S32x256x512, .f32⟩
  | 16 => ⟨S32x256x16, .f32⟩
  | 17 => ⟨S32x256x16, .f32⟩
  | 18 => ⟨S32x256x16x2, .f32⟩
  | 19 => ⟨S32x256x16x1, .f32⟩
  | 20 => ⟨S32x256x16, .f32⟩
  | 21 => ⟨S32x256x16, .f32⟩
  | 22 => ⟨S32x256x16x1, .f32⟩
  | 23 => ⟨S32x256x16, .f32⟩
  | 24 => ⟨S32x256x16x1, .f32⟩
  | 25 => ⟨S32x256x16x1, .f32⟩
  | 26 => ⟨S32x256x16x2, .f32⟩
  | 27 => ⟨S32x256x32, .f32⟩
  | 28 => ⟨S32x256x3584, .f32⟩
  | 29 => ⟨S_, .f32⟩
  | 30 => ⟨S2x128x256, .f32⟩
  | 31 => ⟨S_, .f32⟩
  | 32 => ⟨S2x1x256, .f32⟩
  | 33 => ⟨S1x16x256, .f32⟩
  | 34 => ⟨S16x256, .f32⟩
  | 35 => ⟨S16x128, .f32⟩
  | 36 => ⟨S_, .i32⟩
  | 37 => ⟨S1, .i32⟩
  | 38 => ⟨S_, .i32⟩
  | 39 => ⟨S1, .i32⟩
  | 40 => ⟨S_, .i32⟩
  | 41 => ⟨S1, .i32⟩
  | 42 => ⟨S3, .i32⟩
  | 43 => ⟨S2x128x256, .f32⟩
  | 44 => ⟨S1x256, .f32⟩
  | 45 => ⟨S256, .f32⟩
  | 46 => ⟨S128, .f32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S3, .i32⟩
  | 54 => ⟨S2x1x256, .f32⟩
  | 55 => ⟨S1x16x256, .f32⟩
  | 56 => ⟨S16x256, .f32⟩
  | 57 => ⟨S16x128, .f32⟩
  | 58 => ⟨S_, .i32⟩
  | 59 => ⟨S1, .i32⟩
  | 60 => ⟨S_, .i32⟩
  | 61 => ⟨S1, .i32⟩
  | 62 => ⟨S_, .i32⟩
  | 63 => ⟨S1, .i32⟩
  | 64 => ⟨S3, .i32⟩
  | 65 => ⟨S2x128x256, .f32⟩
  | 66 => ⟨S1x256, .f32⟩
  | 67 => ⟨S256, .f32⟩
  | 68 => ⟨S128, .f32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S3, .i32⟩
  | 76 => ⟨S2x1x256, .f32⟩
  | 77 => ⟨S1x16x256, .f32⟩
  | 78 => ⟨S16x256, .f32⟩
  | 79 => ⟨S16x128, .f32⟩
  | 80 => ⟨S_, .i32⟩
  | 81 => ⟨S1, .i32⟩
  | 82 => ⟨S_, .i32⟩
  | 83 => ⟨S1, .i32⟩
  | 84 => ⟨S_, .i32⟩
  | 85 => ⟨S1, .i32⟩
  | 86 => ⟨S3, .i32⟩
  | 87 => ⟨S2x128x256, .f32⟩
  | 88 => ⟨S1x256, .f32⟩
  | 89 => ⟨S256, .f32⟩
  | 90 => ⟨S128, .f32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S3, .i32⟩
  | 98 => ⟨S2x1x256, .f32⟩
  | 99 => ⟨S1x16x256, .f32⟩
  | 100 => ⟨S16x256, .f32⟩
  | 101 => ⟨S16x128, .f32⟩
  | 102 => ⟨S_, .i32⟩
  | 103 => ⟨S1, .i32⟩
  | 104 => ⟨S_, .i32⟩
  | 105 => ⟨S1, .i32⟩
  | 106 => ⟨S_, .i32⟩
  | 107 => ⟨S1, .i32⟩
  | 108 => ⟨S3, .i32⟩
  | 109 => ⟨S2x128x256, .f32⟩
  | 110 => ⟨S1x256, .f32⟩
  | 111 => ⟨S256, .f32⟩
  | 112 => ⟨S128, .f32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S3, .i32⟩
  | 120 => ⟨S2x1x256, .f32⟩
  | 121 => ⟨S_, .f32⟩
  | 122 => ⟨S32x2x4x64x64, .f32⟩
  | 123 => ⟨S2x128x256, .bf16⟩
  | 124 => ⟨S1x64, .f32⟩
  | 125 => ⟨S2x64, .f32⟩
  | 126 => ⟨S128, .f32⟩
  | 127 => ⟨S1x128, .f32⟩
  | _ => ⟨S32x256x3552, .f32⟩

abbrev hbmTy0_1 (i : Nat) : BufTy := match i % 128 with
  | 0 => ⟨S32x2x2x2x64x64, .f32⟩
  | 1 => ⟨S32x2x2x2x64x64, .f32⟩
  | 2 => ⟨S64x2x2x64x64, .f32⟩
  | 3 => ⟨S32x256x256, .bf16⟩
  | 4 => ⟨S64x2x2x64x64, .f32⟩
  | _ => ⟨S32x256x3552, .f32⟩

abbrev hbmTy (i : Nat) : BufTy := match i / 128 with
  | 0 => hbmTy0_0 i
  | 1 => hbmTy0_1 i
  | _ => ⟨S32x256x3552, .f32⟩

abbrev bufTy : (tb : Table) → Fin (tcTables nBuf tb) → BufTy
  | .hbm, ⟨i, _⟩ => hbmTy i
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x128x256, .bf16⟩
  | .local _ .vmem, ⟨11, _⟩ => ⟨S1x128x256, .bf16⟩
  | .local _ .vmem, ⟨12, _⟩ => ⟨S1x1x256, .f32⟩
  | .local _ .vmem, ⟨13, _⟩ => ⟨S1x1x256, .f32⟩
  | .local _ .vmem, ⟨14, _⟩ => ⟨S1x128, .f32⟩
  | .local _ .vmem, ⟨15, _⟩ => ⟨S1x2x2x64x64, .f32⟩
  | .local _ .vmem, ⟨16, _⟩ => ⟨S1x2x2x64x64, .f32⟩
  | .local _ .vmem, ⟨17, _⟩ => ⟨S1x256x128, .bf16⟩
  | .local _ .vmem, ⟨18, _⟩ => ⟨S1x256x128, .bf16⟩
  | .local _ .vmem, ⟨19, _⟩ => ⟨S1x2x2x64x64, .f32⟩
  | .local _ .vmem, ⟨20, _⟩ => ⟨S1x2x2x64x64, .f32⟩
  | .local _ .vmem, ⟨21, _⟩ => ⟨S256x128, .f32⟩
  | .local _ .vmem, ⟨22, _⟩ => ⟨S256x128, .f32⟩
  | .local _ .vmem, ⟨23, _⟩ => ⟨S2x128x128, .f32⟩
  | _, _ => ⟨S32x256x3552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_c_1 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_3 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_c_7 : Ref sig .tc := ⟨.hbm, 60, rfl⟩
abbrev main_v47 : Ref sig .tc := ⟨.hbm, 61, rfl⟩
abbrev main_c_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_9 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_12 : Ref sig .tc := ⟨.hbm, 80, rfl⟩
abbrev main_v62 : Ref sig .tc := ⟨.hbm, 81, rfl⟩
abbrev main_c_13 : Ref sig .tc := ⟨.hbm, 82, rfl⟩
abbrev main_v63 : Ref sig .tc := ⟨.hbm, 83, rfl⟩
abbrev main_c_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_15 : Ref sig .tc := ⟨.hbm, 91, rfl⟩
abbrev main_v70 : Ref sig .tc := ⟨.hbm, 92, rfl⟩
abbrev main_c_16 : Ref sig .tc := ⟨.hbm, 93, rfl⟩
abbrev main_v71 : Ref sig .tc := ⟨.hbm, 94, rfl⟩
abbrev main_c_17 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_18 : Ref sig .tc := ⟨.hbm, 102, rfl⟩
abbrev main_v78 : Ref sig .tc := ⟨.hbm, 103, rfl⟩
abbrev main_c_19 : Ref sig .tc := ⟨.hbm, 104, rfl⟩
abbrev main_v79 : Ref sig .tc := ⟨.hbm, 105, rfl⟩
abbrev main_c_20 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_21 : Ref sig .tc := ⟨.hbm, 113, rfl⟩
abbrev main_v86 : Ref sig .tc := ⟨.hbm, 114, rfl⟩
abbrev main_c_22 : Ref sig .tc := ⟨.hbm, 115, rfl⟩
abbrev main_v87 : Ref sig .tc := ⟨.hbm, 116, rfl⟩
abbrev main_c_23 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_24 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100_0 : Ref sig .tc := ⟨.hbm, 131, rfl⟩
abbrev main_v100_1 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 2], ![false, false]⟩

def k0_mult1 : BitVec 32 :=
  let c0_i32_36 : BitVec 32 := 0#32
  let c4_i32 : BitVec 32 := 4#32
  let v87 : BitVec 32 := Scalar.muli c0_i32_36 c4_i32
  let c0_i32_37 : BitVec 32 := 0#32
  let v88 : BitVec 32 := Scalar.addi v87 c0_i32_37
  let c64_i32_38 : BitVec 32 := 64#32
  let v89 : BitVec 32 := Scalar.muli v88 c64_i32_38
  v89
def k0_off1 (c0_i32_37 : BitVec 32) : Fin 3 → Nat :=
  let c0_39 : Index := 0#32
  let c0_i32_36 : BitVec 32 := 0#32
  let c4_i32 : BitVec 32 := 4#32
  let v87 : BitVec 32 := Scalar.muli c0_i32_36 c4_i32
  let v88 : BitVec 32 := Scalar.addi v87 c0_i32_37
  let c64_i32_38 : BitVec 32 := 64#32
  let v89 : BitVec 32 := Scalar.muli v88 c64_i32_38
  let v90 : BitVec 32 := v89
  let v91 : Index := Scalar.indexCast v90
  let c0_40 : Index := 0#32
  ![0, v91.toNat, 0]
def k0_mult2 : BitVec 32 :=
  let c3_i32 : BitVec 32 := 3#32
  let c0_i32_36 : BitVec 32 := 0#32
  let c4_i32_47 : BitVec 32 := 4#32
  let v103 : BitVec 32 := Scalar.muli c0_i32_36 c4_i32_47
  let c0_i32_48 : BitVec 32 := 0#32
  let v104 : BitVec 32 := Scalar.addi v103 c0_i32_48
  let v105 : BitVec 32 := Scalar.subi c3_i32 v104
  let c64_i32_49 : BitVec 32 := 64#32
  let v106 : BitVec 32 := Scalar.muli v105 c64_i32_49
  v106
def k0_off2 (c0_i32_48 : BitVec 32) : Fin 3 → Nat :=
  let c0_50 : Index := 0#32
  let c3_i32 : BitVec 32 := 3#32
  let c0_i32_36 : BitVec 32 := 0#32
  let c4_i32_47 : BitVec 32 := 4#32
  let v103 : BitVec 32 := Scalar.muli c0_i32_36 c4_i32_47
  let v104 : BitVec 32 := Scalar.addi v103 c0_i32_48
  let v105 : BitVec 32 := Scalar.subi c3_i32 v104
  let c64_i32_49 : BitVec 32 := 64#32
  let v106 : BitVec 32 := Scalar.muli v105 c64_i32_49
  let v107 : BitVec 32 := v106
  let v108 : Index := Scalar.indexCast v107
  let c0_51 : Index := 0#32
  ![0, v108.toNat, 0]
def k0_mult3 : BitVec 32 :=
  let c0_i32_36 : BitVec 32 := 0#32
  let c4_i32_58 : BitVec 32 := 4#32
  let v120 : BitVec 32 := Scalar.muli c0_i32_36 c4_i32_58
  let c1_i32_59 : BitVec 32 := 1#32
  let v121 : BitVec 32 := Scalar.addi v120 c1_i32_59
  let c64_i32_60 : BitVec 32 := 64#32
  let v122 : BitVec 32 := Scalar.muli v121 c64_i32_60
  v122
def k0_mult4 : BitVec 32 :=
  let c3_i32_71 : BitVec 32 := 3#32
  let c0_i32_36 : BitVec 32 := 0#32
  let c4_i32_69 : BitVec 32 := 4#32
  let v136 : BitVec 32 := Scalar.muli c0_i32_36 c4_i32_69
  let c1_i32_70 : BitVec 32 := 1#32
  let v137 : BitVec 32 := Scalar.addi v136 c1_i32_70
  let v138 : BitVec 32 := Scalar.subi c3_i32_71 v137
  let c64_i32_72 : BitVec 32 := 64#32
  let v139 : BitVec 32 := Scalar.muli v138 c64_i32_72
  v139
def k0_mult5 : BitVec 32 :=
  let c0_i32_36 : BitVec 32 := 0#32
  let c4_i32_81 : BitVec 32 := 4#32
  let v153 : BitVec 32 := Scalar.muli c0_i32_36 c4_i32_81
  let c2_i32 : BitVec 32 := 2#32
  let v154 : BitVec 32 := Scalar.addi v153 c2_i32
  let c64_i32_82 : BitVec 32 := 64#32
  let v155 : BitVec 32 := Scalar.muli v154 c64_i32_82
  v155
def k0_mult6 : BitVec 32 :=
  let c3_i32_93 : BitVec 32 := 3#32
  let c0_i32_36 : BitVec 32 := 0#32
  let c4_i32_91 : BitVec 32 := 4#32
  let v169 : BitVec 32 := Scalar.muli c0_i32_36 c4_i32_91
  let c2_i32_92 : BitVec 32 := 2#32
  let v170 : BitVec 32 := Scalar.addi v169 c2_i32_92
  let v171 : BitVec 32 := Scalar.subi c3_i32_93 v170
  let c64_i32_94 : BitVec 32 := 64#32
  let v172 : BitVec 32 := Scalar.muli v171 c64_i32_94
  v172
def k0_mult7 : BitVec 32 :=
  let c0_i32_36 : BitVec 32 := 0#32
  let c4_i32_103 : BitVec 32 := 4#32
  let v186 : BitVec 32 := Scalar.muli c0_i32_36 c4_i32_103
  let c3_i32_104 : BitVec 32 := 3#32
  let v187 : BitVec 32 := Scalar.addi v186 c3_i32_104
  let c64_i32_105 : BitVec 32 := 64#32
  let v188 : BitVec 32 := Scalar.muli v187 c64_i32_105
  v188
def k0_mult8 : BitVec 32 :=
  let c3_i32_116 : BitVec 32 := 3#32
  let c0_i32_36 : BitVec 32 := 0#32
  let c4_i32_114 : BitVec 32 := 4#32
  let v202 : BitVec 32 := Scalar.muli c0_i32_36 c4_i32_114
  let c3_i32_115 : BitVec 32 := 3#32
  let v203 : BitVec 32 := Scalar.addi v202 c3_i32_115
  let v204 : BitVec 32 := Scalar.subi c3_i32_116 v203
  let c64_i32_117 : BitVec 32 := 64#32
  let v205 : BitVec 32 := Scalar.muli v204 c64_i32_117
  v205
def k0_off3 (c0_i32_37 : BitVec 32) : Fin 2 → Nat :=
  let c0_i32_36 : BitVec 32 := 0#32
  let c4_i32 : BitVec 32 := 4#32
  let v87 : BitVec 32 := Scalar.muli c0_i32_36 c4_i32
  let v88 : BitVec 32 := Scalar.addi v87 c0_i32_37
  let c64_i32_38 : BitVec 32 := 64#32
  let v89 : BitVec 32 := Scalar.muli v88 c64_i32_38
  let v90 : BitVec 32 := v89
  let v912 : Index := Scalar.indexCast v90
  let c0_371 : Index := 0#32
  ![v912.toNat, 0]
def k0_off4 (c0_i32_48 : BitVec 32) : Fin 2 → Nat :=
  let c3_i32 : BitVec 32 := 3#32
  let c0_i32_36 : BitVec 32 := 0#32
  let c4_i32_47 : BitVec 32 := 4#32
  let v103 : BitVec 32 := Scalar.muli c0_i32_36 c4_i32_47
  let v104 : BitVec 32 := Scalar.addi v103 c0_i32_48
  let v105 : BitVec 32 := Scalar.subi c3_i32 v104
  let c64_i32_49 : BitVec 32 := 64#32
  let v106 : BitVec 32 := Scalar.muli v105 c64_i32_49
  let v107 : BitVec 32 := v106
  let v917 : Index := Scalar.indexCast v107
  let c0_372 : Index := 0#32
  ![v917.toNat, 0]
def k0_mult9 : BitVec 32 :=
  let c0_i32_427 : BitVec 32 := 0#32
  let c256_i32 : BitVec 32 := 256#32
  let v1032 : BitVec 32 := Scalar.muli c0_i32_427 c256_i32
  v1032
def k0_off5 : Fin 2 → Nat :=
  let c0_i32_427 : BitVec 32 := 0#32
  let c256_i32 : BitVec 32 := 256#32
  let v1032 : BitVec 32 := Scalar.muli c0_i32_427 c256_i32
  let v1033 : BitVec 32 := v1032
  let v1034 : Index := Scalar.indexCast v1033
  let c0_428 : Index := 0#32
  ![v1034.toNat, 0]
def k0_off6 : Fin 3 → Nat :=
  let c0_433 : Index := 0#32
  let c0_i32_427 : BitVec 32 := 0#32
  let c256_i32 : BitVec 32 := 256#32
  let v1032 : BitVec 32 := Scalar.muli c0_i32_427 c256_i32
  let v1033 : BitVec 32 := v1032
  let v1050 : Index := Scalar.indexCast v1033
  let c0_434 : Index := 0#32
  ![0, v1050.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c27_i32 : BitVec 32 := 27#32
  let c0_i32_0 : BitVec 32 := 0#32
  ![arg0.toNat, c0_i32.toNat, c27_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2x2x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x2x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S32x256x3552 : Shape := ⟨3, ![32, 256, 3552]⟩
abbrev S2x16x256 : Shape := ⟨3, ![2, 16, 256]⟩
abbrev S2x256 : Shape := ⟨2, ![2, 256]⟩
abbrev S64 : Shape := ⟨1, ![64]⟩
abbrev S32x256x256 : Shape := ⟨3, ![32, 256, 256]⟩
abbrev S32x256x32 : Shape := ⟨3, ![32, 256, 32]⟩
abbrev S32x256x16 : Shape := ⟨3, ![32, 256, 16]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S1x1x256 : Shape := ⟨3, ![1, 1, 256]⟩
abbrev S_ : Shape := ⟨0, ![]⟩
abbrev S32x4x64x4x64 : Shape := ⟨5, ![32, 4, 64, 4, 64]⟩
abbrev S32x4x1x4x64 : Shape := ⟨5, ![32, 4, 1, 4, 64]⟩
abbrev S32x4x4x64 : Shape := ⟨4, ![32, 4, 4, 64]⟩
abbrev S32x4x64x64 : Shape := ⟨4, ![32, 4, 64, 64]⟩
abbrev S32x1x4x64 : Shape := ⟨4, ![32, 1, 4, 64]⟩
abbrev S32x4x64 : Shape := ⟨3, ![32, 4, 64]⟩
abbrev S32x4x64x1 : Shape := ⟨4, ![32, 4, 64, 1]⟩
abbrev S32x1x64x4x64 : Shape := ⟨5, ![32, 1, 64, 4, 64]⟩
abbrev S32x64x4x64 : Shape := ⟨4, ![32, 64, 4, 64]⟩
abbrev S32x1x4x64x64 : Shape := ⟨5, ![32, 1, 4, 64, 64]⟩
abbrev S32x2x4x64x64 : Shape := ⟨5, ![32, 2, 4, 64, 64]⟩
abbrev S32x2x2x2x64x64 : Shape := ⟨6, ![32, 2, 2, 2, 64, 64]⟩
abbrev S64x2x2x64x64 : Shape := ⟨5, ![64, 2, 2, 64, 64]⟩

abbrev nBuf : Space → Nat
  | .hbm => 191
  | .vmem => 0
  | .smem => 0
  | _ => 0

abbrev hbmTy0_0 (i : Nat) : BufTy := match i % 128 with
  | 0 => ⟨S32x256x3552, .f32⟩
  | 1 => ⟨S2x16x256, .f32⟩
  | 2 => ⟨S2x256, .f32⟩
  | 3 => ⟨S64, .f32⟩
  | 4 => ⟨S32x256x256, .f32⟩
  | 5 => ⟨S32x256x256, .f32⟩
  | 6 => ⟨S32x256x32, .f32⟩
  | 7 => ⟨S32x256x16, .f32⟩
  | 8 => ⟨S1x16x256, .f32⟩
  | 9 => ⟨S16x256, .f32⟩
  | 10 => ⟨S32x256x256, .f32⟩
  | 11 => ⟨S1x256, .f32⟩
  | 12 => ⟨S256, .f32⟩
  | 13 => ⟨S1x1x256, .f32⟩
  | 14 => ⟨S32x256x256, .f32⟩
  | 15 => ⟨S32x256x256, .f32⟩
  | 16 => ⟨S32x256x256, .f32⟩
  | 17 => ⟨S_, .f32⟩
  | 18 => ⟨S32x256x256, .f32⟩
  | 19 => ⟨S32x256x256, .f32⟩
  | 20 => ⟨S32x256x256, .f32⟩
  | 21 => ⟨S32x256x256, .f32⟩
  | 22 => ⟨S32x256x256, .i1⟩
  | 23 => ⟨S32x256x256, .f32⟩
  | 24 => ⟨S32x256x256, .f32⟩
  | 25 => ⟨S32x256x256, .f32⟩
  | 26 => ⟨S32x256x256, .f32⟩
  | 27 => ⟨S32x256x256, .f32⟩
  | 28 => ⟨S32x256x256, .f32⟩
  | 29 => ⟨S32x256x256, .f32⟩
  | 30 => ⟨S32x256x256, .f32⟩
  | 31 => ⟨S32x256x256, .f32⟩
  | 32 => ⟨S_, .f32⟩
  | 33 => ⟨S32x256x256, .f32⟩
  | 34 => ⟨S32x256x256, .f32⟩
  | 35 => ⟨S32x4x64x4x64, .f32⟩
  | 36 => ⟨S32x4x64x4x64, .f32⟩
  | 37 => ⟨S32x4x64x4x64, .f32⟩
  | 38 => ⟨S_, .f32⟩
  | 39 => ⟨S_, .f32⟩
  | 40 => ⟨S32x4x64x4x64, .f32⟩
  | 41 => ⟨S32x4x1x4x64, .f32⟩
  | 42 => ⟨S32x4x64x4x64, .f32⟩
  | 43 => ⟨S32x4x64x4x64, .f32⟩
  | 44 => ⟨S32x4x64x4x64, .f32⟩
  | 45 => ⟨S32x4x64x4x64, .f32⟩
  | 46 => ⟨S32x4x4x64, .f32⟩
  | 47 => ⟨S32x4x4x64, .f32⟩
  | 48 => ⟨S_, .f32⟩
  | 49 => ⟨S32x4x64x64, .f32⟩
  | 50 => ⟨S32x1x4x64, .f32⟩
  | 51 => ⟨S32x4x64, .f32⟩
  | 52 => ⟨S32x4x64x1, .f32⟩
  | 53 => ⟨S32x4x64x64, .f32⟩
  | 54 => ⟨S32x4x64x64, .f32⟩
  | 55 => ⟨S32x1x64x4x64, .f32⟩
  | 56 => ⟨S32x64x4x64, .f32⟩
  | 57 => ⟨S32x1x64x4x64, .f32⟩
  | 58 => ⟨S32x64x4x64, .f32⟩
  | 59 => ⟨S32x4x64x64, .f32⟩
  | 60 => ⟨S32x4x64x64, .f32⟩
  | 61 => ⟨S32x1x4x64, .f32⟩
  | 62 => ⟨S32x4x64, .f32⟩
  | 63 => ⟨S32x4x64x1, .f32⟩
  | 64 => ⟨S32x4x64x64, .f32⟩
  | 65 => ⟨S32x4x64x64, .f32⟩
  | 66 => ⟨S32x1x64x4x64, .f32⟩
  | 67 => ⟨S32x64x4x64, .f32⟩
  | 68 => ⟨S32x1x64x4x64, .f32⟩
  | 69 => ⟨S32x64x4x64, .f32⟩
  | 70 => ⟨S32x4x64x64, .f32⟩
  | 71 => ⟨S32x4x64x64, .f32⟩
  | 72 => ⟨S32x1x4x64, .f32⟩
  | 73 => ⟨S32x4x64, .f32⟩
  | 74 => ⟨S32x4x64x1, .f32⟩
  | 75 => ⟨S32x4x64x64, .f32⟩
  | 76 => ⟨S32x4x64x64, .f32⟩
  | 77 => ⟨S32x1x64x4x64, .f32⟩
  | 78 => ⟨S32x64x4x64, .f32⟩
  | 79 => ⟨S32x1x64x4x64, .f32⟩
  | 80 => ⟨S32x64x4x64, .f32⟩
  | 81 => ⟨S32x4x64x64, .f32⟩
  | 82 => ⟨S32x4x64x64, .f32⟩
  | 83 => ⟨S32x1x4x64, .f32⟩
  | 84 => ⟨S32x4x64, .f32⟩
  | 85 => ⟨S32x4x64x1, .f32⟩
  | 86 => ⟨S32x4x64x64, .f32⟩
  | 87 => ⟨S32x4x64x64, .f32⟩
  | 88 => ⟨S32x1x64x4x64, .f32⟩
  | 89 => ⟨S32x64x4x64, .f32⟩
  | 90 => ⟨S32x1x64x4x64, .f32⟩
  | 91 => ⟨S32x64x4x64, .f32⟩
  | 92 => ⟨S32x4x64x64, .f32⟩
  | 93 => ⟨S32x4x64x64, .f32⟩
  | 94 => ⟨S32x256x16, .f32⟩
  | 95 => ⟨S1x16x256, .f32⟩
  | 96 => ⟨S16x256, .f32⟩
  | 97 => ⟨S32x256x256, .f32⟩
  | 98 => ⟨S1x256, .f32⟩
  | 99 => ⟨S256, .f32⟩
  | 100 => ⟨S1x1x256, .f32⟩
  | 101 => ⟨S32x256x256, .f32⟩
  | 102 => ⟨S32x256x256, .f32⟩
  | 103 => ⟨S32x256x256, .f32⟩
  | 104 => ⟨S_, .f32⟩
  | 105 => ⟨S32x256x256, .f32⟩
  | 106 => ⟨S32x256x256, .f32⟩
  | 107 => ⟨S32x256x256, .f32⟩
  | 108 => ⟨S32x256x256, .f32⟩
  | 109 => ⟨S32x256x256, .i1⟩
  | 110 => ⟨S32x256x256, .f32⟩
  | 111 => ⟨S32x256x256, .f32⟩
  | 112 => ⟨S32x256x256, .f32⟩
  | 113 => ⟨S32x256x256, .f32⟩
  | 114 => ⟨S32x256x256, .f32⟩
  | 115 => ⟨S32x256x256, .f32⟩
  | 116 => ⟨S32x256x256, .f32⟩
  | 117 => ⟨S32x256x256, .f32⟩
  | 118 => ⟨S32x256x256, .f32⟩
  | 119 => ⟨S_, .f32⟩
  | 120 => ⟨S32x256x256, .f32⟩
  | 121 => ⟨S32x256x256, .f32⟩
  | 122 => ⟨S32x256x256, .f32⟩
  | 123 => ⟨S32x256x256, .f32⟩
  | 124 => ⟨S32x256x256, .f32⟩
  | 125 => ⟨S32x4x64x4x64, .f32⟩
  | 126 => ⟨S32x4x64x4x64, .f32⟩
  | 127 => ⟨S32x4x64x4x64, .f32⟩
  | _ => ⟨S32x256x3552, .f32⟩

abbrev hbmTy0_1 (i : Nat) : BufTy := match i % 128 with
  | 0 => ⟨S_, .f32⟩
  | 1 => ⟨S_, .f32⟩
  | 2 => ⟨S32x4x64x4x64, .f32⟩
  | 3 => ⟨S32x4x1x4x64, .f32⟩
  | 4 => ⟨S32x4x64x4x64, .f32⟩
  | 5 => ⟨S32x4x64x4x64, .f32⟩
  | 6 => ⟨S32x4x64x4x64, .f32⟩
  | 7 => ⟨S32x4x64x4x64, .f32⟩
  | 8 => ⟨S32x4x4x64, .f32⟩
  | 9 => ⟨S32x4x4x64, .f32⟩
  | 10 => ⟨S_, .f32⟩
  | 11 => ⟨S32x4x64x64, .f32⟩
  | 12 => ⟨S32x1x4x64, .f32⟩
  | 13 => ⟨S32x4x64, .f32⟩
  | 14 => ⟨S32x4x64x1, .f32⟩
  | 15 => ⟨S32x4x64x64, .f32⟩
  | 16 => ⟨S32x4x64x64, .f32⟩
  | 17 => ⟨S32x1x64x4x64, .f32⟩
  | 18 => ⟨S32x64x4x64, .f32⟩
  | 19 => ⟨S32x1x64x4x64, .f32⟩
  | 20 => ⟨S32x64x4x64, .f32⟩
  | 21 => ⟨S32x4x64x64, .f32⟩
  | 22 => ⟨S32x4x64x64, .f32⟩
  | 23 => ⟨S32x1x4x64, .f32⟩
  | 24 => ⟨S32x4x64, .f32⟩
  | 25 => ⟨S32x4x64x1, .f32⟩
  | 26 => ⟨S32x4x64x64, .f32⟩
  | 27 => ⟨S32x4x64x64, .f32⟩
  | 28 => ⟨S32x1x64x4x64, .f32⟩
  | 29 => ⟨S32x64x4x64, .f32⟩
  | 30 => ⟨S32x1x64x4x64, .f32⟩
  | 31 => ⟨S32x64x4x64, .f32⟩
  | 32 => ⟨S32x4x64x64, .f32⟩
  | 33 => ⟨S32x4x64x64, .f32⟩
  | 34 => ⟨S32x1x4x64, .f32⟩
  | 35 => ⟨S32x4x64, .f32⟩
  | 36 => ⟨S32x4x64x1, .f32⟩
  | 37 => ⟨S32x4x64x64, .f32⟩
  | 38 => ⟨S32x4x64x64, .f32⟩
  | 39 => ⟨S32x1x64x4x64, .f32⟩
  | 40 => ⟨S32x64x4x64, .f32⟩
  | 41 => ⟨S32x1x64x4x64, .f32⟩
  | 42 => ⟨S32x64x4x64, .f32⟩
  | 43 => ⟨S32x4x64x64, .f32⟩
  | 44 => ⟨S32x4x64x64, .f32⟩
  | 45 => ⟨S32x1x4x64, .f32⟩
  | 46 => ⟨S32x4x64, .f32⟩
  | 47 => ⟨S32x4x64x1, .f32⟩
  | 48 => ⟨S32x4x64x64, .f32⟩
  | 49 => ⟨S32x4x64x64, .f32⟩
  | 50 => ⟨S32x1x64x4x64, .f32⟩
  | 51 => ⟨S32x64x4x64, .f32⟩
  | 52 => ⟨S32x1x64x4x64, .f32⟩
  | 53 => ⟨S32x64x4x64, .f32⟩
  | 54 => ⟨S32x4x64x64, .f32⟩
  | 55 => ⟨S32x4x64x64, .f32⟩
  | 56 => ⟨S32x1x4x64x64, .f32⟩
  | 57 => ⟨S32x1x4x64x64, .f32⟩
  | 58 => ⟨S32x2x4x64x64, .f32⟩
  | 59 => ⟨S32x2x2x2x64x64, .f32⟩
  | 60 => ⟨S32x2x2x2x64x64, .f32⟩
  | 61 => ⟨S32x2x2x2x64x64, .f32⟩
  | 62 => ⟨S64x2x2x64x64, .f32⟩
  | _ => ⟨S32x256x3552, .f32⟩

abbrev hbmTy (i : Nat) : BufTy := match i / 128 with
  | 0 => hbmTy0_0 i
  | 1 => hbmTy0_1 i
  | _ => ⟨S32x256x3552, .f32⟩

abbrev bufTy : (tb : Table) → Fin (tcTables nBuf tb) → BufTy
  | .hbm, ⟨i, _⟩ => hbmTy i
  | _, _ => ⟨S32x256x3552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_call0_cst : Ref sig .tc := ⟨.hbm, 38, rfl⟩
abbrev main_call1_call0_v0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_call2_v0 : Ref sig .tc := ⟨.hbm, 103, rfl⟩
abbrev main_call2_call0_cst : Ref sig .tc := ⟨.hbm, 104, rfl⟩
abbrev main_call2_call0_v0 : Ref sig .tc := ⟨.hbm, 105, rfl⟩
abbrev main_call2_call0_v1 : Ref sig .tc := ⟨.hbm, 106, rfl⟩
abbrev main_call2_call0_v2 : Ref sig .tc := ⟨.hbm, 107, rfl⟩
abbrev main_call2_call0_v3 : Ref sig .tc := ⟨.hbm, 108, rfl⟩
abbrev main_call2_call0_v4 : Ref sig .tc := ⟨.hbm, 109, rfl⟩
abbrev main_call2_call0_v5 : Ref sig .tc := ⟨.hbm, 110, rfl⟩
abbrev main_call2_call0_v6 : Ref sig .tc := ⟨.hbm, 111, rfl⟩
abbrev main_call2_call0_v7 : Ref sig .tc := ⟨.hbm, 112, rfl⟩
abbrev main_call2_call0_v8 : Ref sig .tc := ⟨.hbm, 113, rfl⟩
abbrev main_call2_call0_v9 : Ref sig .tc := ⟨.hbm, 114, rfl⟩
abbrev main_call2_call0_v10 : Ref sig .tc := ⟨.hbm, 115, rfl⟩
abbrev main_call2_call0_v11 : Ref sig .tc := ⟨.hbm, 116, rfl⟩
abbrev main_call2_v1 : Ref sig .tc := ⟨.hbm, 117, rfl⟩
abbrev main_v80 : Ref sig .tc := ⟨.hbm, 118, rfl⟩
abbrev main_cst_1 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call6_call0_cst : Ref sig .tc := ⟨.hbm, 128, rfl⟩
abbrev main_call6_call0_v0 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_2 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩

abbrev nD : Nat := 1
abbrev τ : Topo := Topo.v7x

variable {F : FTy → Type} [FloatOps F]
-- ==== Kernel6.lean ====
abbrev S8192x256 : Shape := ⟨2, ![8192, 256]⟩
abbrev S8192x512 : Shape := ⟨2, ![8192, 512]⟩
abbrev S2x4096x1024 : Shape := ⟨3, ![2, 4096, 1024]⟩
abbrev S2x6144 : Shape := ⟨2, ![2, 6144]⟩
abbrev S4x1024 : Shape := ⟨2, ![4, 1024]⟩
abbrev S1024x1024 : Shape := ⟨2, ![1024, 1024]⟩
abbrev S1024x16 : Shape := ⟨2, ![1024, 16]⟩
abbrev S2x6x1024 : Shape := ⟨3, ![2, 6, 1024]⟩
abbrev S_ : Shape := ⟨0, ![]⟩
abbrev S1024x128 : Shape := ⟨2, ![1024, 128]⟩
abbrev S1 : Shape := ⟨1, ![1]⟩
abbrev S8192x1024 : Shape := ⟨2, ![8192, 1024]⟩
abbrev S8192x1152 : Shape := ⟨2, ![8192, 1152]⟩
abbrev S16x8192 : Shape := ⟨2, ![16, 8192]⟩
abbrev S512x256 : Shape := ⟨2, ![512, 256]⟩
abbrev S512x512 : Shape := ⟨2, ![512, 512]⟩
abbrev S512x1024 : Shape := ⟨2, ![512, 1024]⟩
abbrev S1x6x1024 : Shape := ⟨3, ![1, 6, 1024]⟩
abbrev S512x1152 : Shape := ⟨2, ![512, 1152]⟩
abbrev S16x512 : Shape := ⟨2, ![16, 512]⟩
abbrev S256x1024 : Shape := ⟨2, ![256, 1024]⟩
abbrev S6x1024 : Shape := ⟨2, ![6, 1024]⟩
abbrev S1x1024 : Shape := ⟨2, ![1, 1024]⟩
abbrev S512 : Shape := ⟨1, ![512]⟩
abbrev S512x1 : Shape := ⟨2, ![512, 1]⟩
abbrev S512x128 : Shape := ⟨2, ![512, 128]⟩
abbrev S16x128 : Shape := ⟨2, ![16, 128]⟩

abbrev nBuf : Space → Nat
  | .hbm => 22
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x512, .f32⟩
  | .hbm, ⟨3, _⟩ => ⟨S2x4096x1024, .f32⟩
  | .hbm, ⟨4, _⟩ => ⟨S2x6144, .f32⟩
  | .hbm, ⟨5, _⟩ => ⟨S4x1024, .f32⟩
  | .hbm, ⟨6, _⟩ => ⟨S1024x1024, .f32⟩
  | .hbm, ⟨7, _⟩ => ⟨S1024x16, .f32⟩
  | .hbm, ⟨8, _⟩ => ⟨S2x6x1024, .f32⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S8192x256, .bf16⟩
  | .hbm, ⟨15, _⟩ => ⟨S8192x256, .bf16⟩
  | .hbm, ⟨16, _⟩ => ⟨S8192x512, .bf16⟩
  | .hbm, ⟨17, _⟩ => ⟨S8192x1024, .f32⟩
  | .hbm, ⟨18, _⟩ => ⟨S1024x1024, .bf16⟩
  | .hbm, ⟨19, _⟩ => ⟨S8192x1024, .f32⟩
  | .hbm, ⟨20, _⟩ => ⟨S8192x1152, .f32⟩
  | .hbm, ⟨21, _⟩ => ⟨S16x8192, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1x6x1024, .f32⟩
  | .local _ .vmem, ⟨9, _⟩ => ⟨S1x6x1024, .f32⟩
  | .local _ .vmem, ⟨10, _⟩ => ⟨S4x1024, .f32⟩
  | .local _ .vmem, ⟨11, _⟩ => ⟨S1024x1024, .bf16⟩
  | .local _ .vmem, ⟨12, _⟩ => ⟨S1024x128, .f32⟩
  | .local _ .vmem, ⟨13, _⟩ => ⟨S512x1024, .f32⟩
  | .local _ .vmem, ⟨14, _⟩ => ⟨S512x1024, .f32⟩
  | .local _ .vmem, ⟨15, _⟩ => ⟨S512x1152, .f32⟩
  | .local _ .vmem, ⟨16, _⟩ => ⟨S512x1152, .f32⟩
  | .local _ .vmem, ⟨17, _⟩ => ⟨S16x512, .f32⟩
  | .local _ .vmem, ⟨18, _⟩ => ⟨S16x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S8192x256 : Shape := ⟨2, ![8192, 256]⟩
abbrev S8192x512 : Shape := ⟨2, ![8192, 512]⟩
abbrev S2x4096x1024 : Shape := ⟨3, ![2, 4096, 1024]⟩
abbrev S2x6144 : Shape := ⟨2, ![2, 6144]⟩
abbrev S4x1024 : Shape := ⟨2, ![4, 1024]⟩
abbrev S1024x1024 : Shape := ⟨2, ![1024, 1024]⟩
abbrev S1024x16 : Shape := ⟨2, ![1024, 16]⟩
abbrev S2x1x6144 : Shape := ⟨3, ![2, 1, 6144]⟩
abbrev S2x1x1024 : Shape := ⟨3, ![2, 1, 1024]⟩
abbrev S8192x1024 : Shape := ⟨2, ![8192, 1024]⟩
abbrev S_ : Shape := ⟨0, ![]⟩
abbrev S2x4096 : Shape := ⟨2, ![2, 4096]⟩
abbrev S2x4096x1 : Shape := ⟨3, ![2, 4096, 1]⟩
abbrev S1x1024 : Shape := ⟨2, ![1, 1024]⟩
abbrev S1024 : Shape := ⟨1, ![1024]⟩
abbrev S1x1x1024 : Shape := ⟨3, ![1, 1, 1024]⟩
abbrev S8192x16 : Shape := ⟨2, ![8192, 16]⟩
abbrev S8192 : Shape := ⟨1, ![8192]⟩
abbrev S8192x1 : Shape := ⟨2, ![8192, 1]⟩
abbrev S8192x112 : Shape := ⟨2, ![8192, 112]⟩
abbrev S8192x1152 : Shape := ⟨2, ![8192, 1152]⟩
abbrev S16x8192 : Shape := ⟨2, ![16, 8192]⟩

abbrev nBuf : Space → Nat
  | .hbm => 85
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x512, .f32⟩
  | .hbm, ⟨3, _⟩ => ⟨S2x4096x1024, .f32⟩
  | .hbm, ⟨4, _⟩ => ⟨S2x6144, .f32⟩
  | .hbm, ⟨5, _⟩ => ⟨S4x1024, .f32⟩
  | .hbm, ⟨6, _⟩ => ⟨S1024x1024, .f32⟩
  | .hbm, ⟨7, _⟩ => ⟨S1024x16, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S8192x1024, .f32⟩
  | .hbm, ⟨16, _⟩ => ⟨S8192x1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x1024, .f32⟩
  | .hbm, ⟨30, _⟩ => ⟨S2x4096x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S_, .f32⟩
  | .hbm, ⟨41, _⟩ => ⟨S2x4096, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S2x4096x1, .f32⟩
  | .hbm, ⟨50, _⟩ => ⟨S2x4096x1024, .f32⟩
  | .hbm, ⟨51, _⟩ => ⟨S2x4096x1024, .f32⟩
  | .hbm, ⟨52, _⟩ => ⟨S1x1024, .f32⟩
  | .hbm, ⟨53, _⟩ => ⟨S1024, .f32⟩
  | .hbm, ⟨54, _⟩ => ⟨S1x1x1024, .f32⟩
  | .hbm, ⟨55, _⟩ => ⟨S2x4096x1024, .f32⟩
  | .hbm, ⟨56, _⟩ => ⟨S2x4096x1024, .f32⟩
  | .hbm, ⟨57, _⟩ => ⟨S_, .f32⟩
  | .hbm, ⟨58, _⟩ => ⟨S2x1x1024, .f32⟩
  | .hbm, ⟨59, _⟩ => ⟨S2x1x1024, .f32⟩
  | .hbm, ⟨60, _⟩ => ⟨S2x4096x1024, .f32⟩
  | .hbm, ⟨61, _⟩ => ⟨S2x4096x1024, .f32⟩
  | .hbm, ⟨62, _⟩ => ⟨S2x4096x1024, .f32⟩
  | .hbm, ⟨63, _⟩ => ⟨S2x4096x1024, .f32⟩
  | .hbm, ⟨64, _⟩ => ⟨S8192x1024, .f32⟩
  | .hbm, ⟨65, _⟩ => ⟨S8192x16, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x1, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x16, .f32⟩
  | .hbm, ⟨79, _⟩ => ⟨S8192x16, .f32⟩
  | .hbm, ⟨80, _⟩ => ⟨S_, .f32⟩
  | .hbm, ⟨81, _⟩ => ⟨S8192x112, .f32⟩
  | .hbm, ⟨82, _⟩ => ⟨S8192x1152, .f32⟩
  | .hbm, ⟨83, _⟩ => ⟨S8192x1024, .f32⟩
  | .hbm, ⟨84, _⟩ => ⟨S16x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.Softmax.lean ====
/-
  The mathematics of one row of attention over the extended reals: scores that are real numbers, in two segments (the
  sample's own tokens and the cached context), a maximum taken over both, exponentials, and the division by their sum
  before or after the weighted sum of the values.  Nothing here mentions a program.
-/
module

public import Idealize.ShloMosaic.Lib.Pointwise
public import Idealize.ShloMosaic.Lib.IdealHost

@[expose] public section

noncomputable section

namespace Cert.Proof.Softmax

open Idealize.ShloMosaic
open scoped BigOperators

/-- A finite sum of extended reals times a real factor that is not negative, term by term. -/
theorem sum_mul_coe {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A finite sum of reals, read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Dividing a weighted sum by the sum of the weights is weighting by the quotients, for positive real weights. -/
theorem div_weighted {ι : Type} [Fintype ι] [Nonempty ι] (V p : ι → EReal) (hp : ∀ k, ∃ r : ℝ, 0 < r ∧ p k = (r : EReal)) :
    Ideal.div (∑ k, V k * p k) (∑ k, p k) = ∑ k, V k * Ideal.div (p k) (∑ k, p k) := by
  choose r hr hpr using hp
  have hden : (∑ k, p k) = ((∑ k, r k : ℝ) : EReal) := by
    rw [coe_sum]; exact Finset.sum_congr rfl fun k _ => hpr k
  have hpos : 0 < ∑ k, r k := Finset.sum_pos (fun k _ => hr k) Finset.univ_nonempty
  rw [hden, Ideal.div_coe hpos.ne', sum_mul_coe _ _ _ (by positivity)]
  refine Finset.sum_congr rfl fun k _ => ?_
  rw [Ideal.div_coe hpos.ne', mul_assoc]

/-- The largest of finitely many real scores (started from minus infinity) is real. -/
theorem fold_max_real {ι : Type} [Fintype ι] [Nonempty ι] (s : ι → EReal) (hs : ∀ k, ∃ r : ℝ, s k = (r : EReal)) :
    ∃ r : ℝ, Finset.univ.fold max ⊥ s = (r : EReal) := by
  have htop : Finset.univ.fold max ⊥ s < ⊤ := by
    rw [Finset.fold_max_lt]
    refine ⟨bot_lt_top, fun k _ => ?_⟩
    obtain ⟨r, h⟩ := hs k
    rw [h]; exact EReal.coe_lt_top r
  have hbot : ⊥ < Finset.univ.fold max ⊥ s := by
    rw [Finset.lt_fold_max]
    obtain ⟨k⟩ := ‹Nonempty ι›
    obtain ⟨r, h⟩ := hs k
    exact Or.inr ⟨k, Finset.mem_univ _, by rw [h]; exact EReal.bot_lt_coe r⟩
  exact ⟨_, (EReal.coe_toReal htop.ne hbot.ne').symm⟩

/-- The exponential of the difference of two reals is a positive real. -/
theorem exp_sub_pos (a m : EReal) (ha : ∃ r : ℝ, a = (r : EReal)) (hm : ∃ r : ℝ, m = (r : EReal)) :
    ∃ r : ℝ, 0 < r ∧ Ideal.exp (a - m) = (r : EReal) := by
  obtain ⟨x, rfl⟩ := ha
  obtain ⟨y, rfl⟩ := hm
  refine ⟨Real.exp (x - y), Real.exp_pos _, ?_⟩
  rw [← EReal.coe_sub]
  rfl

/-- A sum over the 4352 keys, the 256 cached ones first. -/
theorem sum_split (f : Fin 4352 → EReal) :
    ∑ k, f k = (∑ j : Fin 256, f ⟨j, by omega⟩) + ∑ k : Fin 4096, f ⟨256 + k, by omega⟩ :=
  Fin.sum_univ_add (a := 256) (b := 4096) f

/-- The maximum over the 4352 keys is the larger of the two segments' maxima. -/
theorem max_split (f : Fin 4352 → EReal) :
    Finset.univ.fold max ⊥ f
      = max (Finset.univ.fold max ⊥ fun k : Fin 4096 => f ⟨256 + k, by omega⟩)
          (Finset.univ.fold max ⊥ fun j : Fin 256 => f ⟨j, by omega⟩) := by
  refine eq_of_forall_ge_iff fun c => ?_
  rw [max_le_iff, Finset.fold_max_le, Finset.fold_max_le, Finset.fold_max_le]
  constructor
  · rintro ⟨h0, h⟩
    exact ⟨⟨h0, fun k _ => h _ (Finset.mem_univ _)⟩, ⟨h0, fun k _ => h _ (Finset.mem_univ _)⟩⟩
  · rintro ⟨⟨h0, h1⟩, ⟨_, h2⟩⟩
    refine ⟨h0, fun k _ => ?_⟩
    by_cases hk : k.val < 256
    · exact h2 ⟨k.val, hk⟩ (Finset.mem_univ _)
    · have h := h1 ⟨k.val - 256, by omega⟩ (Finset.mem_univ _)
      have e : (⟨256 + (k.val - 256), by omega⟩ : Fin 4352) = k := Fin.ext (by simp; omega)
      simpa only [e] using h

/-- One entry of the attention of two segments: the weighted sum of the values over the sum of the weights. -/
def row (A W : Fin 4096 → EReal) (B X : Fin 256 → EReal) : EReal :=
  Ideal.div ((∑ k, W k * Ideal.exp (A k - max (Finset.univ.fold max ⊥ A) (Finset.univ.fold max ⊥ B)))
      + ∑ j, X j * Ideal.exp (B j - max (Finset.univ.fold max ⊥ A) (Finset.univ.fold max ⊥ B)))
    ((∑ k, Ideal.exp (A k - max (Finset.univ.fold max ⊥ A) (Finset.univ.fold max ⊥ B)))
      + ∑ j, Ideal.exp (B j - max (Finset.univ.fold max ⊥ A) (Finset.univ.fold max ⊥ B)))

/-- ONE ROW OF ATTENTION: unnormalised weights of the two segments summed and divided once at the end are the softmax
    over all 4352 keys, for real scores and any values. -/
theorem row_eq (S V : Fin 4352 → EReal) (A W : Fin 4096 → EReal) (B X : Fin 256 → EReal)
    (hS : ∀ k, ∃ r : ℝ, S k = (r : EReal))
    (hA : ∀ k : Fin 4096, A k = S ⟨256 + k, by omega⟩) (hB : ∀ j : Fin 256, B j = S ⟨j, by omega⟩)
    (hW : ∀ k : Fin 4096, W k = V ⟨256 + k, by omega⟩) (hX : ∀ j : Fin 256, X j = V ⟨j, by omega⟩) :
    row A W B X
      = ∑ k, V k * Ideal.div (Ideal.exp (S k - Finset.univ.fold max ⊥ S))
          (∑ k, Ideal.exp (S k - Finset.univ.fold max ⊥ S)) := by
  unfold row
  obtain rfl : A = fun k : Fin 4096 => S ⟨256 + k, by omega⟩ := funext hA
  obtain rfl : B = fun j : Fin 256 => S ⟨j, by omega⟩ := funext hB
  obtain rfl : W = fun k : Fin 4096 => V ⟨256 + k, by omega⟩ := funext hW
  obtain rfl : X = fun j : Fin 256 => V ⟨j, by omega⟩ := funext hX
  rw [← max_split S]
  rw [← div_weighted V (fun k => Ideal.exp (S k - Finset.univ.fold max ⊥ S))
    (fun k => exp_sub_pos _ _ (hS k) (fold_max_real S hS))]
  rw [sum_split (fun k => V k * Ideal.exp (S k - Finset.univ.fold max ⊥ S)),
    sum_split (fun k => Ideal.exp (S k - Finset.univ.fold max ⊥ S))]
  congr 1
  · exact add_comm _ _
  · exact add_comm _ _

/-- The f32 pattern of the scale `96 ** -0.5` is a real number. -/
theorem scale_real : ∃ r : ℝ, Ideal.ofBits .f32 0x3DD105EC#32 = (r : EReal) := by
  simp [Ideal.ofBits, Ideal.ieee, -EReal.coe_mul]

/-- The f32 pattern of minus infinity. -/
theorem ofBits_neg_inf : Ideal.ofBits .f32 0xFF800000#32 = (⊥ : EReal) := by
  simp [Ideal.ofBits, Ideal.ieee]

/-- The f32 pattern of infinity. -/
theorem ofBits_inf : Ideal.ofBits .f32 0x7F800000#32 = (⊤ : EReal) := by
  simp [Ideal.ofBits, Ideal.ieee]

/-- A score of real queries and keys is real, and the scale may stand on the query or on the sum. -/
theorem score_eq (q k : Fin 128 → EReal) (hq : ∀ e, ∃ r : ℝ, q e = (r : EReal)) (hk : ∀ e, ∃ r : ℝ, k e = (r : EReal))
    (c : EReal) (hc : ∃ r : ℝ, c = (r : EReal)) :
    (∃ r : ℝ, (∑ e, q e * k e) * c = (r : EReal)) ∧ ∑ e, k e * (q e * c) = (∑ e, q e * k e) * c := by
  choose q' hq' using hq
  choose k' hk' using hk
  obtain ⟨c', rfl⟩ := hc
  obtain rfl : q = fun e => (q' e : EReal) := funext hq'
  obtain rfl : k = fun e => (k' e : EReal) := funext hk'
  simp only [← EReal.coe_mul, ← coe_sum]
  refine ⟨⟨_, rfl⟩, ?_⟩
  congr 1
  rw [Finset.sum_mul]
  exact Finset.sum_congr rfl fun e _ => by ring

/-- An extended real whose absolute value is below infinity is a real. -/
theorem real_of_abs_lt_top (x : EReal) (h : max x (-x) < ⊤) : ∃ r : ℝ, x = (r : EReal) := by
  induction x with
  | bot => simp at h
  | top => simp at h
  | coe r => exact ⟨r, rfl⟩

end Cert.Proof.Softmax

end
-- ==== Proof.Pre.lean ====
/-
  The precondition: queries, keys and the context's keys are finite, so each of their entries is a real number.
-/
module

public import proofs.«01_k».proof.Proof.Gen.Pre_finite_scores
public import proofs.«01_k».proof.Proof.Softmax
public import Idealize.ShloMosaic.Lib.ReduceAll

@[expose] public section

set_option maxRecDepth 16384

noncomputable section

namespace Cert.Pre_finite_scores

open Cert.Pre_finite_scores Cert.Pre_finite_scores.Gen Idealize.ShloMosaic
open Cert.Proof.Softmax

instance : Subsingleton S_.Idx := ⟨fun a b => funext fun i => i.elim0⟩

/-- One array's test: each entry whose absolute value compares below infinity is real. -/
theorem real_of_test (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  refine real_of_abs_lt_top x ?_
  rw [ofBits_inf] at h
  by_contra hc
  have h0 : FloatOps.cmpf (F := Ideal) (φ := .f32) .olt (FloatOps.hostAbsf (F := Ideal) (φ := .f32) x) (⊤ : EReal) = 0#1 := by
    rw [Ideal.cmpf_def, Ideal.hostAbsf_def, Ideal.absf_def, Ideal.cmp]
    simp [hc]
  rw [h0] at h
  exact absurd h (by decide)

/-- What the precondition says. -/
theorem real_of_pre (x0 x1 : S2x4096x4x128.Idx → EReal) (x2 : S2x4096x4x64.Idx → EReal) (x3 : S2x256x4x128.Idx → EReal)
    (x4 : S2x256x4x64.Idx → EReal) (h : fn (F := Ideal) x0 x1 x2 x3 x4 = fun _ => 1#1) :
    (∀ i, ∃ r : ℝ, x0 i = (r : EReal)) ∧ (∀ i, ∃ r : ℝ, x1 i = (r : EReal)) ∧ ∀ i, ∃ r : ℝ, x3 i = (r : EReal) := by
  have h' := congrFun h (Shape.Idx.first h_S_)
  unfold fn at h'
  obtain ⟨h01, h3⟩ := IntOp.andi_eq_one.1 h'
  obtain ⟨h0, h1⟩ := IntOp.andi_eq_one.1 h01
  exact ⟨fun i => real_of_test _ (Host.reduce_andi_all _ _ _ _ _ h0 i), fun i => real_of_test _ (Host.reduce_andi_all _ _ _ _ _ h1 i),
    fun i => real_of_test _ (Host.reduce_andi_all _ _ _ _ _ h3 i)⟩

end Cert.Pre_finite_scores

end
-- ==== Proof.Head.lean ====
/-
  The kernel's body, head by head: the four heads' stores are one function of five loads, and that function read at an
  index is one row of two-segment attention.
-/
module

public import proofs.«01_k».proof.Proof.Gen.KernelIdeal.Value
public import proofs.«01_k».proof.Proof.Softmax
public import Idealize.ShloMosaic.Lib.Pipeline.ValueKit

@[expose] public section

set_option maxRecDepth 16384

noncomputable section

namespace Cert.KernelIdeal.Att

open Cert.KernelIdeal Cert.KernelIdeal.Gen Idealize.ShloMosaic Idealize.SL.Sem
open Cert.Proof.Softmax
open scoped BigOperators

/-- Head of one query block from the scores' operands and the values of both segments (transposed: one column per query). -/
def head (k : Vec Ideal S1x4096x128 .bf16) (q : Vec Ideal S1x256x128 .bf16) (kc : Vec Ideal S1x256x128 .bf16)
    (v : Vec Ideal S64x4096 .bf16) (vc : Vec Ideal S64x256 .bf16) : FVec Ideal S64x256 .f32 :=
  k0_pay18 (F := Ideal) (k0_pay3 (F := Ideal) k q) (k0_pay9 (F := Ideal) kc q) v vc

/-- The scores of a head: key rows against query rows. -/
theorem scores_apply (k : Vec Ideal S1x4096x128 .bf16) (q : Vec Ideal S1x256x128 .bf16) (a : Fin 4096) (b : Fin 256) :
    k0_pay3 (F := Ideal) k q (ix2 a b) = ∑ e : Fin 128, k (ix3 0 a e) * q (ix3 0 b e) := by
  pointwise [k0_pay3]

/-- The scores of a head against the cached context. -/
theorem ctx_scores_apply (k : Vec Ideal S1x256x128 .bf16) (q : Vec Ideal S1x256x128 .bf16) (a : Fin 256) (b : Fin 256) :
    k0_pay9 (F := Ideal) k q (ix2 a b) = ∑ e : Fin 128, k (ix3 0 a e) * q (ix3 0 b e) := by
  pointwise [k0_pay9]

/-- A head at a value column and a query: one entry of two-segment attention. -/
theorem att_apply (A : FVec Ideal S4096x256 .f32) (B : FVec Ideal S256x256 .f32) (v : Vec Ideal S64x4096 .bf16)
    (vc : Vec Ideal S64x256 .bf16) (d : Fin 64) (b : Fin 256) :
    k0_pay18 (F := Ideal) A B v vc (ix2 d b)
      = row (fun a => A (ix2 a b)) (fun a => v (ix2 d a)) (fun j => B (ix2 j b)) (fun j => vc (ix2 d j)) := by
  pointwise [k0_pay18]
  rw [ofBits_neg_inf]
  rfl

/-- The four heads side by side, each transposed back to one row per query. -/
def assemble (h0 h1 h2 h3 : FVec Ideal S64x256 .f32) : FVec Ideal S1x256x256 .bf16 :=
  shapeCast S1x256x256 (truncf .bf16 (transpose S256x256 [1, 0]
    (concatenate S256x256 0 [⟨S64x256, h0⟩, ⟨S64x256, h1⟩, ⟨S64x256, h2⟩, ⟨S64x256, h3⟩]
      concatenates_S64x256_S64x256_S64x256_S64x256_S256x256_d0) transposes_S256x256_p1_0_S256x256 : FVec Ideal S256x256 .f32)
    bitsLt_bf16_f32 : FVec Ideal S256x256 .bf16) shapeCasts_S256x256_S1x256x256

/-- What the body leaves in the output block, as four heads of their own loads. -/
theorem out_eq (x0 : Vec Ideal S1x256x512 .bf16) (x1 : Vec Ideal S1x4096x512 .bf16) (x2 : Vec Ideal S256x4096 .bf16)
    (x3 : Vec Ideal S1x256x512 .bf16) (x4 : Vec Ideal S256x256 .bf16) :
    out0_5 (F := Ideal) x0 x1 x2 x3 x4
      = assemble (head (View.ld x1 r0_0) (View.ld x0 r0_1) (View.ld x3 r0_1) (View.ld x2 r0_8) (View.ld x4 r0_9))
          (head (View.ld x1 r0_2) (View.ld x0 r0_3) (View.ld x3 r0_3) (View.ld x2 r0_10) (View.ld x4 r0_11))
          (head (View.ld x1 r0_4) (View.ld x0 r0_5) (View.ld x3 r0_5) (View.ld x2 r0_12) (View.ld x4 r0_13))
          (head (View.ld x1 r0_6) (View.ld x0 r0_7) (View.ld x3 r0_7) (View.ld x2 r0_14) (View.ld x4 r0_15)) := by
  unfold out0_5
  rw [View.canon_unit_zero (by funext a; fin_cases a <;> rfl)]
  rfl

/-- The assembled block at a query and a column: the head `c / 64` at its own column. -/
theorem assemble_apply (h0 h1 h2 h3 : FVec Ideal S64x256 .f32) (r c : Fin 256) :
    assemble h0 h1 h2 h3 (ix3 0 r c)
      = if h : c.val < 64 then h0 (ix2 ⟨c.val, h⟩ r)
        else if h1' : c.val - 64 < 64 then h1 (ix2 ⟨c.val - 64, h1'⟩ r)
        else if h2' : c.val - 64 - 64 < 64 then h2 (ix2 ⟨c.val - 64 - 64, h2'⟩ r)
        else h3 (ix2 ⟨c.val - 64 - 64 - 64, by omega⟩ r) := by
  pointwise [assemble]

end Cert.KernelIdeal.Att

end
-- ==== Proof.Body.lean ====
/-
  The output block of one grid point, read at a query and a column: one row of two-segment attention over the blocks the
  point loaded, whichever of the four heads the column belongs to.
-/
module

public import proofs.«01_k».proof.Proof.Head

@[expose] public section

set_option maxRecDepth 16384

noncomputable section

namespace Cert.KernelIdeal.Att

open Cert.KernelIdeal Cert.KernelIdeal.Gen Idealize.ShloMosaic Idealize.SL.Sem
open Cert.Proof.Softmax
open scoped BigOperators

/-- The entry of the output block for query row `r` and column `c` (head `c / 64`), from the five input blocks. -/
def entry (x0 : Vec Ideal S1x256x512 .bf16) (x1 : Vec Ideal S1x4096x512 .bf16) (x2 : Vec Ideal S256x4096 .bf16)
    (x3 : Vec Ideal S1x256x512 .bf16) (x4 : Vec Ideal S256x256 .bf16) (r c : Fin 256) : EReal :=
  row (fun a => ∑ e : Fin 128, x1 (ix3 0 a ⟨128 * (c.val / 64) + e.val, by omega⟩) * x0 (ix3 0 r ⟨128 * (c.val / 64) + e.val, by omega⟩))
    (fun a => x2 (ix2 c a))
    (fun j => ∑ e : Fin 128, x3 (ix3 0 j ⟨128 * (c.val / 64) + e.val, by omega⟩) * x0 (ix3 0 r ⟨128 * (c.val / 64) + e.val, by omega⟩))
    (fun j => x4 (ix2 c j))

/-- One head, its five loads given by what they read, is the entry of its column. -/
theorem head_entry (x0 : Vec Ideal S1x256x512 .bf16) (x1 : Vec Ideal S1x4096x512 .bf16) (x2 : Vec Ideal S256x4096 .bf16)
    (x3 : Vec Ideal S1x256x512 .bf16) (x4 : Vec Ideal S256x256 .bf16)
    (k : Vec Ideal S1x4096x128 .bf16) (q : Vec Ideal S1x256x128 .bf16) (kc : Vec Ideal S1x256x128 .bf16)
    (v : Vec Ideal S64x4096 .bf16) (vc : Vec Ideal S64x256 .bf16) (r c : Fin 256) (d : Fin 64)
    (hk : ∀ (a : Fin 4096) (e : Fin 128), k (ix3 0 a e) = x1 (ix3 0 a ⟨128 * (c.val / 64) + e.val, by omega⟩))
    (hq : ∀ (e : Fin 128), q (ix3 0 r e) = x0 (ix3 0 r ⟨128 * (c.val / 64) + e.val, by omega⟩))
    (hkc : ∀ (a : Fin 256) (e : Fin 128), kc (ix3 0 a e) = x3 (ix3 0 a ⟨128 * (c.val / 64) + e.val, by omega⟩))
    (hv : ∀ a, v (ix2 d a) = x2 (ix2 c a)) (hvc : ∀ j, vc (ix2 d j) = x4 (ix2 c j)) :
    head k q kc v vc (ix2 d r) = entry x0 x1 x2 x3 x4 r c := by
  unfold head entry
  rw [att_apply]
  simp only [scores_apply, ctx_scores_apply, hk, hq, hkc, hv, hvc]

/-- THE BODY'S RESULT at an index of the block. -/
theorem body_apply (x0 : Vec Ideal S1x256x512 .bf16) (x1 : Vec Ideal S1x4096x512 .bf16) (x2 : Vec Ideal S256x4096 .bf16)
    (x3 : Vec Ideal S1x256x512 .bf16) (x4 : Vec Ideal S256x256 .bf16) (r c : Fin 256) :
    out0_5 (F := Ideal) x0 x1 x2 x3 x4 (ix3 0 r c) = entry x0 x1 x2 x3 x4 r c := by
  rw [out_eq, assemble_apply]
  split_ifs with h0 h1 h2
  · have hc : c.val / 64 = 0 := by omega
    refine head_entry _ _ _ _ _ _ _ _ _ _ r c _ (fun a e => ?_) (fun e => ?_) (fun a e => ?_) (fun a => ?_) (fun a => ?_) <;>
      pointwise <;> blk_ext [hc]
  · have hc : c.val / 64 = 1 := by omega
    refine head_entry _ _ _ _ _ _ _ _ _ _ r c _ (fun a e => ?_) (fun e => ?_) (fun a e => ?_) (fun a => ?_) (fun a => ?_) <;>
      pointwise <;> blk_ext [hc]
  · have hc : c.val / 64 = 2 := by omega
    refine head_entry _ _ _ _ _ _ _ _ _ _ r c _ (fun a e => ?_) (fun e => ?_) (fun a e => ?_) (fun a => ?_) (fun a => ?_) <;>
      pointwise <;> blk_ext [hc]
  · have hc : c.val / 64 = 3 := by omega
    refine head_entry _ _ _ _ _ _ _ _ _ _ r c _ (fun a e => ?_) (fun e => ?_) (fun a e => ?_) (fun a => ?_) (fun a => ?_) <;>
      pointwise <;> blk_ext [hc]

end Cert.KernelIdeal.Att

end
-- ==== Proof.Blocks.lean ====
/-
  The blocks a grid point loads, read at an index: each is a part of an argument array, through the scale, the casts, the
  reshapes and the transposes that the host puts before the call.
-/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem
open scoped BigOperators

variable (m : (ℓ : Loc nD τ sig) → Buf (Elt Ideal) ℓ)

/-- Where each window's block lies at each point of the grid. -/
theorem idx : ∀ t : Fin cfg0.N,
    win0_0.index t = ![(grid0.coords t 0).val, (grid0.coords t 1).val, 0]
    ∧ win0_1.index t = ![(grid0.coords t 0).val, 0, 0]
    ∧ win0_2.index t = ![0, (grid0.coords t 0).val]
    ∧ win0_3.index t = ![(grid0.coords t 0).val, 0, 0]
    ∧ win0_4.index t = ![0, (grid0.coords t 0).val]
    ∧ win0_5.index t = ![(grid0.coords t 0).val, (grid0.coords t 1).val, 0] :=
  (by decide +kernel : ∀ t : Fin grid0.N, _)

/-! ## The argument arrays -/

/-- The queries as launched. -/
abbrev argQ (c : Dev nD) : S2x4096x4x128.Idx → EReal := m ((c : Thread nD τ).loc main_arg0)
/-- The keys as launched. -/
abbrev argK (c : Dev nD) : S2x4096x4x128.Idx → EReal := m ((c : Thread nD τ).loc main_arg1)
/-- The values as launched. -/
abbrev argV (c : Dev nD) : S2x4096x4x64.Idx → EReal := m ((c : Thread nD τ).loc main_arg2)
/-- The cached context's keys as launched. -/
abbrev argKc (c : Dev nD) : S2x256x4x128.Idx → EReal := m ((c : Thread nD τ).loc main_arg3)
/-- The cached context's values as launched. -/
abbrev argVc (c : Dev nD) : S2x256x4x64.Idx → EReal := m ((c : Thread nD τ).loc main_arg4)

/-! ## The arrays the call reads, at an index -/

/-- The queries: scaled, one row of all four heads. -/
theorem q_arr (c : Dev nD) (b : Fin 2) (r : Fin 4096) (e : Fin 512) :
    (V (F := Ideal) m c main_v3 (ix3 b r e) : EReal)
      = argQ m c (ix4 b r ⟨e.val / 128, by omega⟩ ⟨e.val % 128, by omega⟩)
        * Ideal.ofBits .f32 0x3DD105EC#32 := by
  entry_read
  pointwise

/-- The keys. -/
theorem k_arr (c : Dev nD) (b : Fin 2) (r : Fin 4096) (e : Fin 512) :
    (V (F := Ideal) m c main_v5 (ix3 b r e) : EReal)
      = argK m c (ix4 b r ⟨e.val / 128, by omega⟩ ⟨e.val % 128, by omega⟩) := by
  entry_read
  pointwise

/-- The cached context's keys. -/
theorem kc_arr (c : Dev nD) (b : Fin 2) (r : Fin 256) (e : Fin 512) :
    (V (F := Ideal) m c main_v7 (ix3 b r e) : EReal)
      = argKc m c (ix4 b r ⟨e.val / 128, by omega⟩ ⟨e.val % 128, by omega⟩) := by
  entry_read
  pointwise

/-- The values, transposed: one row per head and column, one column per token of either sample. -/
theorem v_arr (c : Dev nD) (d : Fin 256) (r : Fin 8192) :
    (V (F := Ideal) m c main_v10 (ix2 d r) : EReal)
      = argV m c
          (ix4 ⟨r.val / 4096, by omega⟩ ⟨r.val % 4096, by omega⟩ ⟨d.val / 64, by omega⟩ ⟨d.val % 64, by omega⟩) := by
  entry_read
  pointwise

/-- The cached context's values, transposed. -/
theorem vc_arr (c : Dev nD) (d : Fin 256) (r : Fin 512) :
    (V (F := Ideal) m c main_v13 (ix2 d r) : EReal)
      = argVc m c
          (ix4 ⟨r.val / 256, by omega⟩ ⟨r.val % 256, by omega⟩ ⟨d.val / 64, by omega⟩ ⟨d.val % 64, by omega⟩) := by
  entry_read
  pointwise

/-! ## The blocks, at an index -/

/-- A query's row in its array. -/
abbrev qrow (t : Fin cfg0.N) (r : Fin 256) : Fin 4096 :=
  ⟨256 * (grid0.coords t 1).val + r.val, by have h : (grid0.coords t 1).val < 16 := (grid0.coords t 1).isLt; omega⟩

/-- The sample a point works on. -/
abbrev smp (t : Fin cfg0.N) : Fin 2 := grid0.coords t 0

/-- The query block: rows `256 * t₁ …` of sample `t₀`, scaled. -/
theorem q_block (c : Dev nD) (t : Fin cfg0.N) (r : Fin 256) (h : Fin 4) (e : Fin 128) :
    (iblk (F := Ideal) m c 0 t (ix3 0 r ⟨128 * h.val + e.val, by omega⟩) : EReal)
      = argQ m c (ix4 (smp t) (qrow t r) h e) * Ideal.ofBits .f32 0x3DD105EC#32 := by
  have e0 : ((cfg0.win 0).blk t).view.emb (ix3 0 r ⟨128 * h.val + e.val, by omega⟩) = (ix3 (smp t) (qrow t r) ⟨128 * h.val + e.val, by omega⟩ : S2x4096x512.Idx) := by
    blk_ext [idx t] <;> (simp only [smp]; omega)
  show (V (F := Ideal) m c main_v3 (((cfg0.win 0).blk t).view.emb (ix3 0 r ⟨128 * h.val + e.val, by omega⟩)) : EReal) = _
  rw [e0, q_arr]
  refine congrArg (· * _) (congrArg (argQ m c) ?_)
  blk_ext

/-- The key block: all rows of sample `t₀`. -/
theorem k_block (c : Dev nD) (t : Fin cfg0.N) (r : Fin 4096) (h : Fin 4) (e : Fin 128) :
    (iblk (F := Ideal) m c 1 t (ix3 0 r ⟨128 * h.val + e.val, by omega⟩) : EReal)
      = argK m c (ix4 (smp t) r h e) := by
  have e0 : ((cfg0.win 1).blk t).view.emb (ix3 0 r ⟨128 * h.val + e.val, by omega⟩) = (ix3 (smp t) r ⟨128 * h.val + e.val, by omega⟩ : S2x4096x512.Idx) := by
    blk_ext [idx t] <;> (simp only [smp]; omega)
  show (V (F := Ideal) m c main_v5 (((cfg0.win 1).blk t).view.emb (ix3 0 r ⟨128 * h.val + e.val, by omega⟩)) : EReal) = _
  rw [e0, k_arr]
  refine congrArg (argK m c) ?_
  blk_ext

/-- The value block: all columns of sample `t₀`. -/
theorem v_block (c : Dev nD) (t : Fin cfg0.N) (d : Fin 256) (r : Fin 4096) :
    (iblk (F := Ideal) m c 2 t (ix2 d r) : EReal)
      = argV m c (ix4 (smp t) r ⟨d.val / 64, by omega⟩ ⟨d.val % 64, by omega⟩) := by
  have e0 : ((cfg0.win 2).blk t).view.emb (ix2 d r) = (ix2 d ⟨4096 * (smp t).val + r.val, by omega⟩ : S256x8192.Idx) := by
    blk_ext [idx t] <;> (simp only [smp]; omega)
  show (V (F := Ideal) m c main_v10 (((cfg0.win 2).blk t).view.emb (ix2 d r)) : EReal) = _
  rw [e0, v_arr]
  refine congrArg (argV m c) ?_
  blk_ext

/-- The context key block: all rows of sample `t₀`. -/
theorem kc_block (c : Dev nD) (t : Fin cfg0.N) (r : Fin 256) (h : Fin 4) (e : Fin 128) :
    (iblk (F := Ideal) m c 3 t (ix3 0 r ⟨128 * h.val + e.val, by omega⟩) : EReal)
      = argKc m c (ix4 (smp t) r h e) := by
  have e0 : ((cfg0.win 3).blk t).view.emb (ix3 0 r ⟨128 * h.val + e.val, by omega⟩) = (ix3 (smp t) r ⟨128 * h.val + e.val, by omega⟩ : S2x256x512.Idx) := by
    blk_ext [idx t] <;> (simp only [smp]; omega)
  show (V (F := Ideal) m c main_v7 (((cfg0.win 3).blk t).view.emb (ix3 0 r ⟨128 * h.val + e.val, by omega⟩)) : EReal) = _
  rw [e0, kc_arr]
  refine congrArg (argKc m c) ?_
  blk_ext

/-- The context value block: all columns of sample `t₀`. -/
theorem vc_block (c : Dev nD) (t : Fin cfg0.N) (d : Fin 256) (r : Fin 256) :
    (iblk (F := Ideal) m c 4 t (ix2 d r) : EReal)
      = argVc m c (ix4 (smp t) r ⟨d.val / 64, by omega⟩ ⟨d.val % 64, by omega⟩) := by
  have e0 : ((cfg0.win 4).blk t).view.emb (ix2 d r) = (ix2 d ⟨256 * (smp t).val + r.val, by omega⟩ : S256x512.Idx) := by
    blk_ext [idx t] <;> (simp only [smp]; omega)
  show (V (F := Ideal) m c main_v13 (((cfg0.win 4).blk t).view.emb (ix2 d r)) : EReal) = _
  rw [e0, vc_arr]
  refine congrArg (argVc m c) ?_
  blk_ext

end Cert.KernelIdeal.Att

end
-- ==== Proof.Ref.lean ====
/-
  The reference read at an index: softmax attention of one query over the 4352 keys, the cached context's first.
-/
module

public import proofs.«01_k».proof.Proof.Gen.ReferenceIdeal.Read
public import proofs.«01_k».proof.Proof.Softmax
public import Idealize.ShloMosaic.Lib.Pipeline.ValueKit

@[expose] public section

set_option maxRecDepth 16384

noncomputable section

namespace Cert.ReferenceIdeal.Att

open Cert.ReferenceIdeal Cert.ReferenceIdeal.Gen Cert.ReferenceIdeal.Read Idealize.ShloMosaic Idealize.SL.Sem
open Cert.Proof.Softmax
open scoped BigOperators

/-- All keys of a sample: the context's 256, then the sample's own 4096. -/
theorem keys_apply (x1 : S2x4096x4x128.Idx → EReal) (x3 : S2x256x4x128.Idx → EReal) (b : Fin 2) (k : Fin 4352) (h : Fin 4) (e : Fin 128) :
    (val_main_v0 (F := Ideal) x1 x3 (ix4 b k h e) : EReal)
      = if hk : k.val < 256 then x3 (ix4 b ⟨k.val, hk⟩ h e) else x1 (ix4 b ⟨k.val - 256, by omega⟩ h e) := by
  unfold val_main_v0
  pointwise

/-- All values of a sample, likewise. -/
theorem vals_apply (x2 : S2x4096x4x64.Idx → EReal) (x4 : S2x256x4x64.Idx → EReal) (b : Fin 2) (k : Fin 4352) (h : Fin 4) (e : Fin 64) :
    (val_main_v1 (F := Ideal) x2 x4 (ix4 b k h e) : EReal)
      = if hk : k.val < 256 then x4 (ix4 b ⟨k.val, hk⟩ h e) else x2 (ix4 b ⟨k.val - 256, by omega⟩ h e) := by
  unfold val_main_v1
  pointwise

/-- A score of the reference: the scaled product of a query and a key. -/
def score (x0 x1 : S2x4096x4x128.Idx → EReal) (x3 : S2x256x4x128.Idx → EReal) (b : Fin 2) (h : Fin 4) (q : Fin 4096) (k : Fin 4352) : EReal :=
  (∑ e : Fin 128, x0 (ix4 b q h e) * val_main_v0 (F := Ideal) x1 x3 (ix4 b k h e)) * Ideal.ofBits .f32 0x3DD105EC#32

theorem score_apply (x0 x1 : S2x4096x4x128.Idx → EReal) (x3 : S2x256x4x128.Idx → EReal) (b : Fin 2) (h : Fin 4) (q : Fin 4096) (k : Fin 4352) :
    (val_main_v4 (F := Ideal) x0 x1 x3 (ix4 b h q k) : EReal) = score x0 x1 x3 b h q k := by
  pointwise [val_main_v4, val_main_v3, val_main_v2, val_main_cst]
  rfl

/-- The reference's row maximum. -/
theorem max_apply (x0 x1 : S2x4096x4x128.Idx → EReal) (x3 : S2x256x4x128.Idx → EReal) (b : Fin 2) (h : Fin 4) (q : Fin 4096) :
    (val_main_v5 (F := Ideal) x0 x1 x3 (ix3 b h q) : EReal) = Finset.univ.fold max ⊥ (score x0 x1 x3 b h q) := by
  have hc : (val_main_cst_0 (F := Ideal) (Shape.Idx.first h_S_) : EReal) = ⊥ := ofBits_neg_inf
  unfold val_main_v5
  pointwise
  rw [hc]
  simp only [score_apply]

/-- The exponential weights before the division. -/
theorem weight_apply (x0 x1 : S2x4096x4x128.Idx → EReal) (x3 : S2x256x4x128.Idx → EReal) (b : Fin 2) (h : Fin 4) (q : Fin 4096) (k : Fin 4352) :
    (val_main_v11 (F := Ideal) x0 x1 x3 (ix4 b h q k) : EReal)
      = Ideal.exp (score x0 x1 x3 b h q k - Finset.univ.fold max ⊥ (score x0 x1 x3 b h q)) := by
  have e : idx_main_v8 (idx_main_v9 (ix4 b h q k)) = (ix3 b h q : S2x4x4096.Idx) := by
    funext a; fin_cases a <;> rfl
  rw [val_main_v11_apply, val_main_v10_apply, val_main_v9_apply, val_main_v8_apply, val_main_v7_apply, val_main_v6_apply, e,
    max_apply, score_apply, val_main_cst_1_apply]
  generalize Finset.univ.fold max ⊥ (score x0 x1 x3 b h q) = M
  generalize score x0 x1 x3 b h q k = s
  simp only [Ideal.ofBits_def, ofBits_neg_inf, Ideal.subf_def, Ideal.maximumf_def, bot_sup_eq]
  rfl

/-- The softmax weights. -/
theorem quot_apply (x0 x1 : S2x4096x4x128.Idx → EReal) (x3 : S2x256x4x128.Idx → EReal) (b : Fin 2) (h : Fin 4) (q : Fin 4096) (k : Fin 4352) :
    (val_main_v15 (F := Ideal) x0 x1 x3 (ix4 b h q k) : EReal)
      = Ideal.div (Ideal.exp (score x0 x1 x3 b h q k - Finset.univ.fold max ⊥ (score x0 x1 x3 b h q)))
          (∑ k, Ideal.exp (score x0 x1 x3 b h q k - Finset.univ.fold max ⊥ (score x0 x1 x3 b h q))) := by
  have e : idx_main_v13 (idx_main_v14 (ix4 b h q k)) = (ix3 b h q : S2x4x4096.Idx) := by
    funext a; fin_cases a <;> rfl
  have e2 : ∀ k, idx_main_v12 (ix3 b h q : S2x4x4096.Idx) k = (ix4 b h q k : S2x4x4096x4352.Idx) := fun k => by
    funext a; fin_cases a <;> rfl
  rw [val_main_v15_apply, val_main_v14_apply, val_main_v13_apply, val_main_v12_apply, e, val_main_cst_2_apply, weight_apply,
    Ideal.hostDivf_def, Ideal.ofBits_def, Ideal.ofBits_zero_f32, zero_add]
  refine congrArg (Ideal.div _) (Finset.sum_congr rfl fun k _ => ?_)
  rw [e2, weight_apply]

/-- THE REFERENCE at an index: column `d` of sample `b`, query `q`. -/
theorem ref_apply (x0 x1 : S2x4096x4x128.Idx → EReal) (x2 : S2x4096x4x64.Idx → EReal) (x3 : S2x256x4x128.Idx → EReal)
    (x4 : S2x256x4x64.Idx → EReal) (b : Fin 2) (q : Fin 4096) (d : Fin 256) :
    (val_main_v19 (F := Ideal) x0 x1 x2 x3 x4 (ix3 b q d) : EReal)
      = ∑ k : Fin 4352, val_main_v1 (F := Ideal) x2 x4 (ix4 b k ⟨d.val / 64, by omega⟩ ⟨d.val % 64, by omega⟩)
          * Ideal.div (Ideal.exp (score x0 x1 x3 b ⟨d.val / 64, by omega⟩ q k - Finset.univ.fold max ⊥ (score x0 x1 x3 b ⟨d.val / 64, by omega⟩ q)))
              (∑ k, Ideal.exp (score x0 x1 x3 b ⟨d.val / 64, by omega⟩ q k - Finset.univ.fold max ⊥ (score x0 x1 x3 b ⟨d.val / 64, by omega⟩ q))) := by
  have e : idx_main_v17 (idx_main_v19 (ix3 b q d)) = (ix4 b ⟨d.val / 64, by omega⟩ ⟨d.val % 64, by omega⟩ q : S2x4x64x4096.Idx) := by
    blk_ext
  rw [val_main_v19_apply, val_main_v18_apply, val_main_v17_apply, val_main_v16_apply, e, Ideal.truncf_def]
  refine Finset.sum_congr rfl fun k _ => ?_
  have el : lidx_main_v16 (ix4 b ⟨d.val / 64, by omega⟩ ⟨d.val % 64, by omega⟩ q : S2x4x64x4096.Idx) k
      = (ix4 b k ⟨d.val / 64, by omega⟩ ⟨d.val % 64, by omega⟩ : S2x4352x4x64.Idx) := by
    blk_ext
  have er : ridx_main_v16 (ix4 b ⟨d.val / 64, by omega⟩ ⟨d.val % 64, by omega⟩ q : S2x4x64x4096.Idx) k
      = (ix4 b ⟨d.val / 64, by omega⟩ q k : S2x4x4096x4352.Idx) := by
    blk_ext
  rw [el, er, quot_apply]

/-- The reference over real queries and keys is two-segment attention, the scale on the query. -/
theorem ref_row (x0 x1 : S2x4096x4x128.Idx → EReal) (x2 : S2x4096x4x64.Idx → EReal) (x3 : S2x256x4x128.Idx → EReal)
    (x4 : S2x256x4x64.Idx → EReal) (h0 : ∀ i, ∃ r : ℝ, x0 i = (r : EReal)) (h1 : ∀ i, ∃ r : ℝ, x1 i = (r : EReal))
    (h3 : ∀ i, ∃ r : ℝ, x3 i = (r : EReal)) (b : Fin 2) (q : Fin 4096) (d : Fin 256) :
    (val_main_v19 (F := Ideal) x0 x1 x2 x3 x4 (ix3 b q d) : EReal)
      = row (fun a => ∑ e : Fin 128, x1 (ix4 b a ⟨d.val / 64, by omega⟩ e) * (x0 (ix4 b q ⟨d.val / 64, by omega⟩ e) * Ideal.ofBits .f32 0x3DD105EC#32))
          (fun a => x2 (ix4 b a ⟨d.val / 64, by omega⟩ ⟨d.val % 64, by omega⟩))
          (fun j => ∑ e : Fin 128, x3 (ix4 b j ⟨d.val / 64, by omega⟩ e) * (x0 (ix4 b q ⟨d.val / 64, by omega⟩ e) * Ideal.ofBits .f32 0x3DD105EC#32))
          (fun j => x4 (ix4 b j ⟨d.val / 64, by omega⟩ ⟨d.val % 64, by omega⟩)) := by
  have hkey : ∀ (k : Fin 4352) (e : Fin 128), ∃ r : ℝ, (val_main_v0 (F := Ideal) x1 x3 (ix4 b k ⟨d.val / 64, by omega⟩ e) : EReal) = (r : EReal) := by
    intro k e
    rw [keys_apply]
    split_ifs
    · exact h3 _
    · exact h1 _
  rw [ref_apply]
  refine (row_eq _ _ _ _ _ _ (fun k => ?_) (fun a => ?_) (fun j => ?_) (fun a => ?_) (fun j => ?_)).symm
  · exact (score_eq _ _ (fun e => h0 _) (hkey k) _ scale_real).1
  · rw [score, ← (score_eq _ _ (fun e => h0 _) (hkey _) _ scale_real).2]
    refine Finset.sum_congr rfl fun e _ => ?_
    rw [keys_apply, dif_neg (by simp)]
    simp only [Nat.add_sub_cancel_left, Fin.eta]
  · rw [score, ← (score_eq _ _ (fun e => h0 _) (hkey _) _ scale_real).2]
    refine Finset.sum_congr rfl fun e _ => ?_
    rw [keys_apply, dif_pos j.isLt]
  · rw [vals_apply, dif_neg (by simp)]
    simp only [Nat.add_sub_cancel_left, Fin.eta]
  · rw [vals_apply, dif_pos j.isLt]

end Cert.ReferenceIdeal.Att

end
-- ==== Proof.Final.lean ====
/-
  The kernel's output array after the run: entry by entry the reference's attention of the arrays as launched, for finite
  queries and keys.
-/
module

public import proofs.«01_k».proof.Proof.Body
public import proofs.«01_k».proof.Proof.Blocks
public import proofs.«01_k».proof.Proof.Ref

@[expose] public section

set_option maxRecDepth 16384

noncomputable section

namespace Cert.KernelIdeal.Att

open Cert.KernelIdeal Cert.KernelIdeal.Gen Idealize.ShloMosaic Idealize.ShloMosaic.TcCoe Idealize.SL.Sem
open Cert.Proof.Softmax
open scoped BigOperators

variable (m : (ℓ : Loc nD τ sig) → Buf (Elt Ideal) ℓ)

/-- The attention of the arrays as launched, by the reference's own term. -/
def G (c : Dev nD) : S2x4096x256.Idx → EReal :=
  Cert.ReferenceIdeal.Read.val_main_v19 (F := Ideal) (argQ m c) (argK m c) (argV m c) (argKc m c) (argVc m c)

/-- The entry a point computes, over the arrays as launched. -/
theorem entry_block (c : Dev nD) (t : Fin cfg0.N) (r d : Fin 256)
    (h0 : ∀ i, ∃ x : ℝ, argQ m c i = (x : EReal)) (h1 : ∀ i, ∃ x : ℝ, argK m c i = (x : EReal)) (h3 : ∀ i, ∃ x : ℝ, argKc m c i = (x : EReal)) :
    entry (iblk (F := Ideal) m c 0 t) (iblk (F := Ideal) m c 1 t) (iblk (F := Ideal) m c 2 t) (iblk (F := Ideal) m c 3 t) (iblk (F := Ideal) m c 4 t) r d
      = G m c (ix3 (smp t) (qrow t r) d) := by
  unfold G
  rw [Cert.ReferenceIdeal.Att.ref_row _ _ _ _ _ h0 h1 h3]
  unfold entry
  congr 1
  · funext a
    exact Finset.sum_congr rfl fun e _ => congrArg₂ (· * ·) (k_block m c t a ⟨d.val / 64, by omega⟩ e) (q_block m c t r ⟨d.val / 64, by omega⟩ e)
  · funext a
    exact v_block m c t d a
  · funext a
    exact Finset.sum_congr rfl fun e _ => congrArg₂ (· * ·) (kc_block m c t a ⟨d.val / 64, by omega⟩ e) (q_block m c t r ⟨d.val / 64, by omega⟩ e)
  · funext a
    exact vc_block m c t d a

/-- THE ARRAY AFTER THE RUN. -/
theorem final (c : Dev nD)
    (h0 : ∀ i, ∃ x : ℝ, argQ m c i = (x : EReal)) (h1 : ∀ i, ∃ x : ℝ, argK m c i = (x : EReal)) (h3 : ∀ i, ∃ x : ℝ, argKc m c i = (x : EReal)) :
    (dats (F := Ideal) m 0 c).arrAt 5 cfg0.N = G m c := by
  refine (dats m 0 c).arrAt_eq_of_covers 5 _ (by decide +kernel) fun t hf y => ?_
  blk_simp
  rw [after0_5]
  obtain ⟨a, r, d, rfl⟩ : ∃ (a : Fin 1) (r d : Fin 256), y = ix3 a r d := ⟨y 0, y 1, y 2, eq_ix3 y⟩
  obtain rfl : a = 0 := Subsingleton.elim _ _
  have e0 : ((cfg0.win 5).blk t).view.emb (ix3 0 r d) = (ix3 (smp t) (qrow t r) d : S2x4096x256.Idx) := by
    blk_ext [idx t] <;> (simp only [smp]; omega)
  have h := (body_apply (iblk (F := Ideal) m c 0 t) (iblk (F := Ideal) m c 1 t) (iblk (F := Ideal) m c 2 t) (iblk (F := Ideal) m c 3 t) (iblk (F := Ideal) m c 4 t) r d).trans
    (entry_block m c t r d h0 h1 h3)
  exact h.trans (congrArg (G m c) e0.symm)

end Cert.KernelIdeal.Att

end
-- ==== Proof.ProjBody.lean ====
/-
  The input projection's output block at a row and a column: the row of the token block, normalised and modulated, times
  the weight column, whichever of the seven column groups stored it.
-/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Kernel2Ideal.Proj

open Cert.Kernel2Ideal Cert.Kernel2Ideal.Gen Idealize.ShloMosaic Idealize.SL.Sem
open scoped BigOperators

/-- One entry of the normalised and modulated token row `x`: its mean square, the gain, the scale and the shift. -/
def modulated (x : Fin 1024 → EReal) (g sc sh : EReal) (e : Fin 1024) : EReal :=
  x e * Ideal.rsqrt (Ideal.div (∑ k : Fin 1024, x k * x k) (Ideal.ofBits .f32 0x44800000#32) + Ideal.ofBits .f32 0x358637BD#32) * g
    * (Ideal.ofBits .f32 0x3F800000#32 + sc) + sh

/-- The token block, normalised and modulated, at an index. -/
theorem tokens_apply (x : Vec Ideal S512x1024 .f32) (md : Vec Ideal S1x6x1024 .f32) (g : Vec Ideal S1x1024 .f32)
    (r : Fin 512) (e : Fin 1024) :
    (k0_pay6 (F := Ideal) x md g (ix2 r e) : EReal)
      = modulated (fun k => x (ix2 r k)) (g (ix2 0 e)) (md (ix3 0 1 e)) (md (ix3 0 0 e)) e := by
  unfold k0_pay6 modulated
  pointwise

/-- A group of columns: the tokens times the group's weights. -/
theorem group1 (a : FVec Ideal S512x1024 .bf16) (w : Vec Ideal S1024x512 .bf16) (r j : Fin 512) :
    (k0_pay1 (F := Ideal) a w (ix2 r j) : EReal) = ∑ e : Fin 1024, a (ix2 r e) * w (ix2 e j) := by
  unfold k0_pay1
  pointwise

/-- THE BODY'S RESULT at an index of the block. -/
theorem body_apply (x0 : Vec Ideal S512x1024 .f32) (x1 : Vec Ideal S1x6x1024 .f32) (x2 : Vec Ideal S1x1024 .f32)
    (x3 : Vec Ideal S1024x3584 .bf16) (r : Fin 512) (j : Fin 3584) :
    (out0_4 (F := Ideal) x0 x1 x2 x3 (ix2 r j) : EReal)
      = ∑ e : Fin 1024, modulated (fun k => x0 (ix2 r k)) (x2 (ix2 0 e)) (x1 (ix3 0 1 e)) (x1 (ix3 0 0 e)) e * x3 (ix2 e j) := by
  unfold out0_4
  canon_tiles x h
  all_goals
    obtain ⟨a, b, rfl⟩ : ∃ a b : Fin 512, x = ix2 a b := ⟨x 0, x 1, eq_ix2 x⟩
    obtain rfl : r = a := Fin.ext h0
    refine (group1 _ _ _ _).trans (Finset.sum_congr rfl fun e _ => congrArg₂ (· * ·) ?_ ?_)
    · refine (tokens_apply _ _ _ _ _).trans ?_
      pointwise
    · have hj : j.val = _ := h1
      pointwise
      blk_ext [hj]

end Cert.Kernel2Ideal.Proj

end
-- ==== Proof.ProjReal.lean ====
/-
  The modulated token of finite arrays is real, and a sum of real products may be negated term by term.
-/
module

public import proofs.«01_k».proof.Proof.Softmax
public import proofs.«01_k».proof.Proof.ProjBody

@[expose] public section

set_option maxRecDepth 16384

noncomputable section

namespace Cert.Kernel2Ideal.Proj

open Idealize.ShloMosaic
open Cert.Proof.Softmax
open scoped BigOperators

/-- The f32 pattern of the row's length. -/
theorem ofBits_1024 : Ideal.ofBits .f32 0x44800000#32 = ((1024 : ℝ) : EReal) := by
  simp [Ideal.ofBits, Ideal.ieee, -EReal.coe_mul]
  norm_num

/-- The f32 pattern of the normalization's offset is a positive real. -/
theorem ofBits_eps : ∃ ε : ℝ, 0 < ε ∧ Ideal.ofBits .f32 0x358637BD#32 = (ε : EReal) := by
  refine ⟨_, ?_, by simp [Ideal.ofBits, Ideal.ieee, -EReal.coe_mul]; rfl⟩
  norm_num

/-- Division and the reciprocal root keep a sum of squares over a positive count, plus a positive number, real. -/
theorem modulated_real (x : Fin 1024 → EReal) (g sc sh : EReal) (e : Fin 1024) (hx : ∀ k, ∃ r : ℝ, x k = (r : EReal))
    (hg : ∃ r : ℝ, g = (r : EReal)) (hsc : ∃ r : ℝ, sc = (r : EReal)) (hsh : ∃ r : ℝ, sh = (r : EReal)) :
    ∃ r : ℝ, modulated x g sc sh e = (r : EReal) := by
  choose f hf using hx
  obtain ⟨g', rfl⟩ := hg
  obtain ⟨c', rfl⟩ := hsc
  obtain ⟨s', rfl⟩ := hsh
  obtain ⟨ε, hε, he⟩ := ofBits_eps
  have hsum : (∑ k, x k * x k) = ((∑ k, f k * f k : ℝ) : EReal) := by
    rw [coe_sum]
    exact Finset.sum_congr rfl fun k _ => by rw [hf k, EReal.coe_mul]
  have hnn : 0 ≤ ∑ k, f k * f k := Finset.sum_nonneg fun k _ => mul_self_nonneg _
  have hp : 0 < (∑ k, f k * f k) * (1 / 1024) + ε := by positivity
  unfold modulated
  rw [hsum, ofBits_1024, he, Ideal.ofBits_one_f32, hf e, Ideal.div_coe (by norm_num), ← EReal.coe_mul, ← EReal.coe_add,
    Ideal.rsqrt_coe, if_neg (not_lt.2 hp.le), if_neg hp.ne']
  refine ⟨f e * (Real.sqrt ((∑ k, f k * f k) * (1 / 1024) + ε))⁻¹ * g' * (1 + c') + s', ?_⟩
  simp only [EReal.coe_mul, EReal.coe_add, EReal.coe_one]

/-- A sum of real products with one factor negated throughout. -/
theorem sum_neg_real (a b : Fin 1024 → EReal) (ha : ∀ k, ∃ r : ℝ, a k = (r : EReal)) (hb : ∀ k, ∃ r : ℝ, b k = (r : EReal)) :
    (∑ k, a k * -(b k)) = -(∑ k, a k * b k) := by
  choose f hf using ha
  choose g hg using hb
  have h : (∑ k, a k * b k) = ((∑ k, f k * g k : ℝ) : EReal) := by
    rw [coe_sum]
    exact Finset.sum_congr rfl fun k _ => by rw [hf k, hg k, EReal.coe_mul]
  have h' : (∑ k, a k * -(b k)) = ((∑ k, f k * -(g k) : ℝ) : EReal) := by
    rw [coe_sum]
    exact Finset.sum_congr rfl fun k _ => by rw [hf k, hg k, EReal.coe_mul, EReal.coe_neg]
  rw [h, h', ← EReal.coe_neg, ← Finset.sum_neg_distrib]
  exact congrArg _ (Finset.sum_congr rfl fun k _ => mul_neg _ _)

end Cert.Kernel2Ideal.Proj

end
-- ==== Proof.Columns.lean ====
/-
  A concatenation of column groups read at a row and a column: the group that holds the column, at its own column.
-/
module

public import Idealize.ShloMosaic.Lib.Pointwise
public import Idealize.ShloMosaic.Lib.Pipeline.ValueKit

@[expose] public section

noncomputable section

namespace Cert.Proof.Columns

open Idealize.ShloMosaic

/-- Piece `k`, of `n` columns, `pre` columns to its left, at its column `c`. -/
theorem at_piece {α : Type} {R C n : Nat} (xs : List ((s : Shape) × (s.Idx → α)))
    (h : Shape.Concatenates (xs.map (·.1)) (⟨2, ![R, C]⟩ : Shape) 1) (r : Fin R) (j : Fin C) (k : Nat) (hk : k < xs.length)
    (x : (⟨2, ![R, n]⟩ : Shape).Idx → α) (hx : xs[k] = ⟨_, x⟩) (pre : Nat)
    (hpre : (((xs.take k).map (·.1)).map fun s => if h : s.rank = (⟨2, ![R, C]⟩ : Shape).rank then s.size ((1 : Fin 2).cast h.symm) else 0).sum = pre)
    (c : Fin n) (hc : pre + c.val = j.val) :
    concatenate (⟨2, ![R, C]⟩ : Shape) 1 xs h (ix2 r j) = x (ix2 r c) := by
  refine concatenate_apply_piece (t := ⟨2, ![R, C]⟩) 1 xs h (ix2 r j) k hk _ x hx rfl pre hpre (ix2 r c) (fun b hb => ?_) hc
  match b with
  | ⟨0, _⟩ => rfl
  | ⟨1, _⟩ => exact absurd rfl hb

/-- The same for arrays of rank three joined along their last axis. -/
theorem at_piece3 {α : Type} {A R C n : Nat} (xs : List ((s : Shape) × (s.Idx → α)))
    (h : Shape.Concatenates (xs.map (·.1)) (⟨3, ![A, R, C]⟩ : Shape) 2) (a : Fin A) (r : Fin R) (j : Fin C) (k : Nat) (hk : k < xs.length)
    (x : (⟨3, ![A, R, n]⟩ : Shape).Idx → α) (hx : xs[k] = ⟨_, x⟩) (pre : Nat)
    (hpre : (((xs.take k).map (·.1)).map fun s => if h : s.rank = (⟨3, ![A, R, C]⟩ : Shape).rank then s.size ((2 : Fin 3).cast h.symm) else 0).sum = pre)
    (c : Fin n) (hc : pre + c.val = j.val) :
    concatenate (⟨3, ![A, R, C]⟩ : Shape) 2 xs h (ix3 a r j) = x (ix3 a r c) := by
  refine concatenate_apply_piece (t := ⟨3, ![A, R, C]⟩) 2 xs h (ix3 a r j) k hk _ x hx rfl pre hpre (ix3 a r c) (fun b hb => ?_) hc
  match b with
  | ⟨0, _⟩ => rfl
  | ⟨1, _⟩ => rfl
  | ⟨2, _⟩ => exact absurd rfl hb

end Cert.Proof.Columns

end
-- ==== Proof.ProjBlocks.lean ====
/-
  The blocks the input projection's grid points load, read at an index: token rows, the modulation of their sample, the
  gain, and the weight columns in the order in which the host packs them.
-/
module

public import proofs.«01_k».proof.Proof.Gen.Kernel2Ideal.Value
public import proofs.«01_k».proof.Proof.Columns
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open scoped BigOperators

/-! ## The order of the columns -/

/-- The projection's column that the packed column `j` holds. Columns 3488 to 3519 hold the rotary key's pairs crosswise. -/
def src (j : Fin 3584) : Fin 3552 :=
  ⟨if j.val < 384 then j.val else if j.val < 1152 then j.val + 32 else if j.val < 3456 then j.val + 64
    else if j.val < 3488 then j.val - 3072
    else if j.val < 3520 then (if j.val % 2 = 0 then j.val - 3103 else j.val - 3105)
    else if j.val < 3552 then j.val - 2336 else j.val - 32, by have := j.isLt; split_ifs <;> omega⟩

/-- Whether the packed column holds it negated: the first of each pair of the rotated key. -/
def neg (j : Fin 3584) : Prop := 3488 ≤ j.val ∧ j.val < 3520 ∧ j.val % 2 = 0

instance (j : Fin 3584) : Decidable (neg j) := by unfold neg; infer_instance

variable (m : (ℓ : Loc nD τ sig) → Buf (Elt Ideal) ℓ)

/-- Where each window's block lies at each point of the grid. -/
theorem idx : ∀ t : Fin cfg0.N,
    win0_0.index t = ![(grid0.coords t 0).val, 0]
    ∧ win0_1.index t = ![(grid0.coords t 0).val / 8, 0, 0]
    ∧ win0_2.index t = ![0, 0]
    ∧ win0_3.index t = ![0, 0]
    ∧ win0_4.index t = ![(grid0.coords t 0).val, 0] :=
  (by decide +kernel : ∀ t : Fin grid0.N, _)

/-! ## The argument arrays -/

/-- The tokens as launched. -/
abbrev argX (c : Dev nD) : S2x4096x1024.Idx → EReal := m ((c : Thread nD τ).loc main_arg0)
/-- The modulation as launched. -/
abbrev argM (c : Dev nD) : S2x6144.Idx → EReal := m ((c : Thread nD τ).loc main_arg1)
/-- The gain as launched. -/
abbrev argG (c : Dev nD) : S1024.Idx → EReal := m ((c : Thread nD τ).loc main_arg2)
/-- The projection's weights as launched. -/
abbrev argW (c : Dev nD) : S1024x3552.Idx → EReal := m ((c : Thread nD τ).loc main_arg3)

/-! ## The arrays the call reads, at an index -/

theorem x_arr (c : Dev nD) (r : Fin 8192) (e : Fin 1024) :
    (V (F := Ideal) m c main_v27 (ix2 r e) : EReal) = argX m c (ix3 ⟨r.val / 4096, by omega⟩ ⟨r.val % 4096, by omega⟩ e) := by
  entry_read
  pointwise

theorem md_arr (c : Dev nD) (b : Fin 2) (k : Fin 6) (e : Fin 1024) :
    (V (F := Ideal) m c main_v0 (ix3 b k e) : EReal) = argM m c (ix2 b ⟨k.val * 1024 + e.val, by omega⟩) := by
  entry_read
  pointwise

theorem g_arr (c : Dev nD) (e : Fin 1024) :
    (V (F := Ideal) m c main_v28 (ix2 0 e) : EReal) = argG m c (ix1 e) := by
  entry_read
  pointwise

/-- The buffers' contents where the host joins the weight's column groups. -/
abbrev grp (c : Dev nD) (b : Ref sig .tc) : Buf (Elt Ideal) ((c : Thread nD τ).loc b) :=
  StableHlo.upto (hostOps0 (F := Ideal)) (fun b => m (c, b)) 25 (Proc.tc.devRef b)

theorem grp_v1 (c : Dev nD) (e : Fin 1024) (k : Fin 256) :
    (grp m c main_v1 (ix2 e k) : EReal) = argW m c (ix2 e ⟨k.val, by omega⟩) := by
  unfold grp
  after_reads_simp
  pointwise

theorem grp_v2 (c : Dev nD) (e : Fin 1024) (k : Fin 128) :
    (grp m c main_v2 (ix2 e k) : EReal) = argW m c (ix2 e ⟨256 + k.val, by omega⟩) := by
  unfold grp
  after_reads_simp
  pointwise

theorem grp_v4 (c : Dev nD) (e : Fin 1024) (k : Fin 256) :
    (grp m c main_v4 (ix2 e k) : EReal) = argW m c (ix2 e ⟨416 + k.val, by omega⟩) := by
  unfold grp
  after_reads_simp
  pointwise

theorem grp_v5 (c : Dev nD) (e : Fin 1024) (k : Fin 256) :
    (grp m c main_v5 (ix2 e k) : EReal) = argW m c (ix2 e ⟨672 + k.val, by omega⟩) := by
  unfold grp
  after_reads_simp
  pointwise

theorem grp_v6 (c : Dev nD) (e : Fin 1024) (k : Fin 256) :
    (grp m c main_v6 (ix2 e k) : EReal) = argW m c (ix2 e ⟨928 + k.val, by omega⟩) := by
  unfold grp
  after_reads_simp
  pointwise

theorem grp_v8 (c : Dev nD) (e : Fin 1024) (k : Fin 256) :
    (grp m c main_v8 (ix2 e k) : EReal) = argW m c (ix2 e ⟨1216 + k.val, by omega⟩) := by
  unfold grp
  after_reads_simp
  pointwise

theorem grp_v9 (c : Dev nD) (e : Fin 1024) (k : Fin 512) :
    (grp m c main_v9 (ix2 e k) : EReal) = argW m c (ix2 e ⟨1472 + k.val, by omega⟩) := by
  unfold grp
  after_reads_simp
  pointwise

theorem grp_v10 (c : Dev nD) (e : Fin 1024) (k : Fin 512) :
    (grp m c main_v10 (ix2 e k) : EReal) = argW m c (ix2 e ⟨1984 + k.val, by omega⟩) := by
  unfold grp
  after_reads_simp
  pointwise

theorem grp_v11 (c : Dev nD) (e : Fin 1024) (k : Fin 512) :
    (grp m c main_v11 (ix2 e k) : EReal) = argW m c (ix2 e ⟨2496 + k.val, by omega⟩) := by
  unfold grp
  after_reads_simp
  pointwise

theorem grp_v12 (c : Dev nD) (e : Fin 1024) (k : Fin 512) :
    (grp m c main_v12 (ix2 e k) : EReal) = argW m c (ix2 e ⟨3008 + k.val, by omega⟩) := by
  unfold grp
  after_reads_simp
  pointwise

theorem grp_v3 (c : Dev nD) (e : Fin 1024) (k : Fin 32) :
    (grp m c main_v3 (ix2 e k) : EReal) = argW m c (ix2 e ⟨384 + k.val, by omega⟩) := by
  unfold grp
  after_reads_simp
  pointwise

/-- The rotated key's columns: the pairs crosswise, the first of each negated. -/
theorem grp_v24 (c : Dev nD) (e : Fin 1024) (k : Fin 32) :
    (grp m c main_v24 (ix2 e k) : EReal)
      = if k.val % 2 = 0 then -(argW m c (ix2 e ⟨k.val + 385, by omega⟩)) else argW m c (ix2 e ⟨k.val + 383, by omega⟩) := by
  unfold grp
  after_reads_simp
  pointwise
  by_cases hk : k.val % 2 = 0
  · rw [dif_pos (by omega), if_pos hk]
    after_reads_simp
    pointwise
    refine congrArg (fun i => -(argW m c i)) ?_
    blk_ext
  · rw [dif_neg (by omega), if_neg hk]
    after_reads_simp
    pointwise
    refine congrArg (argW m c) ?_
    blk_ext

theorem grp_v7 (c : Dev nD) (e : Fin 1024) (k : Fin 32) :
    (grp m c main_v7 (ix2 e k) : EReal) = argW m c (ix2 e ⟨1184 + k.val, by omega⟩) := by
  unfold grp
  after_reads_simp
  pointwise

theorem grp_v13 (c : Dev nD) (e : Fin 1024) (k : Fin 16) :
    (grp m c main_v13 (ix2 e k) : EReal) = argW m c (ix2 e ⟨3520 + k.val, by omega⟩) := by
  unfold grp
  after_reads_simp
  pointwise

theorem grp_v14 (c : Dev nD) (e : Fin 1024) (k : Fin 16) :
    (grp m c main_v14 (ix2 e k) : EReal) = argW m c (ix2 e ⟨3536 + k.val, by omega⟩) := by
  unfold grp
  after_reads_simp
  pointwise

/-- The groups the host joins, in its order. -/
def pieces (c : Dev nD) : List ((s : Shape) × (s.Idx → EReal)) :=
  [⟨S1024x256, grp m c main_v1⟩, ⟨S1024x128, grp m c main_v2⟩, ⟨S1024x256, grp m c main_v4⟩, ⟨S1024x256, grp m c main_v5⟩, ⟨S1024x256, grp m c main_v6⟩, ⟨S1024x256, grp m c main_v8⟩, ⟨S1024x512, grp m c main_v9⟩, ⟨S1024x512, grp m c main_v10⟩, ⟨S1024x512, grp m c main_v11⟩, ⟨S1024x512, grp m c main_v12⟩, ⟨S1024x32, grp m c main_v3⟩, ⟨S1024x32, grp m c main_v24⟩, ⟨S1024x32, grp m c main_v7⟩, ⟨S1024x16, grp m c main_v13⟩, ⟨S1024x16, grp m c main_v14⟩]

theorem w_pack (c : Dev nD) (e : Fin 1024) (j : Fin 3584) :
    (V (F := Ideal) m c main_v26 (ix2 e j) : EReal) = concatenate S1024x3584 1 (pieces m c) concatenates_S1024x256_S1024x128_S1024x256_S1024x256_S1024x256_S1024x256_S1024x512_S1024x512_S1024x512_S1024x512_S1024x32_S1024x32_S1024x32_S1024x16_S1024x16_S1024x3584_d1 (ix2 e j) := by
  unfold V
  after_reads_simp
  rfl

set_option maxHeartbeats 2000000 in
/-- The packed weights: each column is one of the projection's, the rotated key's first of each pair negated. -/
theorem w_arr (c : Dev nD) (e : Fin 1024) (j : Fin 3584) :
    (V (F := Ideal) m c main_v26 (ix2 e j) : EReal)
      = if neg j then -(argW m c (ix2 e (src j))) else argW m c (ix2 e (src j)) := by
  rw [w_pack]
  have hj := j.isLt
  by_cases h0 : j.val < 256
  · refine (Cert.Proof.Columns.at_piece (pieces m c) _ e j 0 (show _ < 15 by decide) (grp m c main_v1) rfl 0 (by rfl) ⟨j.val - 0, by omega⟩ (by show 0 + (j.val - 0) = j.val; omega)).trans ?_
    rw [grp_v1]
    rw [if_neg (show ¬ neg j from fun h => by have h1 := h.1; have h2 := h.2.1; omega)]
    refine congrArg (fun k => argW m c (ix2 e k)) (Fin.ext ?_)
    simp only [src]; split_ifs <;> omega
  by_cases h1 : j.val < 384
  · refine (Cert.Proof.Columns.at_piece (pieces m c) _ e j 1 (show _ < 15 by decide) (grp m c main_v2) rfl 256 (by rfl) ⟨j.val - 256, by omega⟩ (by show 256 + (j.val - 256) = j.val; omega)).trans ?_
    rw [grp_v2]
    rw [if_neg (show ¬ neg j from fun h => by have h1 := h.1; have h2 := h.2.1; omega)]
    refine congrArg (fun k => argW m c (ix2 e k)) (Fin.ext ?_)
    simp only [src]; split_ifs <;> omega
  by_cases h2 : j.val < 640
  · refine (Cert.Proof.Columns.at_piece (pieces m c) _ e j 2 (show _ < 15 by decide) (grp m c main_v4) rfl 384 (by rfl) ⟨j.val - 384, by omega⟩ (by show 384 + (j.val - 384) = j.val; omega)).trans ?_
    rw [grp_v4]
    rw [if_neg (show ¬ neg j from fun h => by have h1 := h.1; have h2 := h.2.1; omega)]
    refine congrArg (fun k => argW m c (ix2 e k)) (Fin.ext ?_)
    simp only [src]; split_ifs <;> omega
  by_cases h3 : j.val < 896
  · refine (Cert.Proof.Columns.at_piece (pieces m c) _ e j 3 (show _ < 15 by decide) (grp m c main_v5) rfl 640 (by rfl) ⟨j.val - 640, by omega⟩ (by show 640 + (j.val - 640) = j.val; omega)).trans ?_
    rw [grp_v5]
    rw [if_neg (show ¬ neg j from fun h => by have h1 := h.1; have h2 := h.2.1; omega)]
    refine congrArg (fun k => argW m c (ix2 e k)) (Fin.ext ?_)
    simp only [src]; split_ifs <;> omega
  by_cases h4 : j.val < 1152
  · refine (Cert.Proof.Columns.at_piece (pieces m c) _ e j 4 (show _ < 15 by decide) (grp m c main_v6) rfl 896 (by rfl) ⟨j.val - 896, by omega⟩ (by show 896 + (j.val - 896) = j.val; omega)).trans ?_
    rw [grp_v6]
    rw [if_neg (show ¬ neg j from fun h => by have h1 := h.1; have h2 := h.2.1; omega)]
    refine congrArg (fun k => argW m c (ix2 e k)) (Fin.ext ?_)
    simp only [src]; split_ifs <;> omega
  by_cases h5 : j.val < 1408
  · refine (Cert.Proof.Columns.at_piece (pieces m c) _ e j 5 (show _ < 15 by decide) (grp m c main_v8) rfl 1152 (by rfl) ⟨j.val - 1152, by omega⟩ (by show 1152 + (j.val - 1152) = j.val; omega)).trans ?_
    rw [grp_v8]
    rw [if_neg (show ¬ neg j from fun h => by have h1 := h.1; have h2 := h.2.1; omega)]
    refine congrArg (fun k => argW m c (ix2 e k)) (Fin.ext ?_)
    simp only [src]; split_ifs <;> omega
  by_cases h6 : j.val < 1920
  · refine (Cert.Proof.Columns.at_piece (pieces m c) _ e j 6 (show _ < 15 by decide) (grp m c main_v9) rfl 1408 (by rfl) ⟨j.val - 1408, by omega⟩ (by show 1408 + (j.val - 1408) = j.val; omega)).trans ?_
    rw [grp_v9]
    rw [if_neg (show ¬ neg j from fun h => by have h1 := h.1; have h2 := h.2.1; omega)]
    refine congrArg (fun k => argW m c (ix2 e k)) (Fin.ext ?_)
    simp only [src]; split_ifs <;> omega
  by_cases h7 : j.val < 2432
  · refine (Cert.Proof.Columns.at_piece (pieces m c) _ e j 7 (show _ < 15 by decide) (grp m c main_v10) rfl 1920 (by rfl) ⟨j.val - 1920, by omega⟩ (by show 1920 + (j.val - 1920) = j.val; omega)).trans ?_
    rw [grp_v10]
    rw [if_neg (show ¬ neg j from fun h => by have h1 := h.1; have h2 := h.2.1; omega)]
    refine congrArg (fun k => argW m c (ix2 e k)) (Fin.ext ?_)
    simp only [src]; split_ifs <;> omega
  by_cases h8 : j.val < 2944
  · refine (Cert.Proof.Columns.at_piece (pieces m c) _ e j 8 (show _ < 15 by decide) (grp m c main_v11) rfl 2432 (by rfl) ⟨j.val - 2432, by omega⟩ (by show 2432 + (j.val - 2432) = j.val; omega)).trans ?_
    rw [grp_v11]
    rw [if_neg (show ¬ neg j from fun h => by have h1 := h.1; have h2 := h.2.1; omega)]
    refine congrArg (fun k => argW m c (ix2 e k)) (Fin.ext ?_)
    simp only [src]; split_ifs <;> omega
  by_cases h9 : j.val < 3456
  · refine (Cert.Proof.Columns.at_piece (pieces m c) _ e j 9 (show _ < 15 by decide) (grp m c main_v12) rfl 2944 (by rfl) ⟨j.val - 2944, by omega⟩ (by show 2944 + (j.val - 2944) = j.val; omega)).trans ?_
    rw [grp_v12]
    rw [if_neg (show ¬ neg j from fun h => by have h1 := h.1; have h2 := h.2.1; omega)]
    refine congrArg (fun k => argW m c (ix2 e k)) (Fin.ext ?_)
    simp only [src]; split_ifs <;> omega
  by_cases h10 : j.val < 3488
  · refine (Cert.Proof.Columns.at_piece (pieces m c) _ e j 10 (show _ < 15 by decide) (grp m c main_v3) rfl 3456 (by rfl) ⟨j.val - 3456, by omega⟩ (by show 3456 + (j.val - 3456) = j.val; omega)).trans ?_
    rw [grp_v3]
    rw [if_neg (show ¬ neg j from fun h => by have h1 := h.1; have h2 := h.2.1; omega)]
    refine congrArg (fun k => argW m c (ix2 e k)) (Fin.ext ?_)
    simp only [src]; split_ifs <;> omega
  by_cases h11 : j.val < 3520
  · refine (Cert.Proof.Columns.at_piece (pieces m c) _ e j 11 (show _ < 15 by decide) (grp m c main_v24) rfl 3488 (by rfl) ⟨j.val - 3488, by omega⟩ (by show 3488 + (j.val - 3488) = j.val; omega)).trans ?_
    rw [grp_v24]
    by_cases hp : j.val % 2 = 0
    · rw [if_pos (by show (j.val - 3488) % 2 = 0; omega), if_pos (show neg j from ⟨by omega, by omega, hp⟩)]
      refine congrArg (fun k => -(argW m c (ix2 e k))) (Fin.ext ?_)
      simp only [src]; split_ifs <;> omega
    · rw [if_neg (by show ¬ (j.val - 3488) % 2 = 0; omega), if_neg (show ¬ neg j from fun h => hp h.2.2)]
      refine congrArg (fun k => argW m c (ix2 e k)) (Fin.ext ?_)
      simp only [src]; split_ifs <;> omega
  by_cases h12 : j.val < 3552
  · refine (Cert.Proof.Columns.at_piece (pieces m c) _ e j 12 (show _ < 15 by decide) (grp m c main_v7) rfl 3520 (by rfl) ⟨j.val - 3520, by omega⟩ (by show 3520 + (j.val - 3520) = j.val; omega)).trans ?_
    rw [grp_v7]
    rw [if_neg (show ¬ neg j from fun h => by have h1 := h.1; have h2 := h.2.1; omega)]
    refine congrArg (fun k => argW m c (ix2 e k)) (Fin.ext ?_)
    simp only [src]; split_ifs <;> omega
  by_cases h13 : j.val < 3568
  · refine (Cert.Proof.Columns.at_piece (pieces m c) _ e j 13 (show _ < 15 by decide) (grp m c main_v13) rfl 3552 (by rfl) ⟨j.val - 3552, by omega⟩ (by show 3552 + (j.val - 3552) = j.val; omega)).trans ?_
    rw [grp_v13]
    rw [if_neg (show ¬ neg j from fun h => by have h1 := h.1; have h2 := h.2.1; omega)]
    refine congrArg (fun k => argW m c (ix2 e k)) (Fin.ext ?_)
    simp only [src]; split_ifs <;> omega
  refine (Cert.Proof.Columns.at_piece (pieces m c) _ e j 14 (show _ < 15 by decide) (grp m c main_v14) rfl 3568 (by rfl) ⟨j.val - 3568, by omega⟩ (by show 3568 + (j.val - 3568) = j.val; omega)).trans ?_
  rw [grp_v14]
  rw [if_neg (show ¬ neg j from fun h => by have h1 := h.1; have h2 := h.2.1; omega)]
  refine congrArg (fun k => argW m c (ix2 e k)) (Fin.ext ?_)
  simp only [src]; split_ifs <;> omega

/-! ## The blocks a point loads, at an index -/

/-- The token a point's row is. -/
abbrev trow (t : Fin cfg0.N) (r : Fin 512) : Fin 8192 := ⟨512 * (grid0.coords t 0).val + r.val, by have h : (grid0.coords t 0).val < 16 := (grid0.coords t 0).isLt; omega⟩

theorem x_block (c : Dev nD) (t : Fin cfg0.N) (r : Fin 512) (e : Fin 1024) :
    (iblk (F := Ideal) m c 0 t (ix2 r e) : EReal)
      = argX m c (ix3 ⟨(trow t r).val / 4096, by omega⟩ ⟨(trow t r).val % 4096, by omega⟩ e) := by
  have e0 : ((cfg0.win 0).blk t).view.emb (ix2 r e) = (ix2 (trow t r) e : S8192x1024.Idx) := by
    blk_ext [idx t] <;> (simp only [trow]; omega)
  show (V (F := Ideal) m c main_v27 (((cfg0.win 0).blk t).view.emb (ix2 r e)) : EReal) = _
  rw [e0, x_arr]

theorem md_block (c : Dev nD) (t : Fin cfg0.N) (r : Fin 512) (k : Fin 6) (e : Fin 1024) :
    (iblk (F := Ideal) m c 1 t (ix3 0 k e) : EReal)
      = argM m c (ix2 ⟨(trow t r).val / 4096, by omega⟩ ⟨k.val * 1024 + e.val, by omega⟩) := by
  have e0 : ((cfg0.win 1).blk t).view.emb (ix3 0 k e) = (ix3 ⟨(trow t r).val / 4096, by omega⟩ k e : S2x6x1024.Idx) := by
    blk_ext [idx t] <;> (simp only [trow]; omega)
  show (V (F := Ideal) m c main_v0 (((cfg0.win 1).blk t).view.emb (ix3 0 k e)) : EReal) = _
  rw [e0, md_arr]

theorem g_block (c : Dev nD) (t : Fin cfg0.N) (e : Fin 1024) :
    (iblk (F := Ideal) m c 2 t (ix2 0 e) : EReal) = argG m c (ix1 e) := by
  have e0 : ((cfg0.win 2).blk t).view.emb (ix2 0 e) = (ix2 0 e : S1x1024.Idx) := by
    blk_ext [idx t]
  show (V (F := Ideal) m c main_v28 (((cfg0.win 2).blk t).view.emb (ix2 0 e)) : EReal) = _
  rw [e0, g_arr]

theorem w_block (c : Dev nD) (t : Fin cfg0.N) (e : Fin 1024) (j : Fin 3584) :
    (iblk (F := Ideal) m c 3 t (ix2 e j) : EReal)
      = if neg j then -(argW m c (ix2 e (src j))) else argW m c (ix2 e (src j)) := by
  have e0 : ((cfg0.win 3).blk t).view.emb (ix2 e j) = (ix2 e j : S1024x3584.Idx) := by
    blk_ext [idx t]
  show (V (F := Ideal) m c main_v26 (((cfg0.win 3).blk t).view.emb (ix2 e j)) : EReal) = _
  rw [e0, w_arr]

end Cert.Kernel2Ideal.Proj

end
-- ==== Proof.ProjRef.lean ====
/-
  The input projection's reference, read at an index: the projection of the normalized and modulated tokens, its columns in
  the packed order with the rotated key's beside the key.
-/
module

public import proofs.«01_k».proof.Proof.Gen.Reference2Ideal.Read
public import proofs.«01_k».proof.Proof.ProjBody
public import proofs.«01_k».proof.Proof.ProjBlocks
public import Idealize.ShloMosaic.Lib.Pointwise
public import Idealize.ShloMosaic.Lib.Pipeline.ValueKit

@[expose] public section

set_option maxRecDepth 16384

noncomputable section

namespace Cert.Reference2Ideal.Proj

open Cert.Reference2Ideal Cert.Reference2Ideal.Gen Cert.Reference2Ideal.Read Idealize.ShloMosaic Idealize.ShloMosaic.TcCoe Idealize.SL.Sem
open Cert.Kernel2Ideal.Proj (modulated src neg)
open scoped BigOperators

variable (x0 : S2x4096x1024.Idx → EReal) (x1 : S2x6144.Idx → EReal) (x2 : S1024.Idx → EReal) (x3 : S1024x3552.Idx → EReal)

/-- The normalized and modulated token. -/
theorem xm_apply (b : Fin 2) (r : Fin 4096) (e : Fin 1024) :
    (val_main_v25 (F := Ideal) x0 x1 x2 (ix3 b r e) : EReal)
      = modulated (fun k => x0 (ix3 b r k)) (x2 (ix1 e)) (x1 (ix2 b ⟨1024 + e.val, by omega⟩)) (x1 (ix2 b ⟨e.val, by omega⟩)) e := by
  have ek : ∀ k, idx_main_v8 (idx_main_v9 (idx_main_v15 (ix3 b r e))) k = (ix3 b r k : S2x4096x1024.Idx) := fun k => by
    funext a; fin_cases a <;> rfl
  have eg : idx_main_v17 (idx_main_v18 (ix3 b r e)) = (ix1 e : S1024.Idx) := by
    funext a; fin_cases a <;> rfl
  have es : idx_main_v0 (idx_main_v2 (idx_main_v22 (ix3 b r e))) = (ix2 b ⟨1024 + e.val, by omega⟩ : S2x6144.Idx) := by
    funext a; fin_cases a <;> rfl
  have eh : idx_main_v0 (idx_main_v1 (idx_main_v24 (ix3 b r e))) = (ix2 b ⟨e.val, by omega⟩ : S2x6144.Idx) := by
    funext a; fin_cases a <;> rfl
  rw [val_main_v25_apply, val_main_v24_apply, val_main_v1_apply, val_main_v0_apply, val_main_v23_apply, val_main_v22_apply,
    val_main_v21_apply, val_main_v20_apply, val_main_cst_2_apply, val_main_v2_apply, val_main_v0_apply, val_main_v19_apply,
    val_main_v18_apply, val_main_v17_apply, val_main_v16_apply, val_main_v15_apply, val_main_v14_apply, val_main_v13_apply,
    val_main_v12_apply, val_main_cst_1_apply, val_main_v11_apply, val_main_v10_apply, val_main_cst_0_apply, val_main_v9_apply,
    val_main_v8_apply, val_main_cst_apply, eg, es, eh]
  have hs : (∑ k, val_main_v7 (F := Ideal) x0 (idx_main_v8 (idx_main_v9 (idx_main_v15 (ix3 b r e))) k) : EReal)
      = ∑ k, x0 (ix3 b r k) * x0 (ix3 b r k) :=
    Finset.sum_congr rfl fun k _ => by rw [ek, val_main_v7_apply]; rfl
  rw [hs, Ideal.ofBits_def, Ideal.ofBits_zero_f32, zero_add]
  rfl

/-- The projection. -/
theorem proj_apply (R : Fin 8192) (j : Fin 3552) :
    (val_main_v27 (F := Ideal) x0 x1 x2 x3 (ix2 R j) : EReal)
      = ∑ e : Fin 1024, modulated (fun k => x0 (ix3 ⟨R.val / 4096, by omega⟩ ⟨R.val % 4096, by omega⟩ k)) (x2 (ix1 e))
          (x1 (ix2 ⟨R.val / 4096, by omega⟩ ⟨1024 + e.val, by omega⟩)) (x1 (ix2 ⟨R.val / 4096, by omega⟩ ⟨e.val, by omega⟩)) e
          * x3 (ix2 e j) := by
  have e0 : idx_main_v27 (ix2 R j) = (ix3 ⟨R.val / 4096, by omega⟩ ⟨R.val % 4096, by omega⟩ j : S2x4096x3552.Idx) := by
    blk_ext
  rw [val_main_v27_apply, e0, val_main_v26_apply]
  refine Finset.sum_congr rfl fun e _ => ?_
  have el : lidx_main_v26 (ix3 ⟨R.val / 4096, by omega⟩ ⟨R.val % 4096, by omega⟩ j : S2x4096x3552.Idx) e
      = (ix3 ⟨R.val / 4096, by omega⟩ ⟨R.val % 4096, by omega⟩ e : S2x4096x1024.Idx) := by
    funext a; fin_cases a <;> rfl
  have er : ridx_main_v26 (ix3 ⟨R.val / 4096, by omega⟩ ⟨R.val % 4096, by omega⟩ j : S2x4096x3552.Idx) e
      = (ix2 e j : S1024x3552.Idx) := by
    funext a; fin_cases a <;> rfl
  rw [el, er, xm_apply]

/-- The rotated key: the pairs crosswise, the first of each negated. -/
theorem rot_apply (R : Fin 8192) (k : Fin 32) :
    (val_main_v38 (F := Ideal) x0 x1 x2 x3 (ix2 R k) : EReal)
      = if k.val % 2 = 0 then -(val_main_v27 (F := Ideal) x0 x1 x2 x3 (ix2 R ⟨k.val + 385, by omega⟩))
        else val_main_v27 (F := Ideal) x0 x1 x2 x3 (ix2 R ⟨k.val + 383, by omega⟩) := by
  rw [val_main_v38_apply]
  unfold val_main_v37 val_main_v35 val_main_v36 val_main_v32 val_main_v31 val_main_v34 val_main_v30 val_main_v33 val_main_v29 val_main_v28
  generalize val_main_v27 (F := Ideal) x0 x1 x2 x3 = P
  pointwise
  by_cases hk : k.val % 2 = 0
  · rw [dif_pos (by show (R.val * 32 + k.val) % 2 < 1; omega), if_pos hk]
    refine congrArg (fun i => -(P i)) ?_
    blk_ext
  · rw [dif_neg (by show ¬ (R.val * 32 + k.val) % 2 < 1; omega), if_neg hk]
    refine congrArg P ?_
    blk_ext

set_option maxHeartbeats 2000000 in
/-- THE REFERENCE at an index: the columns in the packed order. -/
theorem ref_apply (R : Fin 8192) (j : Fin 3584) :
    (val_main_v44 (F := Ideal) x0 x1 x2 x3 (ix2 R j) : EReal)
      = if neg j then -(val_main_v27 (F := Ideal) x0 x1 x2 x3 (ix2 R (src j)))
        else val_main_v27 (F := Ideal) x0 x1 x2 x3 (ix2 R (src j)) := by
  have hj := j.isLt
  unfold val_main_v44
  by_cases h0 : j.val < 384
  · refine (Cert.Proof.Columns.at_piece _ _ R j 0 (show _ < 7 by decide) (val_main_v39 (F := Ideal) x0 x1 x2 x3) rfl 0 (by rfl) ⟨j.val - 0, by omega⟩ (by show 0 + (j.val - 0) = j.val; omega)).trans ?_
    rw [val_main_v39_apply, if_neg (show ¬ neg j from fun h => by have h1 := h.1; have h2 := h.2.1; omega)]
    refine congrArg (val_main_v27 (F := Ideal) x0 x1 x2 x3) (funext fun a => Fin.ext ?_)
    match a with
    | ⟨0, _⟩ => rfl
    | ⟨1, _⟩ => show (j.val - 0) = (src j).val; simp only [src]; split_ifs <;> omega
  by_cases h1 : j.val < 1152
  · refine (Cert.Proof.Columns.at_piece _ _ R j 1 (show _ < 7 by decide) (val_main_v40 (F := Ideal) x0 x1 x2 x3) rfl 384 (by rfl) ⟨j.val - 384, by omega⟩ (by show 384 + (j.val - 384) = j.val; omega)).trans ?_
    rw [val_main_v40_apply, if_neg (show ¬ neg j from fun h => by have h1 := h.1; have h2 := h.2.1; omega)]
    refine congrArg (val_main_v27 (F := Ideal) x0 x1 x2 x3) (funext fun a => Fin.ext ?_)
    match a with
    | ⟨0, _⟩ => rfl
    | ⟨1, _⟩ => show 416 + (j.val - 384) = (src j).val; simp only [src]; split_ifs <;> omega
  by_cases h2 : j.val < 3456
  · refine (Cert.Proof.Columns.at_piece _ _ R j 2 (show _ < 7 by decide) (val_main_v41 (F := Ideal) x0 x1 x2 x3) rfl 1152 (by rfl) ⟨j.val - 1152, by omega⟩ (by show 1152 + (j.val - 1152) = j.val; omega)).trans ?_
    rw [val_main_v41_apply, if_neg (show ¬ neg j from fun h => by have h1 := h.1; have h2 := h.2.1; omega)]
    refine congrArg (val_main_v27 (F := Ideal) x0 x1 x2 x3) (funext fun a => Fin.ext ?_)
    match a with
    | ⟨0, _⟩ => rfl
    | ⟨1, _⟩ => show 1216 + (j.val - 1152) = (src j).val; simp only [src]; split_ifs <;> omega
  by_cases h3 : j.val < 3488
  · refine (Cert.Proof.Columns.at_piece _ _ R j 3 (show _ < 7 by decide) (val_main_v28 (F := Ideal) x0 x1 x2 x3) rfl 3456 (by rfl) ⟨j.val - 3456, by omega⟩ (by show 3456 + (j.val - 3456) = j.val; omega)).trans ?_
    rw [val_main_v28_apply, if_neg (show ¬ neg j from fun h => by have h1 := h.1; have h2 := h.2.1; omega)]
    refine congrArg (val_main_v27 (F := Ideal) x0 x1 x2 x3) (funext fun a => Fin.ext ?_)
    match a with
    | ⟨0, _⟩ => rfl
    | ⟨1, _⟩ => show 384 + (j.val - 3456) = (src j).val; simp only [src]; split_ifs <;> omega
  by_cases h4 : j.val < 3520
  · refine (Cert.Proof.Columns.at_piece _ _ R j 4 (show _ < 7 by decide) (val_main_v38 (F := Ideal) x0 x1 x2 x3) rfl 3488 (by rfl) ⟨j.val - 3488, by omega⟩ (by show 3488 + (j.val - 3488) = j.val; omega)).trans ?_
    rw [rot_apply]
    by_cases hp : j.val % 2 = 0
    · rw [if_pos (by show (j.val - 3488) % 2 = 0; omega), if_pos (show neg j from ⟨by omega, by omega, hp⟩)]
      refine congrArg (fun k => -(val_main_v27 (F := Ideal) x0 x1 x2 x3 (ix2 R k))) (Fin.ext ?_)
      simp only [src]; split_ifs <;> omega
    · rw [if_neg (by show ¬ (j.val - 3488) % 2 = 0; omega), if_neg (show ¬ neg j from fun h => hp h.2.2)]
      refine congrArg (fun k => val_main_v27 (F := Ideal) x0 x1 x2 x3 (ix2 R k)) (Fin.ext ?_)
      simp only [src]; split_ifs <;> omega
  by_cases h5 : j.val < 3552
  · refine (Cert.Proof.Columns.at_piece _ _ R j 5 (show _ < 7 by decide) (val_main_v42 (F := Ideal) x0 x1 x2 x3) rfl 3520 (by rfl) ⟨j.val - 3520, by omega⟩ (by show 3520 + (j.val - 3520) = j.val; omega)).trans ?_
    rw [val_main_v42_apply, if_neg (show ¬ neg j from fun h => by have h1 := h.1; have h2 := h.2.1; omega)]
    refine congrArg (val_main_v27 (F := Ideal) x0 x1 x2 x3) (funext fun a => Fin.ext ?_)
    match a with
    | ⟨0, _⟩ => rfl
    | ⟨1, _⟩ => show 1184 + (j.val - 3520) = (src j).val; simp only [src]; split_ifs <;> omega
  refine (Cert.Proof.Columns.at_piece _ _ R j 6 (show _ < 7 by decide) (val_main_v43 (F := Ideal) x0 x1 x2 x3) rfl 3552 (by rfl) ⟨j.val - 3552, by omega⟩ (by show 3552 + (j.val - 3552) = j.val; omega)).trans ?_
  rw [val_main_v43_apply, if_neg (show ¬ neg j from fun h => by have h1 := h.1; have h2 := h.2.1; omega)]
  refine congrArg (val_main_v27 (F := Ideal) x0 x1 x2 x3) (funext fun a => Fin.ext ?_)
  match a with
  | ⟨0, _⟩ => rfl
  | ⟨1, _⟩ => show 3520 + (j.val - 3552) = (src j).val; simp only [src]; split_ifs <;> omega

end Cert.Reference2Ideal.Proj

end
-- ==== Proof.ProjFinal.lean ====
/-
  The input projection's output array after the run: entry by entry the reference's, for finite tokens, modulation, gain and
  weights. Finiteness is needed in the rotated key's columns, where the kernel's weights are negated and the reference's
  products.
-/
module

public import proofs.«01_k».proof.Proof.Pre
public import proofs.«01_k».proof.Proof.Gen.Pre_finite_inputs
public import proofs.«01_k».proof.Proof.ProjBody
public import proofs.«01_k».proof.Proof.ProjReal
public import proofs.«01_k».proof.Proof.ProjBlocks
public import proofs.«01_k».proof.Proof.ProjRef

@[expose] public section

set_option maxRecDepth 16384

noncomputable section

namespace Cert.Pre_finite_inputs

open Cert.Pre_finite_inputs Cert.Pre_finite_inputs.Gen Idealize.ShloMosaic

instance : Subsingleton S_.Idx := ⟨fun a b => funext fun i => i.elim0⟩

/-- What the precondition says. -/
theorem real_of_pre (x0 : S2x4096x1024.Idx → EReal) (x1 : S2x6144.Idx → EReal) (x2 : S1024.Idx → EReal)
    (x3 : S1024x3552.Idx → EReal) (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ ∀ i, ∃ r : ℝ, x3 i = (r : EReal) := by
  have h' := congrFun h (Shape.Idx.first h_S_)
  unfold fn at h'
  obtain ⟨h012, h3⟩ := IntOp.andi_eq_one.1 h'
  obtain ⟨h01, h2⟩ := IntOp.andi_eq_one.1 h012
  obtain ⟨h0, h1⟩ := IntOp.andi_eq_one.1 h01
  exact ⟨fun i => Cert.Pre_finite_scores.real_of_test _ (Host.reduce_andi_all _ _ _ _ _ h0 i),
    fun i => Cert.Pre_finite_scores.real_of_test _ (Host.reduce_andi_all _ _ _ _ _ h1 i),
    fun i => Cert.Pre_finite_scores.real_of_test _ (Host.reduce_andi_all _ _ _ _ _ h2 i),
    fun i => Cert.Pre_finite_scores.real_of_test _ (Host.reduce_andi_all _ _ _ _ _ h3 i)⟩

end Cert.Pre_finite_inputs

namespace Cert.Kernel2Ideal.Proj

open Cert.Kernel2Ideal Cert.Kernel2Ideal.Gen Idealize.ShloMosaic Idealize.ShloMosaic.TcCoe Idealize.SL.Sem
open scoped BigOperators

variable (m : (ℓ : Loc nD τ sig) → Buf (Elt Ideal) ℓ)

/-- The projection of the arrays as launched, by the reference's own term. -/
def G (c : Dev nD) : S8192x3584.Idx → EReal :=
  Cert.Reference2Ideal.Read.val_main_v44 (F := Ideal) (argX m c) (argM m c) (argG m c) (argW m c)

/-- The entry a point computes, over the arrays as launched. -/
theorem entry_block (c : Dev nD) (t : Fin cfg0.N) (r : Fin 512) (j : Fin 3584)
    (h0 : ∀ i, ∃ x : ℝ, argX m c i = (x : EReal)) (h1 : ∀ i, ∃ x : ℝ, argM m c i = (x : EReal))
    (h2 : ∀ i, ∃ x : ℝ, argG m c i = (x : EReal)) (h3 : ∀ i, ∃ x : ℝ, argW m c i = (x : EReal)) :
    (out0_4 (F := Ideal) (iblk m c 0 t) (iblk m c 1 t) (iblk m c 2 t) (iblk m c 3 t) (ix2 r j) : EReal)
      = G m c (ix2 (trow t r) j) := by
  have hm : ∀ e : Fin 1024, modulated (fun k => iblk (F := Ideal) m c 0 t (ix2 r k)) (iblk (F := Ideal) m c 2 t (ix2 0 e))
        (iblk (F := Ideal) m c 1 t (ix3 0 1 e)) (iblk (F := Ideal) m c 1 t (ix3 0 0 e)) e
      = modulated (fun k => argX m c (ix3 ⟨(trow t r).val / 4096, by omega⟩ ⟨(trow t r).val % 4096, by omega⟩ k)) (argG m c (ix1 e))
          (argM m c (ix2 ⟨(trow t r).val / 4096, by omega⟩ ⟨1024 + e.val, by omega⟩))
          (argM m c (ix2 ⟨(trow t r).val / 4096, by omega⟩ ⟨e.val, by omega⟩)) e := fun e => by
    have hx : (fun k => iblk (F := Ideal) m c 0 t (ix2 r k) : Fin 1024 → EReal)
        = fun k => argX m c (ix3 ⟨(trow t r).val / 4096, by omega⟩ ⟨(trow t r).val % 4096, by omega⟩ k) := funext fun k => x_block m c t r k
    have i1 : (⟨(1 : Fin 6).val * 1024 + e.val, by have : (1 : Fin 6).val = 1 := rfl; omega⟩ : Fin 6144) = ⟨1024 + e.val, by omega⟩ :=
      Fin.ext (by show 1 * 1024 + e.val = 1024 + e.val; omega)
    have i0 : (⟨(0 : Fin 6).val * 1024 + e.val, by have : (0 : Fin 6).val = 0 := rfl; omega⟩ : Fin 6144) = ⟨e.val, by omega⟩ :=
      Fin.ext (by show 0 * 1024 + e.val = e.val; omega)
    exact (congr (congr (congr (congr (congrArg modulated hx) (g_block m c t e))
      ((md_block m c t r 1 e).trans (congrArg (fun k => argM m c (ix2 _ k)) i1)))
      ((md_block m c t r 0 e).trans (congrArg (fun k => argM m c (ix2 _ k)) i0))) (rfl : e = e))
  refine (body_apply _ _ _ _ r j).trans ?_
  unfold G
  rw [Cert.Reference2Ideal.Proj.ref_apply]
  have hmr := fun e : Fin 1024 => modulated_real (fun k => argX m c (ix3 ⟨(trow t r).val / 4096, by omega⟩ ⟨(trow t r).val % 4096, by omega⟩ k)) (argG m c (ix1 e))
          (argM m c (ix2 ⟨(trow t r).val / 4096, by omega⟩ ⟨1024 + e.val, by omega⟩))
          (argM m c (ix2 ⟨(trow t r).val / 4096, by omega⟩ ⟨e.val, by omega⟩)) e (fun k => h0 _) (h2 _) (h1 _) (h1 _)
  rw [Cert.Reference2Ideal.Proj.proj_apply]
  by_cases hn : neg j
  · rw [if_pos hn, ← sum_neg_real _ _ hmr (fun e => h3 _)]
    exact Finset.sum_congr rfl fun e _ => congrArg₂ (· * ·) (hm e) ((w_block m c t e j).trans (if_pos hn))
  · rw [if_neg hn]
    exact Finset.sum_congr rfl fun e _ => congrArg₂ (· * ·) (hm e) ((w_block m c t e j).trans (if_neg hn))

/-- THE ARRAY AFTER THE RUN. -/
theorem final (c : Dev nD)
    (h0 : ∀ i, ∃ x : ℝ, argX m c i = (x : EReal)) (h1 : ∀ i, ∃ x : ℝ, argM m c i = (x : EReal))
    (h2 : ∀ i, ∃ x : ℝ, argG m c i = (x : EReal)) (h3 : ∀ i, ∃ x : ℝ, argW m c i = (x : EReal)) :
    (dats (F := Ideal) m 0 c).arrAt 4 cfg0.N = G m c := by
  refine (dats m 0 c).arrAt_eq_of_covers 4 _ (by decide +kernel) fun t hf y => ?_
  blk_simp
  rw [after0_4]
  obtain ⟨r, j, rfl⟩ : ∃ (r : Fin 512) (j : Fin 3584), y = ix2 r j := ⟨y 0, y 1, eq_ix2 y⟩
  have e0 : ((cfg0.win 4).blk t).view.emb (ix2 r j) = (ix2 (trow t r) j : S8192x3584.Idx) := by
    blk_ext [idx t] <;> (simp only [trow]; omega)
  exact (entry_block m c t r j h0 h1 h2 h3).trans (congrArg (G m c) e0.symm)

end Cert.Kernel2Ideal.Proj

end
-- ==== Proof.ExpMath.lean ====
/-
  One expert's entry over the extended reals: the gated hidden row, its product with the output weights, and the routing
  weight.  Nothing here mentions a program.
-/
module

public import Idealize.ShloMosaic.Lib.Pointwise
public import Idealize.ShloMosaic.Lib.IdealHost

@[expose] public section

noncomputable section

namespace Cert.Proof.Expert

open Idealize.ShloMosaic
open scoped BigOperators

/-- One hidden unit of a token row `x`: the first projection through `z / (1 + e⁻ᶻ)`, times the second. -/
def hidden (x : Fin 1024 → EReal) (w1 w3 : Fin 1024 → Fin 1024 → EReal) (f : Fin 1024) : EReal :=
  (∑ k : Fin 1024, x k * w1 k f) * Ideal.logistic (∑ k : Fin 1024, x k * w1 k f) * ∑ k : Fin 1024, x k * w3 k f

/-- One entry of the expert's output row, times the token's weight. -/
def entry (x : Fin 1024 → EReal) (w1 w3 w2 : Fin 1024 → Fin 1024 → EReal) (g : EReal) (d : Fin 1024) : EReal :=
  (∑ f : Fin 1024, hidden x w1 w3 f * w2 f d) * g

/-- The hidden units in two halves, added to zero in turn. -/
theorem halves (h : Fin 1024 → EReal) :
    0 + (∑ f : Fin 512, h ⟨f.val, by omega⟩) + (∑ f : Fin 512, h ⟨512 + f.val, by omega⟩) = ∑ f : Fin 1024, h f := by
  rw [zero_add]
  exact (Fin.sum_univ_add (a := 512) (b := 512) h).symm

/-- A sum over lanes of which one alone is read. -/
theorem lane (h : Fin 128 → EReal) (i : Fin 128) : (∑ l : Fin 128, if l = i then h l else 0) = h i := by
  rw [Finset.sum_ite_eq' Finset.univ i h, if_pos (Finset.mem_univ i)]

end Cert.Proof.Expert

end
-- ==== Proof.ExpBody.lean ====
/-
  One grid point of the experts' kernel: what it stores, read at an index.
-/
module

public import proofs.«01_k».proof.Proof.Gen.Kernel3Ideal.Value
public import proofs.«01_k».proof.Proof.ExpMath
public import Idealize.ShloMosaic.Lib.Pointwise
public import Idealize.ShloMosaic.Lib.Pipeline.ValueKit

@[expose] public section

set_option maxRecDepth 16384

noncomputable section

namespace Cert.Kernel3Ideal.Exp

open Cert.Kernel3Ideal Cert.Kernel3Ideal.Gen Idealize.ShloMosaic Idealize.ShloMosaic.TcCoe Idealize.SL.Sem
open Cert.Proof.Expert
open scoped BigOperators

/-! ## The body's parts at an index -/

/-- The rows in the scratch buffer. -/
theorem rows_apply (v : Vec Ideal S1x1024x1024 .f32) (r k : Fin 1024) :
    (k0_pay2 (F := Ideal) v (ix2 r k) : EReal) = v (ix3 0 r k) := by
  unfold k0_pay2
  pointwise

/-- The weight column: of the row's further lanes, the expert's own. -/
theorem gate_apply (i : grid0.Coords) (v : Vec Ideal S1x1024x128 .f32) (r : Fin 1024) :
    (k0_pay3 (F := Ideal) i v (ix2 r 0) : EReal) = ∑ l : Fin 128, if l = (⟨(i 0).val, by have h : (i 0).val < 16 := (i 0).isLt; omega⟩ : Fin 128) then v (ix3 0 r l) else 0 := by
  unfold k0_pay3
  pointwise
  refine Finset.sum_congr rfl fun l _ => ?_
  by_cases hl : l = (⟨(i 0).val, by have h : (i 0).val < 16 := (i 0).isLt; omega⟩ : Fin 128)
  · rw [if_pos hl, hl]
    simp [Scalar.select, IntOp.cmpi]
  · rw [if_neg hl]
    have h16 : (i 0).val < 16 := (i 0).isLt
    have hne : BitVec.ofNat 32 l.val ≠ BitVec.ofNat 32 (i 0).val := fun e => by
      have := congrArg BitVec.toNat e
      simp only [BitVec.toNat_ofNat] at this
      exact hl (Fin.ext (by show l.val = (i 0).val; omega))
    have hb : (BitVec.ofNat 32 l.val == BitVec.ofNat 32 (i 0).val) = false := by rw [beq_eq_false_iff_ne]; exact hne
    simp [Scalar.select, IntOp.cmpi, hb]

/-- Half of the hidden units. -/
theorem half_apply (a b : Vec Ideal S1024x1024 .bf16) (v w : Vec Ideal S1x1x1024x512 .f32) (r : Fin 1024) (f : Fin 512) :
    (k0_pay5 (F := Ideal) a v b w (ix2 r f) : EReal)
      = (∑ k : Fin 1024, a (ix2 r k) * v (ix4 0 0 k f)) * Ideal.logistic (∑ k : Fin 1024, a (ix2 r k) * v (ix4 0 0 k f))
          * ∑ k : Fin 1024, b (ix2 r k) * w (ix4 0 0 k f) := by
  unfold k0_pay5
  pointwise

/-- The stored entry. -/
theorem store_apply (g : FVec Ideal S1024x1 .f32) (z : FVec Ideal S1024x1024 .f32) (h : FVec Ideal S1024x512 .f32) (u u' : Vec Ideal S1x1x512x1024 .f32)
    (a b : Vec Ideal S1024x1024 .bf16) (v w : Vec Ideal S1x1x1024x512 .f32) (r d : Fin 1024) :
    (k0_pay1 (F := Ideal) g z h u a v b w u' (ix3 0 r d) : EReal)
      = ((z (ix2 r d) + ∑ f : Fin 512, h (ix2 r f) * u (ix4 0 0 f d))
          + ∑ f : Fin 512, k0_pay5 (F := Ideal) a v b w (ix2 r f) * u' (ix4 0 0 f d)) * g (ix2 r 0) := by
  unfold k0_pay1 k0_pay5
  pointwise

theorem zero_apply (r d : Fin 1024) : (k0_pay4 (F := Ideal) (ix2 r d) : EReal) = 0 := by
  unfold k0_pay4
  pointwise

/-! ## What a point stores -/

variable (m : (ℓ : Loc nD τ sig) → Buf (Elt Ideal) ℓ)

/-- The expert of a point. -/
abbrev ex (t : Fin cfg0.N) : Fin 16 := ⟨(grid0.coords t 0).val, (grid0.coords t 0).isLt⟩

/-- THE BODY'S RESULT at an index of the block. -/
theorem outs_apply (c : Dev nD) (t : Fin cfg0.N) (r d : Fin 1024) :
    (outsAt0 (F := Ideal) m c t (ix3 0 r d) : EReal)
      = entry (fun k => iblk (F := Ideal) m c 0 t (ix3 0 r ⟨k.val, by omega⟩)) (fun k f => iblk (F := Ideal) m c 1 t (ix4 0 0 k f))
          (fun k f => iblk (F := Ideal) m c 2 t (ix4 0 0 k f)) (fun f d => iblk (F := Ideal) m c 3 t (ix4 0 0 f d))
          (iblk (F := Ideal) m c 0 t (ix3 0 r ⟨1024 + (ex t).val, by omega⟩)) d := by
  unfold outsAt0
  frame_out
  generalize iblk (F := Ideal) m c 0 t = X
  generalize iblk (F := Ideal) m c 1 t = W1
  generalize iblk (F := Ideal) m c 2 t = W3
  generalize iblk (F := Ideal) m c 3 t = W2
  refine (store_apply _ _ _ _ _ _ _ _ _ r d).trans ?_
  unfold entry
  refine congrArg₂ (· * ·) ?_ ?_
  · refine Eq.trans (congrArg₂ (· + ·) (congrArg₂ (· + ·) (zero_apply r d) (Finset.sum_congr rfl fun f _ => congrArg₂ (· * ·) (half_apply _ _ _ _ r f) rfl))
      (Finset.sum_congr rfl fun f _ => congrArg₂ (· * ·) (half_apply _ _ _ _ r f) rfl)) ?_
    rw [← halves]
    simp only [rows_apply]
    refine congrArg₂ (· + ·) (congrArg (0 + ·) (Finset.sum_congr rfl fun f _ => ?_)) (Finset.sum_congr rfl fun f _ => ?_)
    · pointwise
      rfl
    · pointwise
      rfl
  · refine (gate_apply _ _ r).trans ((lane _ _).trans ?_)
    pointwise

end Cert.Kernel3Ideal.Exp

end
-- ==== Proof.Gather.lean ====
/-
  Two gathers read at an index: whole rows of a matrix at an array of row numbers, and single entries of a matrix at an
  array of pairs.  A start index is read signed and clamped into the operand.
-/
module

public import Idealize.ShloMosaic.PureOps
public import Idealize.ShloMosaic.Lib.ValueIdxCore
public import Idealize.ShloMosaic.Lib.Pointwise

@[expose] public section

noncomputable section

namespace Cert.Proof.Gather

open Idealize.ShloMosaic

variable {α : Type}

theorem one_ne : ¬ (1 : Fin 2) = 0 := by decide

/-! ## Rows -/

/-- The dimension numbers of a gather of whole rows of an operand `[N, C]` at row numbers `[R, K, 1]`. -/
abbrev rowDims (N C R K : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- Entry `(a, b, j)` is the operand at row `idx[a, b, 0]`, clamped into `[0, N − 1]`, column `j`. -/
theorem rows_apply {N C R K w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (a : Fin R) (b : Fin K) (j : Fin C) :
    Host.gather (rowDims N C R K wf) x idx (ix3 a b j)
      = x (ix2 ⟨min (idx (ix3 a b 0)).toInt.toNat (N - 1), by omega⟩ j) := by
  unfold Host.gather
  congr 1
  funext e
  refine Fin.ext ?_
  show (rowDims N C R K wf).start (ix3 a b j) idx e + (rowDims N C R K wf).batchCoord (ix3 a b j) e
      + (rowDims N C R K wf).offCoord (ix3 a b j) e = _
  rw [GatherDims.batchCoord_eq_zero _ _ _ List.not_mem_nil]
  have h01 : e = 0 ∨ e = 1 := by
    match e with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R K wf).startIndexMap from List.mem_singleton.mpr rfl)]
    have hsi : (rowDims N C R K wf).siIdx (ix3 a b j) ⟨List.idxOf (0 : Fin 2) (rowDims N C R K wf).startIndexMap,
        List.idxOf_lt_length_iff.2 (List.mem_singleton.mpr rfl)⟩ = ix3 a b 0 := by
      funext f; refine Fin.ext ?_
      match f with
      | ⟨0, _⟩ => rfl
      | ⟨1, _⟩ => rfl
      | ⟨2, _⟩ => rfl
    rw [hsi]
    rfl
  · have hs : (rowDims N C R K wf).start (ix3 a b j) idx 1 = 0 := by
      unfold GatherDims.start
      rw [dif_neg (show (1 : Fin 2) ∉ (rowDims N C R K wf).startIndexMap from fun h => absurd (List.mem_singleton.1 h) one_ne)]
    rw [hs]
    simp only [Nat.zero_add]
    unfold GatherDims.offCoord
    rw [dif_pos ((GatherDims.mem_sKept _ _).2 ⟨fun h => absurd (List.mem_singleton.1 h) one_ne, List.not_mem_nil⟩)]
    rfl

/-! ## Single entries -/

/-- The dimension numbers of a gather of single entries of an operand `[N, M]` at pairs `[R, K, 2]`. -/
abbrev pairDims (N M R K : Nat)
    (wf : GatherDims.WF ⟨2, ![N, M]⟩ ⟨3, ![R, K, 2]⟩ ⟨2, ![R, K]⟩ [] [0, 1] [] [0, 1] [] 2 ![1, 1]) :
    GatherDims ⟨2, ![N, M]⟩ ⟨3, ![R, K, 2]⟩ ⟨2, ![R, K]⟩ where
  offsetDims := []
  collapsedSliceDims := [0, 1]
  operandBatchingDims := []
  startIndicesBatchingDims := []
  startIndexMap := [0, 1]
  indexVectorDim := 2
  sliceSizes := ![1, 1]
  wf := wf

/-- Entry `(a, b)` is the operand at `(idx[a, b, 0], idx[a, b, 1])`, each clamped into its axis. -/
theorem pairs_apply {N M R K w : Nat} (hN : 0 < N) (hM : 0 < M)
    (wf : GatherDims.WF ⟨2, ![N, M]⟩ ⟨3, ![R, K, 2]⟩ ⟨2, ![R, K]⟩ [] [0, 1] [] [0, 1] [] 2 ![1, 1])
    (x : (⟨2, ![N, M]⟩ : Shape).Idx → α) (idx : IVec ⟨3, ![R, K, 2]⟩ w) (a : Fin R) (b : Fin K) :
    Host.gather (pairDims N M R K wf) x idx (ix2 a b)
      = x (ix2 ⟨min (idx (ix3 a b 0)).toInt.toNat (N - 1), by omega⟩ ⟨min (idx (ix3 a b 1)).toInt.toNat (M - 1), by omega⟩) := by
  unfold Host.gather
  congr 1
  funext e
  refine Fin.ext ?_
  show (pairDims N M R K wf).start (ix2 a b) idx e + (pairDims N M R K wf).batchCoord (ix2 a b) e
      + (pairDims N M R K wf).offCoord (ix2 a b) e = _
  rw [GatherDims.batchCoord_eq_zero _ _ _ List.not_mem_nil]
  have h01 : e = 0 ∨ e = 1 := by
    match e with
    | ⟨0, _⟩ => exact Or.inl rfl
    | ⟨1, _⟩ => exact Or.inr rfl
  have hmem : e ∈ ([0, 1] : List (Fin 2)) := by
    rcases h01 with rfl | rfl
    · exact List.mem_cons_self
    · exact List.mem_cons_of_mem _ List.mem_cons_self
  rw [GatherDims.offCoord_eq_zero _ _ _ (fun h => ((GatherDims.mem_sKept _ _).mp h).1 hmem)]
  simp only [Nat.add_zero]
  unfold GatherDims.start
  rw [dif_pos (show e ∈ (pairDims N M R K wf).startIndexMap from hmem)]
  rcases h01 with rfl | rfl
  · have hsi : (pairDims N M R K wf).siIdx (ix2 a b) ⟨List.idxOf (0 : Fin 2) (pairDims N M R K wf).startIndexMap,
        List.idxOf_lt_length_iff.2 hmem⟩ = ix3 a b 0 := by
      funext f; refine Fin.ext ?_
      match f with
      | ⟨0, _⟩ => rfl
      | ⟨1, _⟩ => rfl
      | ⟨2, _⟩ => rfl
    rw [hsi]
    rfl
  · have hsi : (pairDims N M R K wf).siIdx (ix2 a b) ⟨List.idxOf (1 : Fin 2) (pairDims N M R K wf).startIndexMap,
        List.idxOf_lt_length_iff.2 hmem⟩ = ix3 a b 1 := by
      funext f; refine Fin.ext ?_
      match f with
      | ⟨0, _⟩ => rfl
      | ⟨1, _⟩ => rfl
      | ⟨2, _⟩ => rfl
    rw [hsi]
    rfl

/-! ## The wrapped row number -/

/-- A row number wrapped once when negative, then clamped into the rows: what indexing an array of 8192 rows does. -/
def wrap (i : BitVec 32) : Fin 8192 :=
  ⟨min (Scalar.select (IntOp.cmpi .slt i 0#32) (IntOp.addi i 8192#32) i).toInt.toNat (8192 - 1), by omega⟩

end Cert.Proof.Gather

end
-- ==== Proof.ExpBlocks.lean ====
/-
  The blocks the experts' grid points load, read at an index: the gathered token rows with their weights beside them, and
  the expert's three weight matrices.
-/
module

public import proofs.«01_k».proof.Proof.Gen.Kernel3Ideal.Value
public import proofs.«01_k».proof.Proof.Columns
public import proofs.«01_k».proof.Proof.Gather
public import proofs.«01_k».proof.Proof.ExpBody
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Kernel3Ideal.Exp

open Cert.Kernel3Ideal Cert.Kernel3Ideal.Gen Idealize.ShloMosaic Idealize.ShloMosaic.TcCoe Idealize.SL.Sem
open Cert.Proof.Gather
open scoped BigOperators

variable (m : (ℓ : Loc nD τ sig) → Buf (Elt Ideal) ℓ)

/-- Where each window's block lies at each point of the grid. -/
theorem idx : ∀ t : Fin cfg0.N,
    win0_0.index t = ![(grid0.coords t 0).val, 0, 0]
    ∧ win0_1.index t = ![0, (grid0.coords t 0).val, 0, 0]
    ∧ win0_2.index t = ![0, (grid0.coords t 0).val, 0, 0]
    ∧ win0_3.index t = ![0, (grid0.coords t 0).val, 0, 0]
    ∧ win0_4.index t = ![(grid0.coords t 0).val, 0, 0] :=
  (by decide +kernel : ∀ t : Fin grid0.N, _)

/-! ## The argument arrays -/

/-- The row numbers as launched. -/
abbrev argI (c : Dev nD) : S16x1024.Idx → BitVec 32 := m ((c : Thread nD τ).loc main_arg0)
/-- The tokens as launched. -/
abbrev argX (c : Dev nD) : S8192x1024.Idx → EReal := m ((c : Thread nD τ).loc main_arg1)
/-- The routing weights as launched. -/
abbrev argA (c : Dev nD) : S8192x16.Idx → EReal := m ((c : Thread nD τ).loc main_arg2)
/-- The first projection's weights as launched. -/
abbrev arg1 (c : Dev nD) : S2x16x1024x1024.Idx → EReal := m ((c : Thread nD τ).loc main_arg3)
/-- The second projection's weights as launched. -/
abbrev arg3 (c : Dev nD) : S2x16x1024x1024.Idx → EReal := m ((c : Thread nD τ).loc main_arg4)
/-- The output weights as launched. -/
abbrev arg2 (c : Dev nD) : S2x16x1024x1024.Idx → EReal := m ((c : Thread nD τ).loc main_arg5)

/-! ## The gathered rows -/

/-- The row number the gather takes. -/
abbrev rowOf (c : Dev nD) (a : Fin 16) (b : Fin 1024) : Fin 8192 := wrap (argI m c (ix2 a b))

/-- The buffers' contents where the host joins the rows. -/
abbrev grp (c : Dev nD) (b : Ref sig .tc) : Buf (Elt Ideal) ((c : Thread nD τ).loc b) :=
  StableHlo.upto (hostOps0 (F := Ideal)) (fun b => m (c, b)) 2 (Proc.tc.devRef b)

/-- The groups of columns the host joins: the token, its weights, zeros. -/
def pieces (c : Dev nD) : List ((s : Shape) × (s.Idx → EReal)) :=
  [⟨S8192x1024, grp m c main_arg1⟩, ⟨S8192x16, grp m c main_arg2⟩, ⟨S8192x112, grp m c main_v0⟩]

theorem grp_x (c : Dev nD) : grp m c main_arg1 = argX m c := by
  unfold grp
  after_reads_simp

theorem grp_a (c : Dev nD) : grp m c main_arg2 = argA m c := by
  unfold grp
  after_reads_simp

theorem xe_arr (c : Dev nD) (a : Fin 16) (b : Fin 1024) (j : Fin 1152) :
    (V (F := Ideal) m c main_v8 (ix3 a b j) : EReal)
      = concatenate S8192x1152 1 (pieces m c) concatenates_S8192x1024_S8192x16_S8192x112_S8192x1152_d1 (ix2 (rowOf m c a b) j) := by
  unfold V
  after_reads_simp
  refine (Cert.Proof.Gather.rows_apply (N := 8192) (C := 1152) (R := 16) (K := 1024) (by decide) _ _ _ a b j).trans ?_
  refine congrArg (concatenate S8192x1152 1 (pieces m c) concatenates_S8192x1024_S8192x16_S8192x112_S8192x1152_d1) ?_
  refine congrArg (fun i : Fin 8192 => (ix2 i j : S8192x1152.Idx)) (Fin.ext ?_)
  refine congrArg (fun i : BitVec 32 => min i.toInt.toNat (8192 - 1)) ?_
  pointwise

/-- A gathered row's token. -/
theorem xe_token (c : Dev nD) (a : Fin 16) (b k : Fin 1024) :
    (V (F := Ideal) m c main_v8 (ix3 a b ⟨k.val, by omega⟩) : EReal) = argX m c (ix2 (rowOf m c a b) k) := by
  rw [xe_arr]
  refine (Cert.Proof.Columns.at_piece (pieces m c) _ (rowOf m c a b) _ 0 (show _ < 3 by decide) (grp m c main_arg1) rfl 0 (by rfl) k
    (by show 0 + k.val = k.val; omega)).trans ?_
  rw [grp_x]

/-- A gathered row's weight for expert `e`. -/
theorem xe_gate (c : Dev nD) (a : Fin 16) (b : Fin 1024) (e : Fin 16) :
    (V (F := Ideal) m c main_v8 (ix3 a b ⟨1024 + e.val, by omega⟩) : EReal) = argA m c (ix2 (rowOf m c a b) e) := by
  rw [xe_arr]
  refine (Cert.Proof.Columns.at_piece (pieces m c) _ (rowOf m c a b) _ 1 (show _ < 3 by decide) (grp m c main_arg2) rfl 1024 (by rfl) e
    rfl).trans ?_
  rw [grp_a]

/-! ## The blocks -/

theorem token_block (c : Dev nD) (t : Fin cfg0.N) (r k : Fin 1024) :
    (iblk (F := Ideal) m c 0 t (ix3 0 r ⟨k.val, by omega⟩) : EReal) = argX m c (ix2 (rowOf m c (ex t) r) k) := by
  have e0 : ((cfg0.win 0).blk t).view.emb (ix3 0 r ⟨k.val, by omega⟩) = (ix3 (ex t) r ⟨k.val, by omega⟩ : S16x1024x1152.Idx) := by
    blk_ext [idx t]
  show (V (F := Ideal) m c main_v8 (((cfg0.win 0).blk t).view.emb (ix3 0 r ⟨k.val, by omega⟩)) : EReal) = _
  rw [e0, xe_token]

theorem gate_block (c : Dev nD) (t : Fin cfg0.N) (r : Fin 1024) :
    (iblk (F := Ideal) m c 0 t (ix3 0 r ⟨1024 + (ex t).val, by omega⟩) : EReal) = argA m c (ix2 (rowOf m c (ex t) r) (ex t)) := by
  have e0 : ((cfg0.win 0).blk t).view.emb (ix3 0 r ⟨1024 + (ex t).val, by omega⟩) = (ix3 (ex t) r ⟨1024 + (ex t).val, by omega⟩ : S16x1024x1152.Idx) := by
    blk_ext [idx t]
  show (V (F := Ideal) m c main_v8 (((cfg0.win 0).blk t).view.emb (ix3 0 r ⟨1024 + (ex t).val, by omega⟩)) : EReal) = _
  rw [e0, xe_gate]

theorem w1_block (c : Dev nD) (t : Fin cfg0.N) (k f : Fin 1024) :
    (iblk (F := Ideal) m c 1 t (ix4 0 0 k f) : EReal) = arg1 m c (ix4 0 (ex t) k f) := by
  have e0 : ((cfg0.win 1).blk t).view.emb (ix4 0 0 k f) = (ix4 0 (ex t) k f : S2x16x1024x1024.Idx) := by
    blk_ext [idx t]
  show (V (F := Ideal) m c main_arg3 (((cfg0.win 1).blk t).view.emb (ix4 0 0 k f)) : EReal) = _
  rw [e0, V_main_arg3]

theorem w3_block (c : Dev nD) (t : Fin cfg0.N) (k f : Fin 1024) :
    (iblk (F := Ideal) m c 2 t (ix4 0 0 k f) : EReal) = arg3 m c (ix4 0 (ex t) k f) := by
  have e0 : ((cfg0.win 2).blk t).view.emb (ix4 0 0 k f) = (ix4 0 (ex t) k f : S2x16x1024x1024.Idx) := by
    blk_ext [idx t]
  show (V (F := Ideal) m c main_arg4 (((cfg0.win 2).blk t).view.emb (ix4 0 0 k f)) : EReal) = _
  rw [e0, V_main_arg4]

theorem w2_block (c : Dev nD) (t : Fin cfg0.N) (f d : Fin 1024) :
    (iblk (F := Ideal) m c 3 t (ix4 0 0 f d) : EReal) = arg2 m c (ix4 0 (ex t) f d) := by
  have e0 : ((cfg0.win 3).blk t).view.emb (ix4 0 0 f d) = (ix4 0 (ex t) f d : S2x16x1024x1024.Idx) := by
    blk_ext [idx t]
  show (V (F := Ideal) m c main_arg5 (((cfg0.win 3).blk t).view.emb (ix4 0 0 f d)) : EReal) = _
  rw [e0, V_main_arg5]

end Cert.Kernel3Ideal.Exp

end
-- ==== Proof.ExpRef.lean ====
/-
  The experts' reference, read at an index: the rows it gathers, the weight it gathers, and the gated feed-forward entry.
-/
module

public import proofs.«01_k».proof.Proof.Gen.Reference3Ideal.Read
public import proofs.«01_k».proof.Proof.Gather
public import proofs.«01_k».proof.Proof.ExpMath
public import Idealize.ShloMosaic.Lib.Pointwise
public import Idealize.ShloMosaic.Lib.Pipeline.ValueKit

@[expose] public section

set_option maxRecDepth 16384

noncomputable section

namespace Cert.Reference3Ideal.Exp

open Cert.Reference3Ideal Cert.Reference3Ideal.Gen Cert.Reference3Ideal.Read Idealize.ShloMosaic Idealize.ShloMosaic.TcCoe Idealize.SL.Sem
open Cert.Proof.Gather Cert.Proof.Expert
open scoped BigOperators

variable (x0 : S16x1024.Idx → BitVec 32) (x1 : S8192x1024.Idx → EReal) (x2 : S8192x16.Idx → EReal)
  (x3 x4 x5 : S2x16x1024x1024.Idx → EReal)

/-- The gathered token. -/
theorem token_apply (a : Fin 16) (b k : Fin 1024) :
    (val_main_v23 (F := Ideal) x0 x1 (ix3 a b k) : EReal) = x1 (ix2 (wrap (x0 (ix2 a b))) k) := by
  unfold val_main_v23
  refine (rows_apply (N := 8192) (C := 1024) (R := 16) (K := 1024) (by decide) _ _ _ a b k).trans ?_
  refine congrArg (fun i : Fin 8192 => x1 (ix2 i k)) (Fin.ext ?_)
  refine congrArg (fun i : BitVec 32 => min i.toInt.toNat (8192 - 1)) ?_
  unfold val_main_v22 val_main_v21 val_main_v18 val_main_v20 val_main_v17 val_main_v19 val_main_c_3 val_main_c_4
  pointwise

/-- The gathered weight. -/
theorem gate_apply (a : Fin 16) (b : Fin 1024) :
    (val_main_v16 (F := Ideal) x0 x2 (ix2 a b) : EReal) = x2 (ix2 (wrap (x0 (ix2 a b))) a) := by
  unfold val_main_v16
  refine (pairs_apply (N := 8192) (M := 16) (R := 16) (K := 1024) (by decide) (by decide) _ _ _ a b).trans ?_
  refine congrArg₂ (fun (i : Fin 8192) (e : Fin 16) => x2 (ix2 i e)) (Fin.ext ?_) (Fin.ext ?_)
  · refine congrArg (fun i : BitVec 32 => min i.toInt.toNat (8192 - 1)) ?_
    unfold val_main_v15 val_main_v13 val_main_v6 val_main_v3 val_main_v5 val_main_v2 val_main_v4 val_main_c val_main_c_0
    pointwise
  · have h : (val_main_v15 (F := Ideal) x0 (ix3 a b 1) : BitVec 32) = BitVec.ofNat 32 a.val := by
      unfold val_main_v15 val_main_v14 val_main_v12 val_main_v11 val_main_v8 val_main_v10 val_main_v9 val_main_v7 val_main_v1 val_main_v0
        val_main_c_1 val_main_c_2
      pointwise
      revert a
      decide
    have h2 : ∀ e : Fin 16, min (BitVec.ofNat 32 e.val).toInt.toNat (16 - 1) = e.val := by decide
    exact (congrArg (fun i : BitVec 32 => min i.toInt.toNat (16 - 1)) h).trans (h2 a)

/-- The weights of the layer's first slot. -/
theorem w1_apply (a : Fin 16) (k f : Fin 1024) : (val_main_v25 (F := Ideal) x3 (ix3 a k f) : EReal) = x3 (ix4 0 a k f) := by
  rw [val_main_v25_apply, val_main_v24_apply]
  refine congrArg x3 ?_
  blk_ext

theorem w3_apply (a : Fin 16) (k f : Fin 1024) : (val_main_v29 (F := Ideal) x4 (ix3 a k f) : EReal) = x4 (ix4 0 a k f) := by
  rw [val_main_v29_apply, val_main_v28_apply]
  refine congrArg x4 ?_
  blk_ext

theorem w2_apply (a : Fin 16) (f d : Fin 1024) : (val_main_v33 (F := Ideal) x5 (ix3 a f d) : EReal) = x5 (ix4 0 a f d) := by
  rw [val_main_v33_apply, val_main_v32_apply]
  refine congrArg x5 ?_
  blk_ext

/-- The first projection. -/
theorem first_apply (a : Fin 16) (b f : Fin 1024) :
    (val_main_v26 (F := Ideal) x0 x1 x3 (ix3 a b f) : EReal)
      = ∑ k : Fin 1024, x1 (ix2 (wrap (x0 (ix2 a b))) k) * x3 (ix4 0 a k f) := by
  rw [val_main_v26_apply]
  refine Finset.sum_congr rfl fun k _ => ?_
  have el : lidx_main_v26 (ix3 a b f) k = (ix3 a b k : S16x1024x1024.Idx) := by
    funext a; fin_cases a <;> rfl
  have er : ridx_main_v26 (ix3 a b f) k = (ix3 a k f : S16x1024x1024.Idx) := by
    funext a; fin_cases a <;> rfl
  rw [el, er, token_apply, w1_apply]

/-- The second projection. -/
theorem second_apply (a : Fin 16) (b f : Fin 1024) :
    (val_main_v30 (F := Ideal) x0 x1 x4 (ix3 a b f) : EReal)
      = ∑ k : Fin 1024, x1 (ix2 (wrap (x0 (ix2 a b))) k) * x4 (ix4 0 a k f) := by
  rw [val_main_v30_apply]
  refine Finset.sum_congr rfl fun k _ => ?_
  have el : lidx_main_v30 (ix3 a b f) k = (ix3 a b k : S16x1024x1024.Idx) := by
    funext a; fin_cases a <;> rfl
  have er : ridx_main_v30 (ix3 a b f) k = (ix3 a k f : S16x1024x1024.Idx) := by
    funext a; fin_cases a <;> rfl
  rw [el, er, token_apply, w3_apply]

/-- One hidden unit. -/
theorem hidden_apply (a : Fin 16) (b f : Fin 1024) :
    (val_main_v31 (F := Ideal) x0 x1 x3 x4 (ix3 a b f) : EReal)
      = Cert.Proof.Expert.hidden (fun k => x1 (ix2 (wrap (x0 (ix2 a b))) k)) (fun k f => x3 (ix4 0 a k f))
          (fun k f => x4 (ix4 0 a k f)) f := by
  rw [val_main_v31_apply, val_main_v27_apply, val_main_call0_v5_apply, val_main_call0_v4_apply, val_main_call0_cst_0_apply,
    val_main_call0_v3_apply, val_main_call0_v2_apply, val_main_call0_cst_apply, val_main_call0_v1_apply, val_main_call0_v0_apply,
    first_apply, second_apply]
  simp only [Ideal.ofBits_def, Ideal.ofBits_one_f32]
  rfl

/-- THE ENTRY. -/
theorem ref_apply (a : Fin 16) (b d : Fin 1024) :
    (val_main_v37 (F := Ideal) x0 x1 x2 x3 x4 x5 (ix3 a b d) : EReal)
      = entry (fun k => x1 (ix2 (wrap (x0 (ix2 a b))) k)) (fun k f => x3 (ix4 0 a k f)) (fun k f => x4 (ix4 0 a k f))
          (fun f d => x5 (ix4 0 a f d)) (x2 (ix2 (wrap (x0 (ix2 a b))) a)) d := by
  have eg : idx_main_v35 (idx_main_v36 (ix3 a b d)) = (ix2 a b : S16x1024.Idx) := by
    funext a; fin_cases a <;> rfl
  rw [val_main_v37_apply, val_main_v36_apply, val_main_v35_apply, eg, gate_apply, val_main_v34_apply]
  refine congrArg (· * x2 (ix2 (wrap (x0 (ix2 a b))) a)) (Finset.sum_congr rfl fun f _ => ?_)
  have el : lidx_main_v34 (ix3 a b d) f = (ix3 a b f : S16x1024x1024.Idx) := by
    funext a; fin_cases a <;> rfl
  have er : ridx_main_v34 (ix3 a b d) f = (ix3 a f d : S16x1024x1024.Idx) := by
    funext a; fin_cases a <;> rfl
  rw [el, er, hidden_apply, w2_apply]

end Cert.Reference3Ideal.Exp

end
-- ==== Proof.ExpFinal.lean ====
/-
  The experts: the array after the grid's run is the reference's own term of the arrays as launched.
-/
module

public import proofs.«01_k».proof.Proof.ExpBody
public import proofs.«01_k».proof.Proof.ExpBlocks
public import proofs.«01_k».proof.Proof.ExpRef

@[expose] public section

set_option maxRecDepth 16384

noncomputable section

namespace Cert.Kernel3Ideal.Exp

open Cert.Kernel3Ideal Cert.Kernel3Ideal.Gen Idealize.ShloMosaic Idealize.ShloMosaic.TcCoe Idealize.SL.Sem
open Cert.Proof.Gather Cert.Proof.Expert
open scoped BigOperators

variable (m : (ℓ : Loc nD τ sig) → Buf (Elt Ideal) ℓ)

/-- The experts' rows of the arrays as launched, by the reference's own term. -/
def G (c : Dev nD) : S16x1024x1024.Idx → EReal :=
  Cert.Reference3Ideal.Read.val_main_v37 (F := Ideal) (argI m c) (argX m c) (argA m c) (arg1 m c) (arg3 m c) (arg2 m c)

/-- The entry a point computes, over the arrays as launched. -/
theorem entry_block (c : Dev nD) (t : Fin cfg0.N) (r d : Fin 1024) :
    (outsAt0 (F := Ideal) m c t (ix3 0 r d) : EReal) = G m c (ix3 (ex t) r d) := by
  refine (outs_apply m c t r d).trans ?_
  unfold G
  rw [Cert.Reference3Ideal.Exp.ref_apply, gate_block]
  have hx : (fun k : Fin 1024 => (iblk (F := Ideal) m c 0 t (ix3 0 r ⟨k.val, by omega⟩) : EReal))
      = fun k => argX m c (ix2 (rowOf m c (ex t) r) k) := funext fun k => token_block m c t r k
  have h1 : (fun k f : Fin 1024 => (iblk (F := Ideal) m c 1 t (ix4 0 0 k f) : EReal)) = fun k f => arg1 m c (ix4 0 (ex t) k f) :=
    funext fun k => funext fun f => w1_block m c t k f
  have h3 : (fun k f : Fin 1024 => (iblk (F := Ideal) m c 2 t (ix4 0 0 k f) : EReal)) = fun k f => arg3 m c (ix4 0 (ex t) k f) :=
    funext fun k => funext fun f => w3_block m c t k f
  have h2 : (fun f d : Fin 1024 => (iblk (F := Ideal) m c 3 t (ix4 0 0 f d) : EReal)) = fun f d => arg2 m c (ix4 0 (ex t) f d) :=
    funext fun f => funext fun d => w2_block m c t f d
  exact congrFun (congrFun (congr (congr (congr (congrArg entry hx) h1) h3) h2) _) d

/-- THE ARRAY AFTER THE RUN. -/
theorem final (c : Dev nD) : (dats (F := Ideal) m 0 c).arrAt 4 cfg0.N = G m c := by
  refine (dats m 0 c).arrAt_eq_of_covers 4 _ (by decide +kernel) fun t hf y => ?_
  blk_simp
  rw [after0_4]
  obtain ⟨z, r, d, rfl⟩ : ∃ (z : Fin 1) (r d : Fin 1024), y = ix3 z r d := ⟨y 0, y 1, y 2, eq_ix3 y⟩
  obtain rfl : z = 0 := Subsingleton.elim _ _
  have e0 : ((cfg0.win 4).blk t).view.emb (ix3 0 r d) = (ix3 (ex t) r d : S16x1024x1024.Idx) := by
    blk_ext [idx t]
  exact (entry_block m c t r d).trans (congrArg (G m c) e0.symm)

end Cert.Kernel3Ideal.Exp

end
-- ==== Proof.PrepBody.lean ====
/-
  The latent expansion's five output blocks at a row and a column: the normalised latent rows times the weight columns,
  the key lanes shared by the heads, and the lanes kept at zero.
-/
module

public import proofs.«01_k».proof.Proof.Gen.Kernel4Ideal.Value
public import proofs.«01_k».proof.Proof.Columns
public import Idealize.ShloMosaic.Lib.Pointwise
public import Idealize.ShloMosaic.Lib.Pipeline.ValueKit

@[expose] public section

set_option maxRecDepth 16384

noncomputable section

namespace Cert.Proof.Prep

open Idealize.ShloMosaic
open scoped BigOperators

/-- One entry of the row `x` normalised by its mean square over `N` entries, times the gain `g`. -/
def normed {n : Nat} (N : BitVec 32) (x g : Fin n → EReal) (e : Fin n) : EReal :=
  x e * Ideal.rsqrt (Ideal.div (∑ k : Fin n, x k * x k) (Ideal.ofBits .f32 N) + Ideal.ofBits .f32 0x358637BD#32) * g e

end Cert.Proof.Prep

namespace Cert.Kernel4Ideal.Prep

open Cert.Kernel4Ideal Cert.Kernel4Ideal.Gen Idealize.ShloMosaic Idealize.SL.Sem
open Cert.Proof.Prep
open scoped BigOperators

/-- The normalised key and value latent. -/
theorem latent_apply (x : Vec Ideal S256x128 .f32) (g : Vec Ideal S1x128 .f32) (r : Fin 256) (e : Fin 128) :
    (k0_pay5 (F := Ideal) x g (ix2 r e) : EReal)
      = normed 0x43000000#32 (fun k : Fin 128 => x (ix2 r k)) (fun k => g (ix2 0 k)) e := by
  unfold k0_pay5 normed
  pointwise

/-- The values, transposed. -/
theorem values_apply (a : FVec Ideal S256x128 .f32) (w : Vec Ideal S256x128 .bf16) (j r : Fin 256) :
    (k0_pay1 (F := Ideal) a w (ix2 j r) : EReal) = ∑ e : Fin 128, w (ix2 j e) * a (ix2 r e) := by
  unfold k0_pay1
  pointwise

/-- The rotary key as kept. -/
theorem rope_apply (x : Vec Ideal S256x128 .f32) (r : Fin 256) (e : Fin 32) :
    (k0_pay7 (F := Ideal) x (ix2 r e) : EReal) = x (ix2 r ⟨e.val, by omega⟩) := by
  unfold k0_pay7 k0_pay6
  pointwise
  blk_ext

/-- A table joined to itself four times. -/
theorem tile_apply (x : S256x128.Idx → EReal)
    (h : Shape.Concatenates (([⟨S256x128, x⟩, ⟨S256x128, x⟩, ⟨S256x128, x⟩, ⟨S256x128, x⟩] : List ((s : Shape) × (s.Idx → EReal))).map (·.1)) S256x512 1)
    (r : Fin 256) (hd : Fin 4) (e : Fin 128) :
    concatenate S256x512 1 [⟨S256x128, x⟩, ⟨S256x128, x⟩, ⟨S256x128, x⟩, ⟨S256x128, x⟩] h (ix2 r ⟨128 * hd.val + e.val, by omega⟩)
      = x (ix2 r e) := by
  match hd with
  | ⟨0, _⟩ => exact Cert.Proof.Columns.at_piece _ h r _ 0 (show _ < 4 by decide) x rfl 0 (by rfl) e (by show 0 + e.val = 128 * 0 + e.val; omega)
  | ⟨1, _⟩ => exact Cert.Proof.Columns.at_piece _ h r _ 1 (show _ < 4 by decide) x rfl 128 (by rfl) e (by show 128 + e.val = 128 * 1 + e.val; omega)
  | ⟨2, _⟩ => exact Cert.Proof.Columns.at_piece _ h r _ 2 (show _ < 4 by decide) x rfl 256 (by rfl) e (by show 256 + e.val = 128 * 2 + e.val; omega)
  | ⟨3, _⟩ => exact Cert.Proof.Columns.at_piece _ h r _ 3 (show _ < 4 by decide) x rfl 384 (by rfl) e (by show 384 + e.val = 128 * 3 + e.val; omega)

/-- The queries, where the second and third rotation tables are zero. -/
theorem queries_apply (t1 t2 t3 : Vec Ideal S256x128 .f32) (x : Vec Ideal S256x256 .f32) (g : Vec Ideal S1x256 .f32)
    (w : Vec Ideal S256x512 .bf16) (h2 : ∀ r e, t2 (ix2 r e) = (0 : EReal)) (h3 : ∀ r e, t3 (ix2 r e) = (0 : EReal))
    (r : Fin 256) (hd : Fin 4) (e : Fin 128) :
    (k0_pay4 (F := Ideal) t1 t2 t3 x g w (ix2 r ⟨128 * hd.val + e.val, by omega⟩) : EReal)
      = (∑ k : Fin 256, normed 0x43800000#32 (fun k : Fin 256 => x (ix2 r k)) (fun k => g (ix2 0 k)) k
          * w (ix2 k ⟨128 * hd.val + e.val, by omega⟩)) * t1 (ix2 r e) * Ideal.ofBits .f32 0x3DD105EC#32 := by
  unfold k0_pay4
  dsimp only
  generalize dynamicRotate _ _ _ _ _ = R1
  generalize dynamicRotate _ _ _ _ _ = R2
  have e1 := tile_apply (k0_pay2 (F := Ideal) t1) concatenates_S256x128_S256x128_S256x128_S256x128_S256x512_d1 r hd e
  have e2 := tile_apply (k0_pay3 (F := Ideal) t2) concatenates_S256x128_S256x128_S256x128_S256x128_S256x512_d1 r hd e
  have e3 := tile_apply (shapeCast S256x128 t3 shapeCasts_S256x128_S256x128) concatenates_S256x128_S256x128_S256x128_S256x128_S256x512_d1 r hd e
  have f1 : k0_pay2 (F := Ideal) t1 (ix2 r e) = t1 (ix2 r e) := by unfold k0_pay2; pointwise
  have f2 : k0_pay3 (F := Ideal) t2 (ix2 r e) = (0 : EReal) := by refine Eq.trans ?_ (h2 r e); unfold k0_pay3; pointwise
  have f3 : shapeCast S256x128 t3 shapeCasts_S256x128_S256x128 (ix2 r e) = (0 : EReal) := by refine Eq.trans ?_ (h3 r e); pointwise
  rw [f1] at e1
  rw [f2] at e2
  rw [f3] at e3
  generalize concatenate S256x512 1 [⟨S256x128, k0_pay2 (F := Ideal) t1⟩, _, _, _] _ = T1 at *
  generalize concatenate S256x512 1 [⟨S256x128, k0_pay3 (F := Ideal) t2⟩, _, _, _] _ = T2 at *
  generalize concatenate S256x512 1 _ _ = T3 at *
  refine Eq.trans (b := ((_ : EReal) * T1 (ix2 r ⟨128 * hd.val + e.val, by omega⟩) + R1 (ix2 r ⟨128 * hd.val + e.val, by omega⟩) * T2 (ix2 r ⟨128 * hd.val + e.val, by omega⟩)
    + R2 (ix2 r ⟨128 * hd.val + e.val, by omega⟩) * T3 (ix2 r ⟨128 * hd.val + e.val, by omega⟩)) * Ideal.ofBits .f32 0x3DD105EC#32) rfl ?_
  rw [e1, e2, e3, mul_zero, mul_zero, add_zero, add_zero]
  refine congrArg (fun z : EReal => z * t1 (ix2 r e) * Ideal.ofBits .f32 0x3DD105EC#32) ?_
  unfold normed
  pointwise

/-- The products of the normalised latent with the heads' key columns. -/
def nope (x : Vec Ideal S256x128 .f32) (g : Vec Ideal S1x128 .f32) (w : Vec Ideal S128x256 .bf16) (r j : Fin 256) : EReal :=
  ∑ k : Fin 128, normed 0x43000000#32 (fun k : Fin 128 => x (ix2 r k)) (fun k => g (ix2 0 k)) k * w (ix2 k j)

/-- Twelve groups of columns, three for each head: its own lanes, the shared lanes, the lanes kept at zero. -/
def groups (a0 a1 a2 a3 : S256x64.Idx → EReal) (b z : S256x32.Idx → EReal) : List ((s : Shape) × (s.Idx → EReal)) :=
  [⟨S256x64, a0⟩, ⟨S256x32, b⟩, ⟨S256x32, z⟩, ⟨S256x64, a1⟩, ⟨S256x32, b⟩, ⟨S256x32, z⟩, ⟨S256x64, a2⟩, ⟨S256x32, b⟩, ⟨S256x32, z⟩, ⟨S256x64, a3⟩, ⟨S256x32, b⟩, ⟨S256x32, z⟩]

/-- The groups joined. -/
def keys (a0 a1 a2 a3 : S256x64.Idx → EReal) (b z : S256x32.Idx → EReal) : S256x512.Idx → EReal :=
  concatenate S256x512 1 (groups a0 a1 a2 a3 b z)
    concatenates_S256x64_S256x32_S256x32_S256x64_S256x32_S256x32_S256x64_S256x32_S256x32_S256x64_S256x32_S256x32_S256x512_d1

/-- The joined groups at a column of a head's first group. -/
theorem keys_first (a0 a1 a2 a3 : S256x64.Idx → EReal) (b z : S256x32.Idx → EReal) (r : Fin 256) (hd : Fin 4) (e : Fin 64) :
    keys a0 a1 a2 a3 b z (ix2 r ⟨128 * hd.val + e.val, by omega⟩) = (![a0, a1, a2, a3] hd) (ix2 r e) := by
  match hd with
  | ⟨0, _⟩ => exact Cert.Proof.Columns.at_piece (groups a0 a1 a2 a3 b z) _ r _ 0 (show _ < 12 by decide) a0 rfl 0 (by rfl) e (by show 0 + e.val = 128 * 0 + e.val; omega)
  | ⟨1, _⟩ => exact Cert.Proof.Columns.at_piece (groups a0 a1 a2 a3 b z) _ r _ 3 (show _ < 12 by decide) a1 rfl 128 (by rfl) e (by show 128 + e.val = 128 * 1 + e.val; omega)
  | ⟨2, _⟩ => exact Cert.Proof.Columns.at_piece (groups a0 a1 a2 a3 b z) _ r _ 6 (show _ < 12 by decide) a2 rfl 256 (by rfl) e (by show 256 + e.val = 128 * 2 + e.val; omega)
  | ⟨3, _⟩ => exact Cert.Proof.Columns.at_piece (groups a0 a1 a2 a3 b z) _ r _ 9 (show _ < 12 by decide) a3 rfl 384 (by rfl) e (by show 384 + e.val = 128 * 3 + e.val; omega)

/-- The joined groups at a column of a head's second group. -/
theorem keys_second (a0 a1 a2 a3 : S256x64.Idx → EReal) (b z : S256x32.Idx → EReal) (r : Fin 256) (hd : Fin 4) (e : Fin 32) :
    keys a0 a1 a2 a3 b z (ix2 r ⟨128 * hd.val + (64 + e.val), by omega⟩) = b (ix2 r e) := by
  match hd with
  | ⟨0, _⟩ => exact Cert.Proof.Columns.at_piece (groups a0 a1 a2 a3 b z) _ r _ 1 (show _ < 12 by decide) b rfl 64 (by rfl) e (by show 64 + e.val = 128 * 0 + (64 + e.val); omega)
  | ⟨1, _⟩ => exact Cert.Proof.Columns.at_piece (groups a0 a1 a2 a3 b z) _ r _ 4 (show _ < 12 by decide) b rfl 192 (by rfl) e (by show 192 + e.val = 128 * 1 + (64 + e.val); omega)
  | ⟨2, _⟩ => exact Cert.Proof.Columns.at_piece (groups a0 a1 a2 a3 b z) _ r _ 7 (show _ < 12 by decide) b rfl 320 (by rfl) e (by show 320 + e.val = 128 * 2 + (64 + e.val); omega)
  | ⟨3, _⟩ => exact Cert.Proof.Columns.at_piece (groups a0 a1 a2 a3 b z) _ r _ 10 (show _ < 12 by decide) b rfl 448 (by rfl) e (by show 448 + e.val = 128 * 3 + (64 + e.val); omega)

/-- The joined groups at a column of a head's third group. -/
theorem keys_third (a0 a1 a2 a3 : S256x64.Idx → EReal) (b z : S256x32.Idx → EReal) (r : Fin 256) (hd : Fin 4) (e : Fin 32) :
    keys a0 a1 a2 a3 b z (ix2 r ⟨128 * hd.val + (96 + e.val), by omega⟩) = z (ix2 r e) := by
  match hd with
  | ⟨0, _⟩ => exact Cert.Proof.Columns.at_piece (groups a0 a1 a2 a3 b z) _ r _ 2 (show _ < 12 by decide) z rfl 96 (by rfl) e (by show 96 + e.val = 128 * 0 + (96 + e.val); omega)
  | ⟨1, _⟩ => exact Cert.Proof.Columns.at_piece (groups a0 a1 a2 a3 b z) _ r _ 5 (show _ < 12 by decide) z rfl 224 (by rfl) e (by show 224 + e.val = 128 * 1 + (96 + e.val); omega)
  | ⟨2, _⟩ => exact Cert.Proof.Columns.at_piece (groups a0 a1 a2 a3 b z) _ r _ 8 (show _ < 12 by decide) z rfl 352 (by rfl) e (by show 352 + e.val = 128 * 2 + (96 + e.val); omega)
  | ⟨3, _⟩ => exact Cert.Proof.Columns.at_piece (groups a0 a1 a2 a3 b z) _ r _ 11 (show _ < 12 by decide) z rfl 480 (by rfl) e (by show 480 + e.val = 128 * 3 + (96 + e.val); omega)

/-- The latent's products with all heads' key columns. -/
def products (x : Vec Ideal S256x128 .f32) (g : Vec Ideal S1x128 .f32) (w : Vec Ideal S128x256 .bf16) : FVec Ideal S256x256 .f32 :=
  matmul (φ₂ := .bf16) dot_S256x128_S128x256_S256x256_1_0_0_1_n_n none (truncf .bf16 (k0_pay5 (F := Ideal) x g) bitsLt_bf16_f32)
    (shapeCast S128x256 w shapeCasts_S128x256_S128x256) (constant S256x256 .f32 0x00000000#32)

theorem products_apply (x : Vec Ideal S256x128 .f32) (g : Vec Ideal S1x128 .f32) (w : Vec Ideal S128x256 .bf16) (r j : Fin 256) :
    (products x g w (ix2 r j) : EReal) = nope x g w r j := by
  unfold products nope
  simp only [← latent_apply]
  generalize k0_pay5 (F := Ideal) x g = y
  pointwise

/-- The shared lanes of the keys. -/
def shared (t1 t2 : FVec Ideal S256x128 .f32) (s : Vec Ideal S256x128 .f32) : FVec Ideal S256x32 .f32 :=
  addf (mulf (k0_pay7 (F := Ideal) s) (extractStridedSlice S256x32 ![0, 64] t1 slices_S256x128_o0_64_S256x32))
    (mulf (extractStridedSlice S256x32 ![0, 32] (k0_pay6 (F := Ideal) s) slices_S256x128_o0_32_S256x32)
      (extractStridedSlice S256x32 ![0, 64] t2 slices_S256x128_o0_64_S256x32))

theorem keys_eq (t1 t2 : FVec Ideal S256x128 .f32) (x : Vec Ideal S256x128 .f32) (g : Vec Ideal S1x128 .f32)
    (w : Vec Ideal S128x256 .bf16) (s : Vec Ideal S256x128 .f32) (i : S256x512.Idx) :
    (k0_pay8 (F := Ideal) t1 t2 x g w s i : EReal)
      = keys (extractStridedSlice S256x64 ![0, 0] (products x g w) slices_S256x256_o0_0_S256x64) (extractStridedSlice S256x64 ![0, 64] (products x g w) slices_S256x256_o0_64_S256x64)
          (extractStridedSlice S256x64 ![0, 128] (products x g w) slices_S256x256_o0_128_S256x64) (extractStridedSlice S256x64 ![0, 192] (products x g w) slices_S256x256_o0_192_S256x64)
          (shared t1 t2 s) (broadcast S256x32 (Scalar.ofBits (F := Ideal) .f32 0x00000000#32)) i := rfl

/-- The keys, at a head's own lanes. -/
theorem keys_nope (t1 t2 : FVec Ideal S256x128 .f32) (x : Vec Ideal S256x128 .f32) (g : Vec Ideal S1x128 .f32)
    (w : Vec Ideal S128x256 .bf16) (s : Vec Ideal S256x128 .f32) (r : Fin 256) (hd : Fin 4) (e : Fin 64) :
    (k0_pay8 (F := Ideal) t1 t2 x g w s (ix2 r ⟨128 * hd.val + e.val, by omega⟩) : EReal)
      = nope x g w r ⟨64 * hd.val + e.val, by omega⟩ := by
  rw [keys_eq, keys_first, ← products_apply]
  generalize products x g w = y
  match hd with
  | ⟨0, _⟩ => exact extractStridedSlice_apply ![0, 0] y slices_S256x256_o0_0_S256x64 (ix2 r e) (ix2 r ⟨64 * 0 + e.val, by omega⟩) (fun a => by match a with | ⟨0, _⟩ => exact (Nat.zero_add _).symm | ⟨1, _⟩ => rfl)
  | ⟨1, _⟩ => exact extractStridedSlice_apply ![0, 64] y slices_S256x256_o0_64_S256x64 (ix2 r e) (ix2 r ⟨64 * 1 + e.val, by omega⟩) (fun a => by match a with | ⟨0, _⟩ => exact (Nat.zero_add _).symm | ⟨1, _⟩ => rfl)
  | ⟨2, _⟩ => exact extractStridedSlice_apply ![0, 128] y slices_S256x256_o0_128_S256x64 (ix2 r e) (ix2 r ⟨64 * 2 + e.val, by omega⟩) (fun a => by match a with | ⟨0, _⟩ => exact (Nat.zero_add _).symm | ⟨1, _⟩ => rfl)
  | ⟨3, _⟩ => exact extractStridedSlice_apply ![0, 192] y slices_S256x256_o0_192_S256x64 (ix2 r e) (ix2 r ⟨64 * 3 + e.val, by omega⟩) (fun a => by match a with | ⟨0, _⟩ => exact (Nat.zero_add _).symm | ⟨1, _⟩ => rfl)

/-- The keys, at the shared lanes, where the rotation tables are one and zero. -/
theorem keys_rope (t1 t2 : FVec Ideal S256x128 .f32) (x : Vec Ideal S256x128 .f32) (g : Vec Ideal S1x128 .f32)
    (w : Vec Ideal S128x256 .bf16) (s : Vec Ideal S256x128 .f32) (r : Fin 256) (hd : Fin 4) (e : Fin 32)
    (h2 : ∀ r e, t2 (ix2 r e) = (0 : EReal)) (h1 : ∀ r (e : Fin 32), t1 (ix2 r ⟨64 + e.val, by omega⟩) = (1 : EReal)) :
    (k0_pay8 (F := Ideal) t1 t2 x g w s (ix2 r ⟨128 * hd.val + (64 + e.val), by omega⟩) : EReal)
      = s (ix2 r ⟨e.val, by omega⟩) := by
  rw [keys_eq, keys_second]
  refine Eq.trans (b := (k0_pay7 (F := Ideal) s (ix2 r e) * extractStridedSlice S256x32 ![0, 64] t1 slices_S256x128_o0_64_S256x32 (ix2 r e)
    + extractStridedSlice S256x32 ![0, 32] (k0_pay6 (F := Ideal) s) slices_S256x128_o0_32_S256x32 (ix2 r e)
      * extractStridedSlice S256x32 ![0, 64] t2 slices_S256x128_o0_64_S256x32 (ix2 r e) : EReal)) rfl ?_
  have e2 : extractStridedSlice S256x32 ![0, 64] t2 slices_S256x128_o0_64_S256x32 (ix2 r e) = (0 : EReal) :=
    (extractStridedSlice_apply _ t2 _ _ (ix2 r ⟨64 + e.val, by omega⟩) (fun a => by match a with | ⟨0, _⟩ => exact (Nat.zero_add _).symm | ⟨1, _⟩ => rfl)).trans (h2 _ _)
  have e1 : extractStridedSlice S256x32 ![0, 64] t1 slices_S256x128_o0_64_S256x32 (ix2 r e) = (1 : EReal) :=
    (extractStridedSlice_apply _ t1 _ _ (ix2 r ⟨64 + e.val, by omega⟩) (fun a => by match a with | ⟨0, _⟩ => exact (Nat.zero_add _).symm | ⟨1, _⟩ => rfl)).trans (h1 _ _)
  rw [e1, e2, mul_one, mul_zero, add_zero, rope_apply]

/-- The keys, at the lanes kept at zero. -/
theorem keys_zero (t1 t2 : FVec Ideal S256x128 .f32) (x : Vec Ideal S256x128 .f32) (g : Vec Ideal S1x128 .f32)
    (w : Vec Ideal S128x256 .bf16) (s : Vec Ideal S256x128 .f32) (r : Fin 256) (hd : Fin 4) (e : Fin 32) :
    (k0_pay8 (F := Ideal) t1 t2 x g w s (ix2 r ⟨128 * hd.val + (96 + e.val), by omega⟩) : EReal) = 0 := by
  rw [keys_eq, keys_third]
  exact Ideal.ofBits_zero_f32

/-! ## A load of a whole block is the block -/

theorem ld_128 {el : EltTy} (x : Vec Ideal S256x128 el) : View.ld x r0_0 = x := by
  funext i
  obtain ⟨a, b, rfl⟩ : ∃ a b, i = ix2 a b := ⟨i 0, i 1, eq_ix2 i⟩
  pointwise

theorem ld_256 {el : EltTy} (x : Vec Ideal S256x256 el) : View.ld x r0_1 = x := by
  funext i
  obtain ⟨a, b, rfl⟩ : ∃ a b, i = ix2 a b := ⟨i 0, i 1, eq_ix2 i⟩
  pointwise

theorem ld_gq {el : EltTy} (x : Vec Ideal S1x256 el) : View.ld x r0_2 = x := by
  funext i
  obtain ⟨a, b, rfl⟩ : ∃ a b, i = ix2 a b := ⟨i 0, i 1, eq_ix2 i⟩
  obtain rfl : a = 0 := Subsingleton.elim _ _
  pointwise

theorem ld_wq {el : EltTy} (x : Vec Ideal S256x512 el) : View.ld x r0_3 = x := by
  funext i
  obtain ⟨a, b, rfl⟩ : ∃ a b, i = ix2 a b := ⟨i 0, i 1, eq_ix2 i⟩
  pointwise

theorem ld_gkv {el : EltTy} (x : Vec Ideal S1x128 el) : View.ld x r0_4 = x := by
  funext i
  obtain ⟨a, b, rfl⟩ : ∃ a b, i = ix2 a b := ⟨i 0, i 1, eq_ix2 i⟩
  obtain rfl : a = 0 := Subsingleton.elim _ _
  pointwise

theorem ld_wk {el : EltTy} (x : Vec Ideal S128x256 el) : View.ld x r0_5 = x := by
  funext i
  obtain ⟨a, b, rfl⟩ : ∃ a b, i = ix2 a b := ⟨i 0, i 1, eq_ix2 i⟩
  pointwise

/-! ## The five output blocks -/

theorem q_out (x0 : Vec Ideal S256x256 .f32) (x1 x2 x3 x4 x5 : Vec Ideal S256x128 .f32) (x6 : Vec Ideal S1x256 .f32)
    (x7 : Vec Ideal S256x512 .bf16) (x8 : Vec Ideal S1x128 .f32) (x9 : Vec Ideal S128x256 .bf16) (x10 : Vec Ideal S256x128 .bf16)
    (h2 : ∀ r e, x4 (ix2 r e) = (0 : EReal)) (h3 : ∀ r e, x5 (ix2 r e) = (0 : EReal)) (r : Fin 256) (hd : Fin 4) (e : Fin 128) :
    (out0_11 (F := Ideal) x0 x1 x2 x3 x4 x5 x6 x7 x8 x9 x10 (ix2 r ⟨128 * hd.val + e.val, by omega⟩) : EReal)
      = (∑ k : Fin 256, normed 0x43800000#32 (fun k : Fin 256 => x0 (ix2 r k)) (fun k => x6 (ix2 0 k)) k
          * x7 (ix2 k ⟨128 * hd.val + e.val, by omega⟩)) * x3 (ix2 r e) * Ideal.ofBits .f32 0x3DD105EC#32 := by
  rw [← queries_apply x3 x4 x5 x0 x6 x7 h2 h3 r hd e]
  unfold out0_11
  rw [ld_128, ld_128, ld_128, ld_256, ld_gq, ld_wq]
  generalize k0_pay4 (F := Ideal) x3 x4 x5 x0 x6 x7 = y
  canon_tiles x h
  refine congrArg y (funext fun a => Fin.ext ?_)
  match a with
  | ⟨0, _⟩ => first | exact h0 | exact h0.symm
  | ⟨1, _⟩ => first | exact h1 | exact h1.symm

theorem k_out (x0 : Vec Ideal S256x256 .f32) (x1 x2 x3 x4 x5 : Vec Ideal S256x128 .f32) (x6 : Vec Ideal S1x256 .f32)
    (x7 : Vec Ideal S256x512 .bf16) (x8 : Vec Ideal S1x128 .f32) (x9 : Vec Ideal S128x256 .bf16) (x10 : Vec Ideal S256x128 .bf16) (r : Fin 256) (j : Fin 512) :
    (out0_12 (F := Ideal) x0 x1 x2 x3 x4 x5 x6 x7 x8 x9 x10 (ix2 r j) : EReal) = k0_pay8 (F := Ideal) (k0_pay2 x3) (k0_pay3 x4) x1 x8 x9 x2 (ix2 r j) := by
  unfold out0_12
  rw [ld_128, ld_128, ld_128, ld_128, ld_gkv, ld_wk]
  generalize k0_pay8 (F := Ideal) (k0_pay2 x3) (k0_pay3 x4) x1 x8 x9 x2 = y
  canon_tiles x h
  refine congrArg y (funext fun a => Fin.ext ?_)
  match a with
  | ⟨0, _⟩ => first | exact h0 | exact h0.symm
  | ⟨1, _⟩ => first | exact h1 | exact h1.symm

theorem v_out (x0 : Vec Ideal S256x256 .f32) (x1 x2 x3 x4 x5 : Vec Ideal S256x128 .f32) (x6 : Vec Ideal S1x256 .f32)
    (x7 : Vec Ideal S256x512 .bf16) (x8 : Vec Ideal S1x128 .f32) (x9 : Vec Ideal S128x256 .bf16) (x10 : Vec Ideal S256x128 .bf16) (j r : Fin 256) :
    (out0_13 (F := Ideal) x0 x1 x2 x3 x4 x5 x6 x7 x8 x9 x10 (ix2 j r) : EReal)
      = ∑ e : Fin 128, x10 (ix2 j e) * normed 0x43000000#32 (fun k : Fin 128 => x1 (ix2 r k)) (fun k => x8 (ix2 0 k)) e := by
  simp only [← latent_apply]
  rw [← values_apply]
  unfold out0_13
  rw [ld_128, ld_128, ld_gkv]
  generalize k0_pay1 (F := Ideal) (k0_pay5 x1 x8) x10 = y
  canon_tiles x h
  refine congrArg y (funext fun a => Fin.ext ?_)
  match a with
  | ⟨0, _⟩ => first | exact h0 | exact h0.symm
  | ⟨1, _⟩ => first | exact h1 | exact h1.symm

theorem ckv_out (x0 : Vec Ideal S256x256 .f32) (x1 x2 x3 x4 x5 : Vec Ideal S256x128 .f32) (x6 : Vec Ideal S1x256 .f32)
    (x7 : Vec Ideal S256x512 .bf16) (x8 : Vec Ideal S1x128 .f32) (x9 : Vec Ideal S128x256 .bf16) (x10 : Vec Ideal S256x128 .bf16) (r : Fin 256) (e : Fin 128) :
    (out0_14 (F := Ideal) x0 x1 x2 x3 x4 x5 x6 x7 x8 x9 x10 (ix2 r e) : EReal)
      = normed 0x43000000#32 (fun k : Fin 128 => x1 (ix2 r k)) (fun k => x8 (ix2 0 k)) e := by
  rw [← latent_apply]
  unfold out0_14
  rw [ld_128, ld_gkv]
  generalize k0_pay5 (F := Ideal) x1 x8 = y
  canon_tiles x h
  refine congrArg y (funext fun a => Fin.ext ?_)
  match a with
  | ⟨0, _⟩ => first | exact h0 | exact h0.symm
  | ⟨1, _⟩ => first | exact h1 | exact h1.symm

theorem kr_out (x0 : Vec Ideal S256x256 .f32) (x1 x2 x3 x4 x5 : Vec Ideal S256x128 .f32) (x6 : Vec Ideal S1x256 .f32)
    (x7 : Vec Ideal S256x512 .bf16) (x8 : Vec Ideal S1x128 .f32) (x9 : Vec Ideal S128x256 .bf16) (x10 : Vec Ideal S256x128 .bf16) (r : Fin 256) (e : Fin 32) :
    (out0_15 (F := Ideal) x0 x1 x2 x3 x4 x5 x6 x7 x8 x9 x10 (ix2 r e) : EReal) = x2 (ix2 r ⟨e.val, by omega⟩) := by
  rw [← rope_apply x2 r e]
  unfold out0_15
  rw [ld_128]
  generalize k0_pay7 (F := Ideal) x2 = y
  canon_tiles x h
  refine congrArg y (funext fun a => Fin.ext ?_)
  match a with
  | ⟨0, _⟩ => first | exact h0 | exact h0.symm
  | ⟨1, _⟩ => first | exact h1 | exact h1.symm

theorem t1_load (x : Vec Ideal S256x128 .f32) (i : S256x128.Idx) : k0_pay2 (F := Ideal) x i = x i := by
  obtain ⟨a, b, rfl⟩ : ∃ a b, i = ix2 a b := ⟨i 0, i 1, eq_ix2 i⟩
  unfold k0_pay2
  pointwise

theorem t2_load (x : Vec Ideal S256x128 .f32) (i : S256x128.Idx) : k0_pay3 (F := Ideal) x i = x i := by
  obtain ⟨a, b, rfl⟩ : ∃ a b, i = ix2 a b := ⟨i 0, i 1, eq_ix2 i⟩
  unfold k0_pay3
  pointwise

end Cert.Kernel4Ideal.Prep

end
-- ==== Proof.PrepBlocks.lean ====
/-
  The blocks the latent expansion's grid points load, read at an index: the latent columns of the projection in the order
  in which the host packs them, the tables, the gains, and the weights by head.
-/
module

public import proofs.«01_k».proof.Proof.PrepBody
public import Idealize.ShloMosaic.Lib.StableHlo.ReadAt

@[expose] public section

set_option maxRecDepth 16384

noncomputable section

namespace Cert.Kernel4Ideal.Prep

open Cert.Kernel4Ideal Cert.Kernel4Ideal.Gen Idealize.ShloMosaic Idealize.ShloMosaic.TcCoe Idealize.SL.Sem
open Cert.Proof.Prep
open scoped BigOperators

variable (m : (ℓ : Loc nD τ sig) → Buf (Elt Ideal) ℓ)

/-- Where each window's block lies at each point of the grid. -/
theorem idx : ∀ t : Fin cfg0.N,
    win0_0.index t = ![(grid0.coords t 0).val, 0] ∧ win0_1.index t = ![(grid0.coords t 0).val, 2]
    ∧ win0_2.index t = ![(grid0.coords t 0).val, 27] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![(grid0.coords t 0).val, 0]
    ∧ win0_12.index t = ![(grid0.coords t 0).val, 0] ∧ win0_13.index t = ![0, (grid0.coords t 0).val]
    ∧ win0_14.index t = ![(grid0.coords t 0).val, 0] ∧ win0_15.index t = ![(grid0.coords t 0).val, 0] :=
  (by decide +kernel : ∀ t : Fin grid0.N, _)

/-! ## The argument arrays -/

/-- The projection as launched. -/
abbrev argP (c : Dev nD) : S32x256x3552.Idx → EReal := m ((c : Thread nD τ).loc main_arg0)
/-- The query latent's gain as launched. -/
abbrev argGq (c : Dev nD) : S256.Idx → EReal := m ((c : Thread nD τ).loc main_arg1)
/-- The query weights as launched. -/
abbrev argWq (c : Dev nD) : S256x384.Idx → EReal := m ((c : Thread nD τ).loc main_arg2)
/-- The key and value latent's gain as launched. -/
abbrev argGk (c : Dev nD) : S128.Idx → EReal := m ((c : Thread nD τ).loc main_arg3)
/-- The key and value weights as launched. -/
abbrev argWk (c : Dev nD) : S128x512.Idx → EReal := m ((c : Thread nD τ).loc main_arg4)

/-! ## The projection's columns, packed -/

/-- The buffers' contents where the host joins the column groups. -/
abbrev grp (c : Dev nD) (b : Ref sig .tc) : Buf (Elt Ideal) ((c : Thread nD τ).loc b) :=
  StableHlo.upto (hostOps0 (F := Ideal)) (fun b => m (c, b)) 27 (Proc.tc.devRef b)

/-- The column groups in the order in which the host joins them. -/
def pieces (c : Dev nD) : List ((s : Shape) × (s.Idx → EReal)) :=
  [⟨S32x256x256, grp m c main_v0⟩, ⟨S32x256x128, grp m c main_v1⟩, ⟨S32x256x256, grp m c main_v3⟩, ⟨S32x256x256, grp m c main_v4⟩,
    ⟨S32x256x256, grp m c main_v5⟩, ⟨S32x256x256, grp m c main_v7⟩, ⟨S32x256x512, grp m c main_v8⟩, ⟨S32x256x512, grp m c main_v9⟩,
    ⟨S32x256x512, grp m c main_v10⟩, ⟨S32x256x512, grp m c main_v11⟩, ⟨S32x256x32, grp m c main_v2⟩, ⟨S32x256x32, grp m c main_v23⟩,
    ⟨S32x256x32, grp m c main_v6⟩, ⟨S32x256x16, grp m c main_v12⟩, ⟨S32x256x16, grp m c main_v13⟩]

theorem grp_q (c : Dev nD) (a : Fin 32) (b j : Fin 256) :
    (grp m c main_v0 (ix3 a b j) : EReal) = argP m c (ix3 a b ⟨j.val, by omega⟩) := by
  unfold grp
  after_reads_simp
  pointwise

theorem grp_kv (c : Dev nD) (a : Fin 32) (b : Fin 256) (j : Fin 128) :
    (grp m c main_v1 (ix3 a b j) : EReal) = argP m c (ix3 a b ⟨256 + j.val, by omega⟩) := by
  unfold grp
  after_reads_simp
  pointwise

theorem grp_kr (c : Dev nD) (a : Fin 32) (b : Fin 256) (j : Fin 32) :
    (grp m c main_v2 (ix3 a b j) : EReal) = argP m c (ix3 a b ⟨384 + j.val, by omega⟩) := by
  unfold grp
  after_reads_simp
  pointwise

set_option maxHeartbeats 2000000 in
theorem packed_eq (c : Dev nD) :
    V (F := Ideal) m c main_v25
      = shapeCast S8192x3584 (concatenate S32x256x3584 2 (pieces m c) concatenates_S32x256x256_S32x256x128_S32x256x256_S32x256x256_S32x256x256_S32x256x256_S32x256x512_S32x256x512_S32x256x512_S32x256x512_S32x256x32_S32x256x32_S32x256x32_S32x256x16_S32x256x16_S32x256x3584_d2)
          shapeCasts_S32x256x3584_S8192x3584 := by
  unfold V
  after_reads_simp
  rfl

theorem packed_apply (c : Dev nD) (R : Fin 8192) (j : Fin 3584) :
    (V (F := Ideal) m c main_v25 (ix2 R j) : EReal)
      = concatenate S32x256x3584 2 (pieces m c) concatenates_S32x256x256_S32x256x128_S32x256x256_S32x256x256_S32x256x256_S32x256x256_S32x256x512_S32x256x512_S32x256x512_S32x256x512_S32x256x32_S32x256x32_S32x256x32_S32x256x16_S32x256x16_S32x256x3584_d2
          (ix3 ⟨R.val / 256, by omega⟩ ⟨R.val % 256, by omega⟩ j) := by
  rw [packed_eq]
  generalize concatenate S32x256x3584 2 (pieces m c) _ = y
  pointwise

/-- A packed row's query latent. -/
theorem packed_q (c : Dev nD) (R : Fin 8192) (j : Fin 256) :
    (V (F := Ideal) m c main_v25 (ix2 R ⟨j.val, by omega⟩) : EReal)
      = argP m c (ix3 ⟨R.val / 256, by omega⟩ ⟨R.val % 256, by omega⟩ ⟨j.val, by omega⟩) := by
  rw [packed_apply]
  refine (Cert.Proof.Columns.at_piece3 (pieces m c) _ _ _ _ 0 (show _ < 15 by decide) (grp m c main_v0) rfl 0 (by rfl) j
    (by show 0 + j.val = j.val; omega)).trans ?_
  rw [grp_q]

/-- A packed row's key and value latent. -/
theorem packed_kv (c : Dev nD) (R : Fin 8192) (j : Fin 128) :
    (V (F := Ideal) m c main_v25 (ix2 R ⟨256 + j.val, by omega⟩) : EReal)
      = argP m c (ix3 ⟨R.val / 256, by omega⟩ ⟨R.val % 256, by omega⟩ ⟨256 + j.val, by omega⟩) := by
  rw [packed_apply]
  refine (Cert.Proof.Columns.at_piece3 (pieces m c) _ _ _ _ 1 (show _ < 15 by decide) (grp m c main_v1) rfl 256 (by rfl) j rfl).trans ?_
  rw [grp_kv]

/-- A packed row's rotary key. -/
theorem packed_kr (c : Dev nD) (R : Fin 8192) (j : Fin 32) :
    (V (F := Ideal) m c main_v25 (ix2 R ⟨3456 + j.val, by omega⟩) : EReal)
      = argP m c (ix3 ⟨R.val / 256, by omega⟩ ⟨R.val % 256, by omega⟩ ⟨384 + j.val, by omega⟩) := by
  rw [packed_apply]
  refine (Cert.Proof.Columns.at_piece3 (pieces m c) _ _ _ _ 10 (show _ < 15 by decide) (grp m c main_v2) rfl 3456 (by rfl) j rfl).trans ?_
  rw [grp_kr]

/-! ## The tables, the gains and the weights -/

theorem lit_row : ∀ j : Fin 128, lit0 (S8x128.rowMajor (ix2 0 j)) = (if j.val < 96 then 0x3F800000#32 else 0x00000000#32) := by
  decide +kernel

theorem t1_arr (c : Dev nD) (r : Fin 256) (j : Fin 128) :
    (V (F := Ideal) m c main_v50 (ix2 r j) : EReal) = (if j.val < 96 then 1 else 0 : EReal) := by
  entry_read
  pointwise
  rw [lit_row]
  split_ifs
  · exact Ideal.ofBits_one_f32
  · exact Ideal.ofBits_zero_f32

theorem t2_arr (c : Dev nD) (r : Fin 256) (j : Fin 128) : (V (F := Ideal) m c main_v52 (ix2 r j) : EReal) = (0 : EReal) := by
  entry_read
  pointwise

theorem t3_arr (c : Dev nD) (r : Fin 256) (j : Fin 128) : (V (F := Ideal) m c main_v54 (ix2 r j) : EReal) = (0 : EReal) := by
  entry_read
  pointwise

theorem gq_arr (c : Dev nD) (e : Fin 256) : (V (F := Ideal) m c main_v55 (ix2 0 e) : EReal) = argGq m c (ix1 e) := by
  entry_read
  pointwise

theorem gk_arr (c : Dev nD) (e : Fin 128) : (V (F := Ideal) m c main_v56 (ix2 0 e) : EReal) = argGk m c (ix1 e) := by
  entry_read
  pointwise

theorem wk_arr (c : Dev nD) (k : Fin 128) (hd : Fin 4) (e : Fin 64) :
    (V (F := Ideal) m c main_v44 (ix2 k ⟨64 * hd.val + e.val, by omega⟩) : EReal)
      = argWk m c (ix2 k ⟨128 * hd.val + e.val, by omega⟩) := by
  entry_read
  pointwise
  refine congrArg (argWk m c) ?_
  blk_ext

theorem wv_arr (c : Dev nD) (k : Fin 128) (hd : Fin 4) (e : Fin 64) :
    (V (F := Ideal) m c main_v48 (ix2 ⟨64 * hd.val + e.val, by omega⟩ k) : EReal)
      = argWk m c (ix2 k ⟨128 * hd.val + (64 + e.val), by omega⟩) := by
  entry_read
  pointwise
  refine congrArg (argWk m c) ?_
  blk_ext

theorem wq_arr (c : Dev nD) (k : Fin 256) (hd : Fin 4) (e : Fin 96) :
    (V (F := Ideal) m c main_v40 (ix2 k ⟨128 * hd.val + e.val, by omega⟩) : EReal)
      = argWq m c (ix2 k ⟨96 * hd.val + e.val, by omega⟩) := by
  entry_read
  pointwise
  rw [dif_pos (by omega)]
  refine congrArg (argWq m c) ?_
  blk_ext

/-! ## The blocks -/

/-- The token group of a grid point. -/
abbrev bt (t : Fin cfg0.N) : Fin 32 := ⟨(grid0.coords t 0).val, (grid0.coords t 0).isLt⟩

/-- The row of the packed arrays for row `r` of a grid point's block. -/
abbrev rowAt (t : Fin cfg0.N) (r : Fin 256) : Fin 8192 := ⟨256 * (bt t).val + r.val, by have := (bt t).isLt; omega⟩

theorem row_div (t : Fin cfg0.N) (r : Fin 256) (h) : (⟨(rowAt t r).val / 256, h⟩ : Fin 32) = bt t :=
  Fin.ext (by show (256 * (bt t).val + r.val) / 256 = (bt t).val; omega)

theorem row_mod (t : Fin cfg0.N) (r : Fin 256) (h) : (⟨(rowAt t r).val % 256, h⟩ : Fin 256) = r :=
  Fin.ext (by show (256 * (bt t).val + r.val) % 256 = r.val; omega)

theorem q_block (c : Dev nD) (t : Fin cfg0.N) (r k : Fin 256) :
    (iblk (F := Ideal) m c 0 t (ix2 r k) : EReal) = argP m c (ix3 (bt t) r ⟨k.val, by omega⟩) := by
  have e0 : ((cfg0.win 0).blk t).view.emb (ix2 r k) = (ix2 (rowAt t r) ⟨k.val, by omega⟩ : S8192x3584.Idx) := by
    blk_ext [idx t]
  show (V (F := Ideal) m c main_v25 (((cfg0.win 0).blk t).view.emb (ix2 r k)) : EReal) = _
  rw [e0, packed_q, row_div, row_mod]

theorem kv_block (c : Dev nD) (t : Fin cfg0.N) (r : Fin 256) (k : Fin 128) :
    (iblk (F := Ideal) m c 1 t (ix2 r k) : EReal) = argP m c (ix3 (bt t) r ⟨256 + k.val, by omega⟩) := by
  have e0 : ((cfg0.win 1).blk t).view.emb (ix2 r k) = (ix2 (rowAt t r) ⟨256 + k.val, by omega⟩ : S8192x3584.Idx) := by
    blk_ext [idx t]
  show (V (F := Ideal) m c main_v25 (((cfg0.win 1).blk t).view.emb (ix2 r k)) : EReal) = _
  rw [e0, packed_kv, row_div, row_mod]

theorem kr_block (c : Dev nD) (t : Fin cfg0.N) (r : Fin 256) (k : Fin 32) :
    (iblk (F := Ideal) m c 2 t (ix2 r ⟨k.val, by omega⟩) : EReal) = argP m c (ix3 (bt t) r ⟨384 + k.val, by omega⟩) := by
  have e0 : ((cfg0.win 2).blk t).view.emb (ix2 r ⟨k.val, by omega⟩) = (ix2 (rowAt t r) ⟨3456 + k.val, by omega⟩ : S8192x3584.Idx) := by
    blk_ext [idx t]
  show (V (F := Ideal) m c main_v25 (((cfg0.win 2).blk t).view.emb (ix2 r ⟨k.val, by omega⟩)) : EReal) = _
  rw [e0, packed_kr, row_div, row_mod]

theorem t1_block (c : Dev nD) (t : Fin cfg0.N) (r : Fin 256) (j : Fin 128) :
    (iblk (F := Ideal) m c 3 t (ix2 r j) : EReal) = (if j.val < 96 then 1 else 0 : EReal) := by
  have e0 : ((cfg0.win 3).blk t).view.emb (ix2 r j) = (ix2 r j : S256x128.Idx) := by
    blk_ext [idx t]
  show (V (F := Ideal) m c main_v50 (((cfg0.win 3).blk t).view.emb (ix2 r j)) : EReal) = _
  rw [e0, t1_arr]

theorem t2_block (c : Dev nD) (t : Fin cfg0.N) (r : Fin 256) (j : Fin 128) :
    (iblk (F := Ideal) m c 4 t (ix2 r j) : EReal) = (0 : EReal) := by
  have e0 : ((cfg0.win 4).blk t).view.emb (ix2 r j) = (ix2 r j : S256x128.Idx) := by
    blk_ext [idx t]
  show (V (F := Ideal) m c main_v52 (((cfg0.win 4).blk t).view.emb (ix2 r j)) : EReal) = _
  rw [e0, t2_arr]

theorem t3_block (c : Dev nD) (t : Fin cfg0.N) (r : Fin 256) (j : Fin 128) :
    (iblk (F := Ideal) m c 5 t (ix2 r j) : EReal) = (0 : EReal) := by
  have e0 : ((cfg0.win 5).blk t).view.emb (ix2 r j) = (ix2 r j : S256x128.Idx) := by
    blk_ext [idx t]
  show (V (F := Ideal) m c main_v54 (((cfg0.win 5).blk t).view.emb (ix2 r j)) : EReal) = _
  rw [e0, t3_arr]

theorem gq_block (c : Dev nD) (t : Fin cfg0.N) (k : Fin 256) :
    (iblk (F := Ideal) m c 6 t (ix2 0 k) : EReal) = argGq m c (ix1 k) := by
  have e0 : ((cfg0.win 6).blk t).view.emb (ix2 0 k) = (ix2 0 k : S1x256.Idx) := by
    blk_ext [idx t]
  show (V (F := Ideal) m c main_v55 (((cfg0.win 6).blk t).view.emb (ix2 0 k)) : EReal) = _
  rw [e0, gq_arr]

theorem wq_block (c : Dev nD) (t : Fin cfg0.N) (k : Fin 256) (hd : Fin 4) (e : Fin 96) :
    (iblk (F := Ideal) m c 7 t (ix2 k ⟨128 * hd.val + e.val, by omega⟩) : EReal) = argWq m c (ix2 k ⟨96 * hd.val + e.val, by omega⟩) := by
  have e0 : ((cfg0.win 7).blk t).view.emb (ix2 k ⟨128 * hd.val + e.val, by omega⟩) = (ix2 k ⟨128 * hd.val + e.val, by omega⟩ : S256x512.Idx) := by
    blk_ext [idx t]
  show (V (F := Ideal) m c main_v40 (((cfg0.win 7).blk t).view.emb (ix2 k ⟨128 * hd.val + e.val, by omega⟩)) : EReal) = _
  rw [e0, wq_arr]

theorem gk_block (c : Dev nD) (t : Fin cfg0.N) (k : Fin 128) :
    (iblk (F := Ideal) m c 8 t (ix2 0 k) : EReal) = argGk m c (ix1 k) := by
  have e0 : ((cfg0.win 8).blk t).view.emb (ix2 0 k) = (ix2 0 k : S1x128.Idx) := by
    blk_ext [idx t]
  show (V (F := Ideal) m c main_v56 (((cfg0.win 8).blk t).view.emb (ix2 0 k)) : EReal) = _
  rw [e0, gk_arr]

theorem wk_block (c : Dev nD) (t : Fin cfg0.N) (k : Fin 128) (hd : Fin 4) (e : Fin 64) :
    (iblk (F := Ideal) m c 9 t (ix2 k ⟨64 * hd.val + e.val, by omega⟩) : EReal) = argWk m c (ix2 k ⟨128 * hd.val + e.val, by omega⟩) := by
  have e0 : ((cfg0.win 9).blk t).view.emb (ix2 k ⟨64 * hd.val + e.val, by omega⟩) = (ix2 k ⟨64 * hd.val + e.val, by omega⟩ : S128x256.Idx) := by
    blk_ext [idx t]
  show (V (F := Ideal) m c main_v44 (((cfg0.win 9).blk t).view.emb (ix2 k ⟨64 * hd.val + e.val, by omega⟩)) : EReal) = _
  rw [e0, wk_arr]

theorem wv_block (c : Dev nD) (t : Fin cfg0.N) (k : Fin 128) (hd : Fin 4) (e : Fin 64) :
    (iblk (F := Ideal) m c 10 t (ix2 ⟨64 * hd.val + e.val, by omega⟩ k) : EReal) = argWk m c (ix2 k ⟨128 * hd.val + (64 + e.val), by omega⟩) := by
  have e0 : ((cfg0.win 10).blk t).view.emb (ix2 ⟨64 * hd.val + e.val, by omega⟩ k) = (ix2 ⟨64 * hd.val + e.val, by omega⟩ k : S256x128.Idx) := by
    blk_ext [idx t]
  show (V (F := Ideal) m c main_v48 (((cfg0.win 10).blk t).view.emb (ix2 ⟨64 * hd.val + e.val, by omega⟩ k)) : EReal) = _
  rw [e0, wv_arr]

end Cert.Kernel4Ideal.Prep

end
-- ==== Proof.PrepRef.lean ====
/-
  The latent expansion's reference at an index: each of its five results from the arrays it takes.
-/
module

public import proofs.«01_k».proof.Proof.PrepBody
public import proofs.«01_k».proof.Proof.Gen.Reference4Ideal.Read

@[expose] public section

set_option maxRecDepth 16384

noncomputable section

namespace Cert.Reference4Ideal.Prep

open Cert.Reference4Ideal Cert.Reference4Ideal.Gen Cert.Reference4Ideal.Read Idealize.ShloMosaic Idealize.ShloMosaic.TcCoe Idealize.SL.Sem
open Cert.Proof.Prep
open scoped BigOperators

variable (x0 : S32x256x3552.Idx → EReal) (x1 : S256.Idx → EReal) (x2 : S256x384.Idx → EReal) (x3 : S128.Idx → EReal)
  (x4 : S128x512.Idx → EReal)

/-- The row of a result for token `r` of group `b`. -/
abbrev rowAt (b : Fin 32) (r : Fin 256) : Fin 8192 := ⟨256 * b.val + r.val, by omega⟩

/-- The normalised query latent. -/
theorem qn_apply (b : Fin 32) (r e : Fin 256) :
    (val_main_v15 (F := Ideal) x0 x1 (ix3 b r e) : EReal)
      = normed 0x43800000#32 (fun k : Fin 256 => x0 (ix3 b r ⟨k.val, by omega⟩)) (fun k => x1 (ix1 k)) e := by
  have ek : ∀ k, idx_main_v0 (idx_main_v4 (idx_main_v5 (idx_main_v11 (ix3 b r e))) k) = (ix3 b r ⟨k.val, by omega⟩ : S32x256x3552.Idx) := fun k => by
    funext a; fin_cases a <;> rfl
  have ex : idx_main_v0 (ix3 b r e) = (ix3 b r ⟨e.val, by omega⟩ : S32x256x3552.Idx) := by
    funext a; fin_cases a <;> rfl
  have eg : idx_main_v13 (idx_main_v14 (ix3 b r e)) = (ix1 e : S256.Idx) := by
    funext a; fin_cases a <;> rfl
  rw [val_main_v15_apply, val_main_v14_apply, val_main_v13_apply, val_main_v12_apply, val_main_v11_apply, val_main_v10_apply,
    val_main_v9_apply, val_main_v8_apply, val_main_cst_1_apply, val_main_v7_apply, val_main_v6_apply, val_main_cst_0_apply,
    val_main_v5_apply, val_main_v4_apply, val_main_cst_apply, val_main_v0_apply, eg, ex]
  have hs : (∑ k, val_main_v3 (F := Ideal) x0 (idx_main_v4 (idx_main_v5 (idx_main_v11 (ix3 b r e))) k) : EReal)
      = ∑ k : Fin 256, x0 (ix3 b r ⟨k.val, by omega⟩) * x0 (ix3 b r ⟨k.val, by omega⟩) :=
    Finset.sum_congr rfl fun k _ => by rw [val_main_v3_apply, val_main_v0_apply, ek]; rfl
  rw [hs, Ideal.ofBits_def, Ideal.ofBits_zero_f32, zero_add]
  rfl

/-- The normalised key and value latent. -/
theorem cn_apply (b : Fin 32) (r : Fin 256) (e : Fin 128) :
    (val_main_v32 (F := Ideal) x0 x3 (ix3 b r e) : EReal)
      = normed 0x43000000#32 (fun k : Fin 128 => x0 (ix3 b r ⟨256 + k.val, by omega⟩)) (fun k => x3 (ix1 k)) e := by
  have ek : ∀ k, idx_main_v1 (idx_main_v21 (idx_main_v22 (idx_main_v28 (ix3 b r e))) k) = (ix3 b r ⟨256 + k.val, by omega⟩ : S32x256x3552.Idx) := fun k => by
    funext a; fin_cases a <;> rfl
  have ex : idx_main_v1 (ix3 b r e) = (ix3 b r ⟨256 + e.val, by omega⟩ : S32x256x3552.Idx) := by
    funext a; fin_cases a <;> rfl
  have eg : idx_main_v30 (idx_main_v31 (ix3 b r e)) = (ix1 e : S128.Idx) := by
    funext a; fin_cases a <;> rfl
  rw [val_main_v32_apply, val_main_v31_apply, val_main_v30_apply, val_main_v29_apply, val_main_v28_apply, val_main_v27_apply,
    val_main_v26_apply, val_main_v25_apply, val_main_cst_5_apply, val_main_v24_apply, val_main_v23_apply, val_main_cst_4_apply,
    val_main_v22_apply, val_main_v21_apply, val_main_cst_3_apply, val_main_v1_apply, eg, ex]
  have hs : (∑ k, val_main_v20 (F := Ideal) x0 (idx_main_v21 (idx_main_v22 (idx_main_v28 (ix3 b r e))) k) : EReal)
      = ∑ k : Fin 128, x0 (ix3 b r ⟨256 + k.val, by omega⟩) * x0 (ix3 b r ⟨256 + k.val, by omega⟩) :=
    Finset.sum_congr rfl fun k _ => by rw [val_main_v20_apply, val_main_v1_apply, ek]; rfl
  rw [hs, Ideal.ofBits_def, Ideal.ofBits_zero_f32, zero_add]
  rfl

/-- A query entry of a head, scaled. -/
theorem qh_apply (b : Fin 32) (r : Fin 256) (hd : Fin 4) (e : Fin 96) :
    (val_main_v19 (F := Ideal) x0 x1 x2 (ix4 b r hd e) : EReal)
      = (∑ k : Fin 256, normed 0x43800000#32 (fun k : Fin 256 => x0 (ix3 b r ⟨k.val, by omega⟩)) (fun k => x1 (ix1 k)) k
          * x2 (ix2 k ⟨96 * hd.val + e.val, by omega⟩)) * Ideal.ofBits .f32 0x3DD105EC#32 := by
  rw [val_main_v19_apply, val_main_v18_apply, val_main_cst_2_apply, val_main_v17_apply]
  have e0 : idx_main_v17 (ix4 b r hd e) = (ix3 b r ⟨96 * hd.val + e.val, by omega⟩ : S32x256x384.Idx) := by blk_ext
  rw [e0, val_main_v16_apply]
  refine congrArg (fun z : EReal => z * Ideal.ofBits .f32 0x3DD105EC#32) (Finset.sum_congr rfl fun k _ => ?_)
  have el : lidx_main_v16 (ix3 b r ⟨96 * hd.val + e.val, by omega⟩ : S32x256x384.Idx) k = (ix3 b r k : S32x256x256.Idx) := by
    funext a; fin_cases a <;> rfl
  have er : ridx_main_v16 (ix3 b r ⟨96 * hd.val + e.val, by omega⟩ : S32x256x384.Idx) k = (ix2 k ⟨96 * hd.val + e.val, by omega⟩ : S256x384.Idx) := by
    funext a; fin_cases a <;> rfl
  rw [el, er, qn_apply]

/-- A key or value entry of a head. -/
theorem kv_apply (b : Fin 32) (r : Fin 256) (hd : Fin 4) (e : Fin 128) :
    (val_main_v34 (F := Ideal) x0 x3 x4 (ix4 b r hd e) : EReal)
      = ∑ k : Fin 128, normed 0x43000000#32 (fun k : Fin 128 => x0 (ix3 b r ⟨256 + k.val, by omega⟩)) (fun k => x3 (ix1 k)) k
          * x4 (ix2 k ⟨128 * hd.val + e.val, by omega⟩) := by
  rw [val_main_v34_apply]
  have e0 : idx_main_v34 (ix4 b r hd e) = (ix3 b r ⟨128 * hd.val + e.val, by omega⟩ : S32x256x512.Idx) := by blk_ext
  rw [e0, val_main_v33_apply]
  refine Finset.sum_congr rfl fun k _ => ?_
  have el : lidx_main_v33 (ix3 b r ⟨128 * hd.val + e.val, by omega⟩ : S32x256x512.Idx) k = (ix3 b r k : S32x256x128.Idx) := by
    funext a; fin_cases a <;> rfl
  have er : ridx_main_v33 (ix3 b r ⟨128 * hd.val + e.val, by omega⟩ : S32x256x512.Idx) k = (ix2 k ⟨128 * hd.val + e.val, by omega⟩ : S128x512.Idx) := by
    funext a; fin_cases a <;> rfl
  rw [el, er, cn_apply]

theorem zeros_apply (i : S32x256x4x32.Idx) : (val_main_v40 (F := Ideal) i : EReal) = (0 : EReal) := by
  rw [val_main_v40_apply, val_main_cst_6_apply]
  exact Ideal.ofBits_zero_f32

/-- THE QUERIES, at a head's lanes. -/
theorem q_lanes (b : Fin 32) (r : Fin 256) (hd : Fin 4) (e : Fin 96) :
    (val_main_v43 (F := Ideal) x0 x1 x2 (ix2 (rowAt b r) ⟨128 * hd.val + e.val, by omega⟩) : EReal)
      = (∑ k : Fin 256, normed 0x43800000#32 (fun k : Fin 256 => x0 (ix3 b r ⟨k.val, by omega⟩)) (fun k => x1 (ix1 k)) k
          * x2 (ix2 k ⟨96 * hd.val + e.val, by omega⟩)) * Ideal.ofBits .f32 0x3DD105EC#32 := by
  rw [← qh_apply, val_main_v43_apply, val_main_v42_apply]
  have e0 : idx_main_v42 (ix2 (rowAt b r) ⟨128 * hd.val + e.val, by omega⟩) = (ix4 b r hd ⟨e.val, by omega⟩ : S32x256x4x128.Idx) := by blk_ext
  rw [e0]
  unfold val_main_v41
  generalize val_main_v19 (F := Ideal) x0 x1 x2 = y
  generalize val_main_v40 (F := Ideal) = z
  pointwise

/-- THE QUERIES, at the lanes kept at zero. -/
theorem q_zero (b : Fin 32) (r : Fin 256) (hd : Fin 4) (e : Fin 32) :
    (val_main_v43 (F := Ideal) x0 x1 x2 (ix2 (rowAt b r) ⟨128 * hd.val + (96 + e.val), by omega⟩) : EReal) = (0 : EReal) := by
  rw [val_main_v43_apply, val_main_v42_apply]
  have e0 : idx_main_v42 (ix2 (rowAt b r) ⟨128 * hd.val + (96 + e.val), by omega⟩) = (ix4 b r hd ⟨96 + e.val, by omega⟩ : S32x256x4x128.Idx) := by blk_ext
  rw [e0]
  unfold val_main_v41
  have hz := zeros_apply
  generalize val_main_v19 (F := Ideal) x0 x1 x2 = y
  generalize val_main_v40 (F := Ideal) = z at *
  pointwise
  exact hz _

/-- THE KEYS, at a head's own lanes. -/
theorem k_lanes (b : Fin 32) (r : Fin 256) (hd : Fin 4) (e : Fin 64) :
    (val_main_v46 (F := Ideal) x0 x3 x4 (ix2 (rowAt b r) ⟨128 * hd.val + e.val, by omega⟩) : EReal)
      = ∑ k : Fin 128, normed 0x43000000#32 (fun k : Fin 128 => x0 (ix3 b r ⟨256 + k.val, by omega⟩)) (fun k => x3 (ix1 k)) k
          * x4 (ix2 k ⟨128 * hd.val + e.val, by omega⟩) := by
  refine Eq.trans ?_ (kv_apply x0 x3 x4 b r hd ⟨e.val, by omega⟩)
  rw [val_main_v46_apply, val_main_v45_apply]
  have e0 : idx_main_v45 (ix2 (rowAt b r) ⟨128 * hd.val + e.val, by omega⟩) = (ix4 b r hd ⟨e.val, by omega⟩ : S32x256x4x128.Idx) := by blk_ext
  have e1 : idx_main_v35 (ix4 b r hd e) = (ix4 b r hd ⟨e.val, by omega⟩ : S32x256x4x128.Idx) := by
    funext a; fin_cases a <;> rfl
  rw [e0, ← e1, ← val_main_v35_apply, e1]
  unfold val_main_v44 val_main_v39
  generalize val_main_v35 (F := Ideal) x0 x3 x4 = y
  generalize val_main_v38 (F := Ideal) x0 = w
  generalize val_main_v40 (F := Ideal) = z
  pointwise
  rw [dif_pos (by omega)]

/-- THE KEYS, at the shared lanes. -/
theorem k_shared (b : Fin 32) (r : Fin 256) (hd : Fin 4) (e : Fin 32) :
    (val_main_v46 (F := Ideal) x0 x3 x4 (ix2 (rowAt b r) ⟨128 * hd.val + (64 + e.val), by omega⟩) : EReal)
      = x0 (ix3 b r ⟨384 + e.val, by omega⟩) := by
  have e1 : idx_main_v2 (idx_main_v37 (idx_main_v38 (ix4 b r hd e))) = (ix3 b r ⟨384 + e.val, by omega⟩ : S32x256x3552.Idx) := by
    blk_ext
  have e2 : (val_main_v38 (F := Ideal) x0 (ix4 b r hd e) : EReal) = x0 (ix3 b r ⟨384 + e.val, by omega⟩) := by
    rw [val_main_v38_apply, val_main_v37_apply, val_main_v2_apply, e1]
  rw [← e2, val_main_v46_apply, val_main_v45_apply]
  have e0 : idx_main_v45 (ix2 (rowAt b r) ⟨128 * hd.val + (64 + e.val), by omega⟩) = (ix4 b r hd ⟨64 + e.val, by omega⟩ : S32x256x4x128.Idx) := by blk_ext
  rw [e0]
  unfold val_main_v44 val_main_v39
  generalize val_main_v35 (F := Ideal) x0 x3 x4 = y
  generalize val_main_v38 (F := Ideal) x0 = w
  generalize val_main_v40 (F := Ideal) = z
  pointwise
  rw [dif_pos (by omega)]

/-- THE KEYS, at the lanes kept at zero. -/
theorem k_zero (b : Fin 32) (r : Fin 256) (hd : Fin 4) (e : Fin 32) :
    (val_main_v46 (F := Ideal) x0 x3 x4 (ix2 (rowAt b r) ⟨128 * hd.val + (96 + e.val), by omega⟩) : EReal) = (0 : EReal) := by
  rw [val_main_v46_apply, val_main_v45_apply]
  have e0 : idx_main_v45 (ix2 (rowAt b r) ⟨128 * hd.val + (96 + e.val), by omega⟩) = (ix4 b r hd ⟨96 + e.val, by omega⟩ : S32x256x4x128.Idx) := by blk_ext
  rw [e0]
  unfold val_main_v44
  have hz := zeros_apply
  generalize val_main_v39 (F := Ideal) x0 x3 x4 = y
  generalize val_main_v40 (F := Ideal) = z at *
  pointwise
  exact hz _

/-- THE VALUES, transposed. -/
theorem v_ref (b : Fin 32) (r : Fin 256) (hd : Fin 4) (e : Fin 64) :
    (val_main_v49 (F := Ideal) x0 x3 x4 (ix2 ⟨64 * hd.val + e.val, by omega⟩ (rowAt b r)) : EReal)
      = ∑ k : Fin 128, normed 0x43000000#32 (fun k : Fin 128 => x0 (ix3 b r ⟨256 + k.val, by omega⟩)) (fun k => x3 (ix1 k)) k
          * x4 (ix2 k ⟨128 * hd.val + (64 + e.val), by omega⟩) := by
  refine Eq.trans ?_ (kv_apply x0 x3 x4 b r hd ⟨64 + e.val, by omega⟩)
  rw [val_main_v49_apply, val_main_v48_apply, val_main_v47_apply, val_main_v36_apply]
  refine congrArg (val_main_v34 (F := Ideal) x0 x3 x4) ?_
  blk_ext

/-- THE NORMALISED LATENT. -/
theorem ckv_ref (b : Fin 32) (r : Fin 256) (e : Fin 128) :
    (val_main_v50 (F := Ideal) x0 x3 (ix2 (rowAt b r) e) : EReal)
      = normed 0x43000000#32 (fun k : Fin 128 => x0 (ix3 b r ⟨256 + k.val, by omega⟩)) (fun k => x3 (ix1 k)) e := by
  rw [← cn_apply, val_main_v50_apply]
  refine congrArg (val_main_v32 (F := Ideal) x0 x3) ?_
  blk_ext

/-- THE ROTARY KEY. -/
theorem kr_ref (b : Fin 32) (r : Fin 256) (e : Fin 32) :
    (val_main_v51 (F := Ideal) x0 (ix2 (rowAt b r) e) : EReal) = x0 (ix3 b r ⟨384 + e.val, by omega⟩) := by
  rw [val_main_v51_apply, val_main_v2_apply]
  refine congrArg x0 ?_
  blk_ext

end Cert.Reference4Ideal.Prep

end
-- ==== Proof.PrepFinal.lean ====
/-
  The latent expansion: each of the five arrays after the grid's run is the reference's own term of the arrays as launched.
-/
module

public import proofs.«01_k».proof.Proof.PrepBlocks
public import proofs.«01_k».proof.Proof.PrepRef

@[expose] public section

set_option maxRecDepth 16384

noncomputable section

namespace Cert.Kernel4Ideal.Prep

open Cert.Kernel4Ideal Cert.Kernel4Ideal.Gen Idealize.ShloMosaic Idealize.ShloMosaic.TcCoe Idealize.SL.Sem
open Cert.Proof.Prep
open scoped BigOperators

variable (m : (ℓ : Loc nD τ sig) → Buf (Elt Ideal) ℓ)

/-! ## The results, by the reference's own terms -/

/-- The queries of the arrays as launched. -/
def GQ (c : Dev nD) : S8192x512.Idx → EReal := Cert.Reference4Ideal.Read.val_main_v43 (F := Ideal) (argP m c) (argGq m c) (argWq m c)
/-- The keys. -/
def GK (c : Dev nD) : S8192x512.Idx → EReal := Cert.Reference4Ideal.Read.val_main_v46 (F := Ideal) (argP m c) (argGk m c) (argWk m c)
/-- The values, transposed. -/
def GV (c : Dev nD) : S256x8192.Idx → EReal := Cert.Reference4Ideal.Read.val_main_v49 (F := Ideal) (argP m c) (argGk m c) (argWk m c)
/-- The normalised latent. -/
def GC (c : Dev nD) : S8192x128.Idx → EReal := Cert.Reference4Ideal.Read.val_main_v50 (F := Ideal) (argP m c) (argGk m c)
/-- The rotary key. -/
def GR (c : Dev nD) : S8192x32.Idx → EReal := Cert.Reference4Ideal.Read.val_main_v51 (F := Ideal) (argP m c)

/-! ## The normalised rows of a block -/

theorem q_row (c : Dev nD) (t : Fin cfg0.N) (r k : Fin 256) :
    normed 0x43800000#32 (fun k : Fin 256 => (iblk (F := Ideal) m c 0 t (ix2 r k) : EReal)) (fun k => iblk (F := Ideal) m c 6 t (ix2 0 k)) k
      = normed 0x43800000#32 (fun k : Fin 256 => argP m c (ix3 (bt t) r ⟨k.val, by omega⟩)) (fun k => argGq m c (ix1 k)) k := by
  have hx : (fun k : Fin 256 => (iblk (F := Ideal) m c 0 t (ix2 r k) : EReal)) = fun k => argP m c (ix3 (bt t) r ⟨k.val, by omega⟩) :=
    funext fun k => q_block m c t r k
  have hg : (fun k : Fin 256 => (iblk (F := Ideal) m c 6 t (ix2 0 k) : EReal)) = fun k => argGq m c (ix1 k) := funext fun k => gq_block m c t k
  exact congrFun (congr (congrArg (normed 0x43800000#32) hx) hg) k

theorem kv_row (c : Dev nD) (t : Fin cfg0.N) (r : Fin 256) (k : Fin 128) :
    normed 0x43000000#32 (fun k : Fin 128 => (iblk (F := Ideal) m c 1 t (ix2 r k) : EReal)) (fun k => iblk (F := Ideal) m c 8 t (ix2 0 k)) k
      = normed 0x43000000#32 (fun k : Fin 128 => argP m c (ix3 (bt t) r ⟨256 + k.val, by omega⟩)) (fun k => argGk m c (ix1 k)) k := by
  have hx : (fun k : Fin 128 => (iblk (F := Ideal) m c 1 t (ix2 r k) : EReal)) = fun k => argP m c (ix3 (bt t) r ⟨256 + k.val, by omega⟩) :=
    funext fun k => kv_block m c t r k
  have hg : (fun k : Fin 128 => (iblk (F := Ideal) m c 8 t (ix2 0 k) : EReal)) = fun k => argGk m c (ix1 k) := funext fun k => gk_block m c t k
  exact congrFun (congr (congrArg (normed 0x43000000#32) hx) hg) k

/-! ## The entries a point computes -/

theorem q_entry (c : Dev nD) (t : Fin cfg0.N) (r : Fin 256) (j : Fin 512) :
    ((dats (F := Ideal) m 0 c).after 11 t (ix2 r j) : EReal) = GQ m c (ix2 (rowAt t r) j) := by
  rw [after0_11]
  obtain ⟨hd, e, rfl⟩ : ∃ (hd : Fin 4) (e : Fin 128), j = ⟨128 * hd.val + e.val, by omega⟩ :=
    ⟨⟨j.val / 128, by omega⟩, ⟨j.val % 128, by omega⟩, Fin.ext (by show j.val = 128 * (j.val / 128) + j.val % 128; omega)⟩
  refine (q_out _ _ _ _ _ _ _ _ _ _ _ (t2_block m c t) (t3_block m c t) r hd e).trans ?_
  rw [t1_block]
  unfold GQ
  by_cases h : e.val < 96
  · rw [if_pos h, mul_one]
    refine Eq.trans ?_ (Cert.Reference4Ideal.Prep.q_lanes (argP m c) (argGq m c) (argWq m c) (bt t) r hd ⟨e.val, h⟩).symm
    exact congrArg (fun z : EReal => z * Ideal.ofBits .f32 0x3DD105EC#32)
      (Finset.sum_congr rfl fun k _ => congrArg₂ (· * ·) (q_row m c t r k) (wq_block m c t k hd ⟨e.val, h⟩))
  · rw [if_neg h, mul_zero, zero_mul]
    obtain ⟨f, hf, rfl⟩ : ∃ (f : Fin 32) (hf : 96 + f.val < 128), e = ⟨96 + f.val, hf⟩ := ⟨⟨e.val - 96, by omega⟩, by show 96 + (e.val - 96) < 128; omega, Fin.ext (by show e.val = 96 + (e.val - 96); omega)⟩
    exact (Cert.Reference4Ideal.Prep.q_zero (argP m c) (argGq m c) (argWq m c) (bt t) r hd f).symm

theorem k_entry (c : Dev nD) (t : Fin cfg0.N) (r : Fin 256) (j : Fin 512) :
    ((dats (F := Ideal) m 0 c).after 12 t (ix2 r j) : EReal) = GK m c (ix2 (rowAt t r) j) := by
  rw [after0_12]
  obtain ⟨hd, e, rfl⟩ : ∃ (hd : Fin 4) (e : Fin 128), j = ⟨128 * hd.val + e.val, by omega⟩ :=
    ⟨⟨j.val / 128, by omega⟩, ⟨j.val % 128, by omega⟩, Fin.ext (by show j.val = 128 * (j.val / 128) + j.val % 128; omega)⟩
  refine (k_out _ _ _ _ _ _ _ _ _ _ _ r _).trans ?_
  unfold GK
  by_cases h : e.val < 64
  · refine (keys_nope _ _ _ _ _ _ r hd ⟨e.val, h⟩).trans ?_
    refine Eq.trans ?_ (Cert.Reference4Ideal.Prep.k_lanes (argP m c) (argGk m c) (argWk m c) (bt t) r hd ⟨e.val, h⟩).symm
    exact Finset.sum_congr rfl fun k _ => congrArg₂ (· * ·) (kv_row m c t r k) (wk_block m c t k hd ⟨e.val, h⟩)
  by_cases h' : e.val < 96
  · obtain ⟨f, hf, rfl⟩ : ∃ (f : Fin 32) (hf : 64 + f.val < 128), e = ⟨64 + f.val, hf⟩ := ⟨⟨e.val - 64, by omega⟩, by show 64 + (e.val - 64) < 128; omega, Fin.ext (by show e.val = 64 + (e.val - 64); omega)⟩
    refine (keys_rope _ _ _ _ _ _ r hd f (fun r e => (t2_load _ _).trans (t2_block m c t r e)) (fun r e => ?_)).trans ?_
    · refine (t1_load _ _).trans ((t1_block m c t r _).trans (if_pos ?_))
      show 64 + e.val < 96
      omega
    · refine Eq.trans ?_ (Cert.Reference4Ideal.Prep.k_shared (argP m c) (argGk m c) (argWk m c) (bt t) r hd f).symm
      exact kr_block m c t r f
  · obtain ⟨f, hf, rfl⟩ : ∃ (f : Fin 32) (hf : 96 + f.val < 128), e = ⟨96 + f.val, hf⟩ := ⟨⟨e.val - 96, by omega⟩, by show 96 + (e.val - 96) < 128; omega, Fin.ext (by show e.val = 96 + (e.val - 96); omega)⟩
    exact (keys_zero _ _ _ _ _ _ r hd f).trans (Cert.Reference4Ideal.Prep.k_zero (argP m c) (argGk m c) (argWk m c) (bt t) r hd f).symm

theorem v_entry (c : Dev nD) (t : Fin cfg0.N) (j r : Fin 256) :
    ((dats (F := Ideal) m 0 c).after 13 t (ix2 j r) : EReal) = GV m c (ix2 j (rowAt t r)) := by
  rw [after0_13]
  obtain ⟨hd, e, rfl⟩ : ∃ (hd : Fin 4) (e : Fin 64), j = ⟨64 * hd.val + e.val, by omega⟩ :=
    ⟨⟨j.val / 64, by omega⟩, ⟨j.val % 64, by omega⟩, Fin.ext (by show j.val = 64 * (j.val / 64) + j.val % 64; omega)⟩
  refine (v_out _ _ _ _ _ _ _ _ _ _ _ _ r).trans ?_
  unfold GV
  refine Eq.trans ?_ (Cert.Reference4Ideal.Prep.v_ref (argP m c) (argGk m c) (argWk m c) (bt t) r hd e).symm
  exact Finset.sum_congr rfl fun k _ => (mul_comm _ _).trans (congrArg₂ (· * ·) (kv_row m c t r k) (wv_block m c t k hd e))

theorem c_entry (c : Dev nD) (t : Fin cfg0.N) (r : Fin 256) (e : Fin 128) :
    ((dats (F := Ideal) m 0 c).after 14 t (ix2 r e) : EReal) = GC m c (ix2 (rowAt t r) e) := by
  rw [after0_14]
  refine (ckv_out _ _ _ _ _ _ _ _ _ _ _ r e).trans ?_
  unfold GC
  exact (kv_row m c t r e).trans (Cert.Reference4Ideal.Prep.ckv_ref (argP m c) (argGk m c) (bt t) r e).symm

theorem r_entry (c : Dev nD) (t : Fin cfg0.N) (r : Fin 256) (e : Fin 32) :
    ((dats (F := Ideal) m 0 c).after 15 t (ix2 r e) : EReal) = GR m c (ix2 (rowAt t r) e) := by
  rw [after0_15]
  refine (kr_out _ _ _ _ _ _ _ _ _ _ _ r e).trans ?_
  unfold GR
  exact (kr_block m c t r e).trans (Cert.Reference4Ideal.Prep.kr_ref (argP m c) (bt t) r e).symm

/-! ## THE ARRAYS AFTER THE RUN -/

theorem final_q (c : Dev nD) : (dats (F := Ideal) m 0 c).arrAt 11 cfg0.N = GQ m c := by
  refine (dats m 0 c).arrAt_eq_of_covers 11 _ (by decide +kernel) fun t hf y => ?_
  blk_simp
  obtain ⟨a, b, rfl⟩ : ∃ (a : Fin 256) (b : Fin 512), y = ix2 a b := ⟨y 0, y 1, eq_ix2 y⟩
  have e0 : ((cfg0.win 11).blk t).view.emb (ix2 a b) = (ix2 (rowAt t a) b : S8192x512.Idx) := by
    blk_ext [idx t]
  exact (q_entry m c t a b).trans (congrArg (GQ m c) e0.symm)

theorem final_k (c : Dev nD) : (dats (F := Ideal) m 0 c).arrAt 12 cfg0.N = GK m c := by
  refine (dats m 0 c).arrAt_eq_of_covers 12 _ (by decide +kernel) fun t hf y => ?_
  blk_simp
  obtain ⟨a, b, rfl⟩ : ∃ (a : Fin 256) (b : Fin 512), y = ix2 a b := ⟨y 0, y 1, eq_ix2 y⟩
  have e0 : ((cfg0.win 12).blk t).view.emb (ix2 a b) = (ix2 (rowAt t a) b : S8192x512.Idx) := by
    blk_ext [idx t]
  exact (k_entry m c t a b).trans (congrArg (GK m c) e0.symm)

theorem final_v (c : Dev nD) : (dats (F := Ideal) m 0 c).arrAt 13 cfg0.N = GV m c := by
  refine (dats m 0 c).arrAt_eq_of_covers 13 _ (by decide +kernel) fun t hf y => ?_
  blk_simp
  obtain ⟨a, b, rfl⟩ : ∃ (a : Fin 256) (b : Fin 256), y = ix2 a b := ⟨y 0, y 1, eq_ix2 y⟩
  have e0 : ((cfg0.win 13).blk t).view.emb (ix2 a b) = (ix2 a (rowAt t b) : S256x8192.Idx) := by
    blk_ext [idx t]
  exact (v_entry m c t a b).trans (congrArg (GV m c) e0.symm)

theorem final_c (c : Dev nD) : (dats (F := Ideal) m 0 c).arrAt 14 cfg0.N = GC m c := by
  refine (dats m 0 c).arrAt_eq_of_covers 14 _ (by decide +kernel) fun t hf y => ?_
  blk_simp
  obtain ⟨a, b, rfl⟩ : ∃ (a : Fin 256) (b : Fin 128), y = ix2 a b := ⟨y 0, y 1, eq_ix2 y⟩
  have e0 : ((cfg0.win 14).blk t).view.emb (ix2 a b) = (ix2 (rowAt t a) b : S8192x128.Idx) := by
    blk_ext [idx t]
  exact (c_entry m c t a b).trans (congrArg (GC m c) e0.symm)

theorem final_r (c : Dev nD) : (dats (F := Ideal) m 0 c).arrAt 15 cfg0.N = GR m c := by
  refine (dats m 0 c).arrAt_eq_of_covers 15 _ (by decide +kernel) fun t hf y => ?_
  blk_simp
  obtain ⟨a, b, rfl⟩ : ∃ (a : Fin 256) (b : Fin 32), y = ix2 a b := ⟨y 0, y 1, eq_ix2 y⟩
  have e0 : ((cfg0.win 15).blk t).view.emb (ix2 a b) = (ix2 (rowAt t a) b : S8192x32.Idx) := by
    blk_ext [idx t]
  exact (r_entry m c t a b).trans (congrArg (GR m c) e0.symm)

end Cert.Kernel4Ideal.Prep

end
-- ==== Proof.GlaMath.lean ====
/-
  Gated linear attention over the extended reals: the state one entry carries through four chunks of
  sixty-four tokens.
-/
module

public import Idealize.ShloMosaic.Lib.IdealHost
public import Idealize.ShloMosaic.Lib.Pointwise

@[expose] public section

noncomputable section

namespace Cert.Proof.Gla

open Idealize.ShloMosaic
open scoped BigOperators

/-- A token's log decay from its logit: a sixteenth of the logarithm of the sigmoid. -/
def ls (x : EReal) : EReal :=
  (0 - (max (0 - x) 0 + Ideal.log (1 + Ideal.exp (0 - max (0 - x) (-(0 - x)))))) * (((1 : ℝ) / 16 : ℝ) : EReal)

/-- Token `r` of chunk `c`. -/
abbrev row (c : Fin 4) (r : Fin 64) : Fin 256 := ⟨64 * c.val + r.val, by omega⟩

/-- A chunk's log decays summed from its first token. -/
def cum (a : Fin 256 → EReal) (c : Fin 4) (r : Fin 64) : EReal := ∑ j : Fin 64, if j ≤ r then a (row c j) else 0

/-- One chunk: the state decayed over the chunk, and the chunk's keys and values joined to it. -/
def step (a k v : Fin 256 → EReal) (c : Fin 4) (s : EReal) : EReal :=
  s * Ideal.exp (cum a c 63) + ∑ r : Fin 64, v (row c r) * (k (row c r) * Ideal.exp (cum a c 63 - cum a c r))

/-- The state after the four chunks, from nothing. -/
def state (a k v : Fin 256 → EReal) : EReal := step a k v 3 (step a k v 2 (step a k v 1 (step a k v 0 0)))

/-- A value that is not `⊤`, split into itself and what is left of it, is itself. -/
theorem split_add (x : EReal) (hx : x ≠ ⊤) : x + (x - x) = x := by
  induction x with
  | bot => simp
  | coe r => rw [← EReal.coe_sub, sub_self, EReal.coe_zero, add_zero]
  | top => exact absurd rfl hx

/-- A log decay is at most nothing. -/
theorem ls_ne_top (x : EReal) : ls x ≠ ⊤ := by
  have hexp : ∀ y : EReal, 0 ≤ Ideal.exp y := fun y => by
    induction y with
    | bot => exact le_refl (0 : EReal)
    | coe r => exact EReal.coe_nonneg.2 (Real.exp_pos r).le
    | top => exact le_top (a := (0 : EReal))
  have hlog : ∀ y : EReal, 1 ≤ y → 0 ≤ Ideal.log y := fun y hy => by
    induction y with
    | bot => exact absurd (lt_of_lt_of_le (EReal.bot_lt_coe 1) hy) (lt_irrefl _)
    | coe r =>
      have h1 : (1 : ℝ) ≤ r := EReal.coe_le_coe_iff.1 hy
      show (0 : EReal) ≤ if r ≤ 0 then ⊥ else ((Real.log r : ℝ) : EReal)
      rw [if_neg (by linarith)]
      exact EReal.coe_nonneg.2 (Real.log_nonneg h1)
    | top => exact le_top (a := (0 : EReal))
  have h : 0 ≤ max (0 - x) 0 + Ideal.log (1 + Ideal.exp (0 - max (0 - x) (-(0 - x)))) :=
    add_nonneg (le_max_right _ _) (hlog _ (le_add_of_nonneg_right (hexp _)))
  unfold ls
  generalize max (0 - x) 0 + Ideal.log (1 + Ideal.exp (0 - max (0 - x) (-(0 - x)))) = y at h ⊢
  induction y with
  | bot => simp at h
  | coe r => rw [zero_sub, ← EReal.coe_neg, ← EReal.coe_mul]; exact EReal.coe_ne_top _
  | top =>
    rw [zero_sub, EReal.neg_top, EReal.bot_mul_coe_of_pos (by norm_num)]
    exact bot_ne_top

/-- The sum over the kept tokens, taken of the split pieces one after the other. -/
theorem masked_sum (P : Fin 64 → Prop) [DecidablePred P] (f : Fin 64 → EReal) (hf : ∀ j, f j ≠ ⊤) :
    (∑ j, (if P j then (1 : EReal) else 0) * f j) + ∑ j, (if P j then (1 : EReal) else 0) * (f j - f j) = ∑ j, if P j then f j else 0 := by
  rw [← Finset.sum_add_distrib]
  refine Finset.sum_congr rfl fun j _ => ?_
  by_cases h : P j
  · rw [if_pos h, if_pos h, one_mul, one_mul, split_add _ (hf j)]
  · rw [if_neg h, if_neg h, zero_mul, zero_mul, add_zero]

/-- A chunk taken backwards: the sums from its last token are the sums from the first of the chunk reversed. -/
theorem cum_rev (a : Fin 256 → EReal) (c : Fin 4) (f : Fin 64 → EReal) (hf : ∀ r, a (row c r.rev) = f r) (r : Fin 64) :
    (∑ j : Fin 64, if r ≤ j then f j else 0) = cum a c r.rev := by
  unfold cum
  refine Fintype.sum_equiv Fin.revPerm _ _ fun j => ?_
  rw [Fin.revPerm_apply, hf]
  exact if_congr Fin.rev_le_rev.symm rfl rfl

/-- The chunk's own sum, taken backwards. -/
theorem step_rev (a k v : Fin 256 → EReal) (c : Fin 4) (s : EReal) :
    step a k v c s = s * Ideal.exp (cum a c 63) + ∑ r : Fin 64, v (row c r.rev) * (k (row c r.rev) * Ideal.exp (cum a c 63 - cum a c r.rev)) := by
  unfold step
  refine congrArg (s * Ideal.exp (cum a c 63) + ·) ?_
  exact (Equiv.sum_comp Fin.revPerm fun r : Fin 64 => v (row c r) * (k (row c r) * Ideal.exp (cum a c 63 - cum a c r))).symm

end Cert.Proof.Gla

end
-- ==== Proof.GlaBody.lean ====
/-
  One grid point of the gated linear attention's kernel: the states it stores, read at an index.
-/
module

public import proofs.«01_k».proof.Proof.Gen.Kernel5Ideal.Value
public import proofs.«01_k».proof.Proof.GlaMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel5Ideal.Gla

open Cert.Kernel5Ideal Cert.Kernel5Ideal.Gen Idealize.ShloMosaic Idealize.ShloMosaic.TcCoe Idealize.SL.Sem
open Cert.Proof.Gla
open scoped BigOperators

/-! ## The body's parts at an index -/

/-- A chunk's logits. -/
theorem logit_apply (s : FVec Ideal S64x128 .f32) (w : Vec Ideal S1x128x128 .bf16) (b : Vec Ideal S1x1x128 .f32) (r : Fin 64) (l : Fin 128) :
    (k0_pay47 (F := Ideal) s w b (ix2 r l) : EReal) = ∑ j : Fin 128, s (ix2 r j) * w (ix3 0 j l) + b (ix3 0 0 l) := by
  unfold k0_pay47
  pointwise

/-- A comparison's bit as a number. -/
theorem bit_apply (p : Prop) [Decidable p] (b : BitVec 1) (h : b = if p then 1#1 else 0#1) :
    (FloatOps.sitofp (F := Ideal) FTy.f32 (BitVec.setWidth 32 b) : EReal) = if p then 1 else 0 := by
  subst h
  by_cases hp : p
  · rw [if_pos hp, if_pos hp]
    show (((BitVec.setWidth 32 1#1).toInt : ℝ) : EReal) = 1
    norm_num
  · rw [if_neg hp, if_neg hp]
    show (((BitVec.setWidth 32 0#1).toInt : ℝ) : EReal) = 0
    norm_num

/-- The mask of the tokens up to a token. -/
theorem lower_apply (r j : Fin 64) : (k0_pay2 (F := Ideal) (ix2 r j) : EReal) = if j ≤ r then 1 else 0 := by
  unfold k0_pay2
  pointwise
  refine bit_apply _ _ ?_
  revert r j
  decide +kernel

/-- The mask of the tokens from a token on. -/
theorem upper_apply (r j : Fin 64) : (k0_pay3 (F := Ideal) (ix2 r j) : EReal) = if r ≤ j then 1 else 0 := by
  unfold k0_pay3
  pointwise
  refine bit_apply _ _ ?_
  revert r j
  decide +kernel

theorem sixteenth : Ideal.ofBits FTy.f32 0x3D800000#32 = (((1 : ℝ) / 16 : ℝ) : EReal) := by
  simp [Ideal.ofBits, Ideal.ieee, -EReal.coe_mul]; norm_num

/-- The masked sums of a chunk's log decays. -/
theorem gate_apply (tri : FVec Ideal S64x64 .f32) (x : FVec Ideal S64x128 .f32) (r : Fin 64) (l : Fin 128) :
    (k0_pay56 (F := Ideal) tri x k0_pay55 (ix2 r l) : EReal)
      = (∑ j : Fin 64, tri (ix2 r j) * ls (x (ix2 j l))) + ∑ j : Fin 64, tri (ix2 r j) * (ls (x (ix2 j l)) - ls (x (ix2 j l))) := by
  unfold k0_pay56 k0_pay55
  pointwise
  unfold ls
  rw [← sixteenth]
  rfl

/-- The sums from the chunk's first token. -/
theorem lower_gate (x : FVec Ideal S64x128 .f32) (r : Fin 64) (l : Fin 128) :
    (k0_pay56 (F := Ideal) k0_pay2 x k0_pay55 (ix2 r l) : EReal) = ∑ j : Fin 64, if j ≤ r then ls (x (ix2 j l)) else 0 := by
  rw [gate_apply]
  simp only [lower_apply]
  exact masked_sum (fun j => j ≤ r) _ fun j => ls_ne_top _

/-- The sums from the chunk's last token. -/
theorem upper_gate (x : FVec Ideal S64x128 .f32) (r : Fin 64) (l : Fin 128) :
    (k0_pay56 (F := Ideal) k0_pay3 x k0_pay55 (ix2 r l) : EReal) = ∑ j : Fin 64, if r ≤ j then ls (x (ix2 j l)) else 0 := by
  rw [gate_apply]
  simp only [upper_apply]
  exact masked_sum (fun j => r ≤ j) _ fun j => ls_ne_top _

theorem last_apply (g : FVec Ideal S64x128 .f32) (l : Fin 128) : (k0_pay77 (F := Ideal) g (ix2 0 l) : EReal) = g (ix2 63 l) := by
  unfold k0_pay77
  pointwise

theorem first_apply (g : FVec Ideal S64x128 .f32) (l : Fin 128) : (k0_pay82 (F := Ideal) g (ix2 0 l) : EReal) = g (ix2 0 l) := by
  unfold k0_pay82
  pointwise

/-- Entries of one head are kept. -/
theorem same_head (h : Fin 2) (p q : Fin 64) :
    (k0_pay8 (iota Kind.tc S128x128 32 [1] iota_S128x128_d1_w32) k0_pay5 (64#32) k0_pay6 k0_pay7 0#32 (ix2 ⟨64 * h.val + p.val, by omega⟩ ⟨64 * h.val + q.val, by omega⟩)) = 1#1 := by
  unfold k0_pay8 k0_pay5 k0_pay6 k0_pay7
  pointwise
  revert h p q
  decide +kernel

/-! ## One chunk, and the four -/

/-- The mask of the entries whose row and column are of the same head. -/
abbrev same : IVec S128x128 1 := k0_pay8 (iota Kind.tc S128x128 32 [1] iota_S128x128_d1_w32) k0_pay5 (64#32) k0_pay6 k0_pay7 0#32

/-- One chunk of the kernel: `e` the row of the chunk's whole decay, `g` the summed decays. -/
def chunk (e : FVec Ideal S1x128 .f32) (g K V : FVec Ideal S64x128 .f32) (st : FVec Ideal S128x128 .f32) : FVec Ideal S128x128 .f32 :=
  k0_pay158 (k0_pay88 e) (k0_pay143 same V (k0_pay87 K g e)) st

theorem chunk_apply (e : FVec Ideal S1x128 .f32) (g K V : FVec Ideal S64x128 .f32) (st : FVec Ideal S128x128 .f32) (p q : Fin 128)
    (h : same (ix2 p q) = 1#1) :
    (chunk e g K V st (ix2 p q) : EReal)
      = st (ix2 p q) * Ideal.exp (e (ix2 0 q) : EReal) + ∑ r : Fin 64, V (ix2 r p) * (K (ix2 r q) * Ideal.exp (e (ix2 0 q) - g (ix2 r q) : EReal)) := by
  unfold chunk k0_pay158 k0_pay88 k0_pay143 k0_pay87
  generalize same = msk at h ⊢
  pointwise
  rw [h]
  rfl

/-- A chunk's summed decays from its lanes. -/
def gates (tri : FVec Ideal S64x64 .f32) (w : Vec Ideal S1x128x128 .bf16) (b : Vec Ideal S1x1x128 .f32) (S : FVec Ideal S64x128 .f32) : FVec Ideal S64x128 .f32 :=
  k0_pay56 tri (k0_pay47 S w b) k0_pay55

/-- The four chunks one after the other. -/
def chain (tri : FVec Ideal S64x64 .f32) (e : FVec Ideal S64x128 .f32 → FVec Ideal S1x128 .f32) (w : Vec Ideal S1x128x128 .bf16)
    (b : Vec Ideal S1x1x128 .f32) (S K V : Fin 4 → FVec Ideal S64x128 .f32) (st : FVec Ideal S128x128 .f32) : FVec Ideal S128x128 .f32 :=
  chunk (e (gates tri w b (S 3))) (gates tri w b (S 3)) (K 3) (V 3)
    (chunk (e (gates tri w b (S 2))) (gates tri w b (S 2)) (K 2) (V 2)
      (chunk (e (gates tri w b (S 1))) (gates tri w b (S 1)) (K 1) (V 1)
        (chunk (e (gates tri w b (S 0))) (gates tri w b (S 0)) (K 0) (V 0) st)))

/-- THE FORWARD STATE at an entry. -/
theorem forward_apply (w : Vec Ideal S1x128x128 .bf16) (b : Vec Ideal S1x1x128 .f32) (S K V : Fin 4 → FVec Ideal S64x128 .f32)
    (st : FVec Ideal S128x128 .f32) (p q : Fin 128) (h : same (ix2 p q) = 1#1) (h0 : (st (ix2 p q) : EReal) = 0) (a k v : Fin 256 → EReal)
    (ha : ∀ c r, a (row c r) = ls (∑ j : Fin 128, S c (ix2 r j) * w (ix3 0 j q) + b (ix3 0 0 q)))
    (hk : ∀ c r, k (row c r) = K c (ix2 r q)) (hv : ∀ c r, v (row c r) = V c (ix2 r p)) :
    (chain k0_pay2 k0_pay77 w b S K V st (ix2 p q) : EReal) = state a k v := by
  have hg : ∀ c r, (gates k0_pay2 w b (S c) (ix2 r q) : EReal) = cum a c r := fun c r => by
    unfold gates cum
    rw [lower_gate]
    simp only [logit_apply, ha]
  have hs : ∀ c (s : FVec Ideal S128x128 .f32) (z : EReal), (s (ix2 p q) : EReal) = z →
      (chunk (k0_pay77 (gates k0_pay2 w b (S c))) (gates k0_pay2 w b (S c)) (K c) (V c) s (ix2 p q) : EReal) = step a k v c z := fun c s z hz => by
    rw [chunk_apply _ _ _ _ _ _ _ h, last_apply, hz]
    unfold step
    simp only [hg, hk, hv]
  unfold chain state
  exact hs 3 _ _ (hs 2 _ _ (hs 1 _ _ (hs 0 _ _ h0)))

/-- THE BACKWARD STATE at an entry, the tokens numbered from the last. -/
theorem backward_apply (w : Vec Ideal S1x128x128 .bf16) (b : Vec Ideal S1x1x128 .f32) (S K V : Fin 4 → FVec Ideal S64x128 .f32)
    (st : FVec Ideal S128x128 .f32) (p q : Fin 128) (h : same (ix2 p q) = 1#1) (h0 : (st (ix2 p q) : EReal) = 0) (a k v : Fin 256 → EReal)
    (ha : ∀ c (r : Fin 64), a (row c r.rev) = ls (∑ j : Fin 128, S c (ix2 r j) * w (ix3 0 j q) + b (ix3 0 0 q)))
    (hk : ∀ c (r : Fin 64), k (row c r.rev) = K c (ix2 r q)) (hv : ∀ c (r : Fin 64), v (row c r.rev) = V c (ix2 r p)) :
    (chain k0_pay3 k0_pay82 w b S K V st (ix2 p q) : EReal) = state a k v := by
  have hg : ∀ c r, (gates k0_pay3 w b (S c) (ix2 r q) : EReal) = cum a c r.rev := fun c r => by
    unfold gates
    rw [upper_gate]
    simp only [logit_apply]
    exact cum_rev a c _ (ha c) r
  have hs : ∀ c (s : FVec Ideal S128x128 .f32) (z : EReal), (s (ix2 p q) : EReal) = z →
      (chunk (k0_pay82 (gates k0_pay3 w b (S c))) (gates k0_pay3 w b (S c)) (K c) (V c) s (ix2 p q) : EReal) = step a k v c z := fun c s z hz => by
    rw [chunk_apply _ _ _ _ _ _ _ h, first_apply, hz, step_rev]
    simp only [hg, hk, hv]
    rfl
  unfold chain state
  exact hs 3 _ _ (hs 2 _ _ (hs 1 _ _ (hs 0 _ _ h0)))

/-! ## What a point stores -/

/-- Sixty-four rows of a block. -/
def rows (X : Vec Ideal S1x256x128 .f32) (o : Nat) (h : ∀ a, (![0, o, 0] : Fin 3 → Nat) a + S1x64x128.size a ≤ S1x256x128.size a) : FVec Ideal S64x128 .f32 :=
  shapeCast S64x128 (View.ld X (Rect.unit ![0, o, 0] S1x64x128.size h)) shapeCasts_S1x64x128_S64x128

theorem flat_apply (Y : Vec Ideal S1x64x128 .f32) (r : Fin 64) (l : Fin 128) :
    (shapeCast S64x128 Y shapeCasts_S1x64x128_S64x128 (ix2 r l) : EReal) = Y (ix3 0 r l) := by
  pointwise

theorem rows_apply (X : Vec Ideal S1x256x128 .f32) (o : Nat) (h : ∀ a, (![0, o, 0] : Fin 3 → Nat) a + S1x64x128.size a ≤ S1x256x128.size a)
    (r : Fin 64) (l : Fin 128) (n : Fin 256) (hn : n.val = o + r.val) : (rows X o h (ix2 r l) : EReal) = X (ix3 0 n l) := by
  refine (flat_apply (View.ld X (Rect.unit ![0, o, 0] S1x64x128.size h)) r l).trans ?_
  refine View.ld_unit_apply_of X _ _ h _ _ fun a => ?_
  match a with
  | ⟨0, _⟩ => rfl
  | ⟨1, _⟩ => exact hn
  | ⟨2, _⟩ => exact (Nat.zero_add _).symm

/-- The states a point starts from: nothing, where the block of initial states is zero. -/
theorem init_apply (A B : Vec Ideal S1x1x1x64x64 .f32) (hA : ∀ y, (A y : EReal) = 0) (hB : ∀ y, (B y : EReal) = 0) (p q : Fin 128) :
    (k0_pay152 (F := Ideal) (k0_pay12 A B) (ix2 p q) : EReal) = 0 := by
  have hz : ∀ y, (k0_pay11 (F := Ideal) y : EReal) = 0 := fun y => by
    unfold k0_pay11
    exact Ideal.ofBits_zero_f32
  unfold k0_pay152 k0_pay12
  generalize k0_pay11 (F := Ideal) = Z at hz
  pointwise
  split_ifs <;> first | exact hA _ | exact hB _ | exact hz _

/-- A head's block of a pair's state. -/
theorem block_apply (o : Nat) (st : FVec Ideal S128x128 .f32) (h : S128x128.Slices ![o, o] S64x64) (x : S1x1x1x64x64.Idx) (p q : Fin 128)
    (hp : p.val = o + (x 3).val) (hq : q.val = o + (x 4).val) :
    (shapeCast S1x1x1x64x64 (extractStridedSlice S64x64 ![o, o] (shapeCast S128x128 (shapeCast S1x128x128 st shapeCasts_S128x128_S1x128x128)
      shapeCasts_S1x128x128_S128x128) h) shapeCasts_S64x64_S1x1x1x64x64 x : EReal) = st (ix2 p q) := by
  pointwise
  exact congrArg st (congrArg₂ ix2 (Fin.ext hp.symm) (Fin.ext hq.symm))

/-- One lane half of the gate weights, and of the biases. -/
def wHalf (X : Vec Ideal S1x128x256 .bf16) (o : Nat) (h : ∀ a, (![0, 0, o] : Fin 3 → Nat) a + S1x128x128.size a ≤ S1x128x256.size a) : Vec Ideal S1x128x128 .bf16 :=
  View.ld X (Rect.unit ![0, 0, o] S1x128x128.size h)

def bHalf (X : Vec Ideal S1x1x256 .f32) (o : Nat) (h : ∀ a, (![0, 0, o] : Fin 3 → Nat) a + S1x1x128.size a ≤ S1x1x256.size a) : Vec Ideal S1x1x128 .f32 :=
  View.ld X (Rect.unit ![0, 0, o] S1x1x128.size h)

theorem wHalf_apply (X : Vec Ideal S1x128x256 .bf16) (o : Nat) (h : ∀ a, (![0, 0, o] : Fin 3 → Nat) a + S1x128x128.size a ≤ S1x128x256.size a)
    (j l : Fin 128) (n : Fin 256) (hn : n.val = o + l.val) : (wHalf X o h (ix3 0 j l) : EReal) = X (ix3 0 j n) := by
  refine View.ld_unit_apply_of X _ _ h _ _ fun a => ?_
  match a with
  | ⟨0, _⟩ => rfl
  | ⟨1, _⟩ => exact (Nat.zero_add _).symm
  | ⟨2, _⟩ => exact hn

theorem bHalf_apply (X : Vec Ideal S1x1x256 .f32) (o : Nat) (h : ∀ a, (![0, 0, o] : Fin 3 → Nat) a + S1x1x128.size a ≤ S1x1x256.size a)
    (l : Fin 128) (n : Fin 256) (hn : n.val = o + l.val) : (bHalf X o h (ix3 0 0 l) : EReal) = X (ix3 0 0 n) := by
  refine View.ld_unit_apply_of X _ _ h _ _ fun a => ?_
  match a with
  | ⟨0, _⟩ => rfl
  | ⟨1, _⟩ => rfl
  | ⟨2, _⟩ => exact hn

/-- The four chunks of a block, from the first and from the last. -/
def up (X : Vec Ideal S1x256x128 .f32) : Fin 4 → FVec Ideal S64x128 .f32
  | 0 => rows X 0 (by decide) | 1 => rows X 64 (by decide) | 2 => rows X 128 (by decide) | 3 => rows X 192 (by decide)

def down (X : Vec Ideal S1x256x128 .f32) : Fin 4 → FVec Ideal S64x128 .f32
  | 0 => rows X 192 (by decide) | 1 => rows X 128 (by decide) | 2 => rows X 64 (by decide) | 3 => rows X 0 (by decide)

theorem up_apply (X : Vec Ideal S1x256x128 .f32) (c : Fin 4) (r : Fin 64) (l : Fin 128) : (up X c (ix2 r l) : EReal) = X (ix3 0 (row c r) l) := by
  match c with
  | 0 => exact rows_apply X _ _ r l _ rfl
  | 1 => exact rows_apply X _ _ r l _ rfl
  | 2 => exact rows_apply X _ _ r l _ rfl
  | 3 => exact rows_apply X _ _ r l _ rfl

theorem rev_row (c : Fin 4) (r : Fin 64) : ((row c r.rev).rev).val = 192 - 64 * c.val + r.val := by
  simp only [Fin.val_rev]
  omega

theorem down_apply (X : Vec Ideal S1x256x128 .f32) (c : Fin 4) (r : Fin 64) (l : Fin 128) : (down X c (ix2 r l) : EReal) = X (ix3 0 (row c r.rev).rev l) := by
  match c with
  | 0 => exact rows_apply X _ _ r l _ (rev_row 0 r)
  | 1 => exact rows_apply X _ _ r l _ (rev_row 1 r)
  | 2 => exact rows_apply X _ _ r l _ (rev_row 2 r)
  | 3 => exact rows_apply X _ _ r l _ (rev_row 3 r)

/-- A token, counted from the first or from the last. -/
abbrev tok (d : Fin 2) (n : Fin 256) : Fin 256 := if d = 0 then n else n.rev

/-- A state's lane of its pair: its head's half, then its key. -/
abbrev lane (h : Fin 2) (k : Fin 64) : Fin 128 := ⟨64 * h.val + k.val, by omega⟩

/-- The state one entry of a point ends with. -/
abbrev entry (X1 X2 X4 : Vec Ideal S1x256x128 .f32) (X5 : Vec Ideal S1x128x256 .bf16) (X6 : Vec Ideal S1x1x256 .f32) (d h : Fin 2) (v k : Fin 64) : EReal :=
  state (fun n => ls (∑ j : Fin 128, X4 (ix3 0 (tok d n) j) * X5 (ix3 0 j ⟨128 * d.val + (lane h k).val, by omega⟩) + X6 (ix3 0 0 ⟨128 * d.val + (lane h k).val, by omega⟩)))
    (fun n => X1 (ix3 0 (tok d n) (lane h k))) (fun n => X2 (ix3 0 (tok d n) (lane h v)))

theorem forward_entry (X1 X2 X4 : Vec Ideal S1x256x128 .f32) (X5 : Vec Ideal S1x128x256 .bf16) (X6 : Vec Ideal S1x1x256 .f32)
    (A B : Vec Ideal S1x1x1x64x64 .f32) (hA : ∀ y, (A y : EReal) = 0) (hB : ∀ y, (B y : EReal) = 0) (h : Fin 2) (v k : Fin 64) :
    (chain k0_pay2 k0_pay77 (wHalf X5 0 (by decide)) (bHalf X6 0 (by decide)) (up X4) (up X1) (up X2) (k0_pay152 (k0_pay12 A B)) (ix2 (lane h v) (lane h k)) : EReal)
      = entry X1 X2 X4 X5 X6 0 h v k := by
  refine forward_apply _ _ _ _ _ _ _ _ (same_head h v k) (init_apply A B hA hB _ _) _ _ _ (fun c r => ?_) (fun c r => ?_) fun c r => ?_
  · rw [bHalf_apply X6 0 (by decide) _ ⟨128 * (0 : Fin 2).val + (lane h k).val, by omega⟩ rfl]
    simp only [wHalf_apply X5 0 (by decide) _ _ ⟨128 * (0 : Fin 2).val + (lane h k).val, by omega⟩ rfl, up_apply]
    rfl
  · rw [up_apply]; rfl
  · rw [up_apply]; rfl

theorem backward_entry (X1 X2 X4 : Vec Ideal S1x256x128 .f32) (X5 : Vec Ideal S1x128x256 .bf16) (X6 : Vec Ideal S1x1x256 .f32)
    (A B : Vec Ideal S1x1x1x64x64 .f32) (hA : ∀ y, (A y : EReal) = 0) (hB : ∀ y, (B y : EReal) = 0) (h : Fin 2) (v k : Fin 64) :
    (chain k0_pay3 k0_pay82 (wHalf X5 128 (by decide)) (bHalf X6 128 (by decide)) (down X4) (down X1) (down X2) (k0_pay152 (k0_pay12 A B)) (ix2 (lane h v) (lane h k)) : EReal)
      = entry X1 X2 X4 X5 X6 1 h v k := by
  refine backward_apply _ _ _ _ _ _ _ _ (same_head h v k) (init_apply A B hA hB _ _) _ _ _ (fun c r => ?_) (fun c r => ?_) fun c r => ?_
  · rw [bHalf_apply X6 128 (by decide) _ ⟨128 * (1 : Fin 2).val + (lane h k).val, by omega⟩ rfl]
    simp only [wHalf_apply X5 128 (by decide) _ _ ⟨128 * (1 : Fin 2).val + (lane h k).val, by omega⟩ rfl, down_apply]
    rfl
  · rw [down_apply]; rfl
  · rw [down_apply]; rfl

variable (m : (ℓ : Loc nD τ sig) → Buf (Elt Ideal) ℓ)

set_option maxHeartbeats 600000 in
/-- THE BODY'S RESULT at an index of the block, from initial states that are zero. -/
theorem outs_apply (c : Dev nD) (t : Fin cfg0.N) (h0 : ∀ y, (iblk (F := Ideal) m c 8 t y : EReal) = (0 : EReal)) (d h : Fin 2) (v k : Fin 64) :
    ((outsAt0 (F := Ideal) m c t).2 (ix5 0 d h v k) : EReal)
      = entry (iblk (F := Ideal) m c 1 t) (iblk (F := Ideal) m c 2 t) (iblk (F := Ideal) m c 4 t) (iblk (F := Ideal) m c 5 t) (iblk (F := Ideal) m c 6 t) d h v k := by
  unfold outsAt0
  frame_out
  simp (config := {decide := true}) only [↓View.readCov_skip, ↓View.readCov_cons_toLoadRect]
  generalize iblk (F := Ideal) m c 1 t = X1
  generalize iblk (F := Ideal) m c 2 t = X2
  generalize iblk (F := Ideal) m c 4 t = X4
  generalize iblk (F := Ideal) m c 5 t = X5
  generalize iblk (F := Ideal) m c 6 t = X6
  generalize iblk (F := Ideal) m c 8 t = X8 at h0
  have hz : ∀ y, (View.read (Elt Ideal) (ms0_8 t).view ((hs0_8 t).unread X8) y : EReal) = (0 : EReal) := fun y =>
    (congrFun ((hs0_8 t).read_unread X8) y).trans (h0 y)
  canon_tiles x hx
  · obtain rfl : d = 1 := Fin.ext (by have e : d.val = 1 + (x 1).val := hx1; show d.val = 1; omega)
    obtain rfl : h = 1 := Fin.ext (by have e : h.val = 1 + (x 2).val := hx2; show h.val = 1; omega)
    have e3 : v.val = (x 3).val := hx3
    have e4 : k.val = (x 4).val := hx4
    refine (block_apply 64 _ _ x (lane 1 v) (lane 1 k) (by show 64 * 1 + v.val = _; omega) (by show 64 * 1 + k.val = _; omega)).trans ?_
    exact backward_entry X1 X2 X4 X5 X6 _ _ (fun y => hz _) (fun y => hz _) 1 v k
  · obtain rfl : d = 1 := Fin.ext (by have e : d.val = 1 + (x 1).val := hx1; show d.val = 1; omega)
    obtain rfl : h = 0 := Fin.ext (by have e : h.val = 0 + (x 2).val := hx2.trans (Nat.zero_add _).symm; show h.val = 0; omega)
    have e3 : v.val = (x 3).val := hx3
    have e4 : k.val = (x 4).val := hx4
    refine (block_apply 0 _ _ x (lane 0 v) (lane 0 k) (by show 64 * 0 + v.val = _; omega) (by show 64 * 0 + k.val = _; omega)).trans ?_
    exact backward_entry X1 X2 X4 X5 X6 _ _ (fun y => hz _) (fun y => hz _) 0 v k
  · obtain rfl : d = 0 := Fin.ext (by have e : d.val = 0 + (x 1).val := hx1.trans (Nat.zero_add _).symm; show d.val = 0; omega)
    obtain rfl : h = 1 := Fin.ext (by have e : h.val = 1 + (x 2).val := hx2; show h.val = 1; omega)
    have e3 : v.val = (x 3).val := hx3
    have e4 : k.val = (x 4).val := hx4
    unfold k0_pay179 k0_pay177
    refine (block_apply 64 _ _ x (lane 1 v) (lane 1 k) (by show 64 * 1 + v.val = _; omega) (by show 64 * 1 + k.val = _; omega)).trans ?_
    exact forward_entry X1 X2 X4 X5 X6 _ _ (fun y => h0 _) (fun y => h0 _) 1 v k
  · obtain rfl : d = 0 := Fin.ext (by have e : d.val = 0 + (x 1).val := hx1.trans (Nat.zero_add _).symm; show d.val = 0; omega)
    obtain rfl : h = 0 := Fin.ext (by have e : h.val = 0 + (x 2).val := hx2.trans (Nat.zero_add _).symm; show h.val = 0; omega)
    have e3 : v.val = (x 3).val := hx3
    have e4 : k.val = (x 4).val := hx4
    unfold k0_pay180 k0_pay179 k0_pay177
    refine (block_apply 0 _ _ x (lane 0 v) (lane 0 k) (by show 64 * 0 + v.val = _; omega) (by show 64 * 0 + k.val = _; omega)).trans ?_
    exact forward_entry X1 X2 X4 X5 X6 _ _ (fun y => h0 _) (fun y => h0 _) 0 v k

end Cert.Kernel5Ideal.Gla
-- ==== Proof.GlaPut.lean ====
module

public import proofs.«01_k».proof.Proof.GlaBody
public import Idealize.ShloMosaic.Lib.StableHlo.ReadAt
public import Idealize.ShloMosaic.Lib.Routing.OpsSet
public import Idealize.ShloMosaic.Lib.Routing.OpsPair

@[expose] public section

set_option maxRecDepth 16384

noncomputable section

/-! # Writing a block of weights, or a row of biases, into a larger array

The host packs the gate weights by writing a block of sixteen rows and 128 columns at a place named by three index
words, and the biases by writing a row of 128 at such a place. Each is read here at one entry. -/

namespace Cert.Kernel5Ideal.Gla

open Cert.Kernel5Ideal Cert.Kernel5Ideal.Gen Idealize.ShloMosaic Idealize.ShloMosaic.TcCoe Idealize.SL.Sem Idealize.ShloMosaic.Routing

/-- Where the weights' window starts: one index word for each axis. -/
theorem start_w (idx : IVec S3 32) (u : S16x128.Idx) (q : Fin 3) :
    scatter_S2x128x256_S3_S16x128_01_0_012_0.start u idx q = (idx (ix1 q)).toInt := by
  have hm : q ∈ scatter_S2x128x256_S3_S16x128_01_0_012_0.scatterDimsToOperandDims := by revert q; decide
  unfold ScatterDims.start
  rw [dif_pos hm]
  have e : scatter_S2x128x256_S3_S16x128_01_0_012_0.siIdx u ⟨scatter_S2x128x256_S3_S16x128_01_0_012_0.scatterDimsToOperandDims.idxOf q,
      List.idxOf_lt_length_iff.2 hm⟩ = ix1 q := by
    funext b
    match b with
    | ⟨0, _⟩ => refine Fin.ext ?_; revert q; intro q; match q with
      | ⟨0, _⟩ => intro _; rfl
      | ⟨1, _⟩ => intro _; rfl
      | ⟨2, _⟩ => intro _; rfl
  rw [e]

/-- Where the biases' window starts: one index word for each axis. -/
theorem start_b (idx : IVec S3 32) (u : S128.Idx) (q : Fin 3) :
    scatter_S2x1x256_S3_S128_0_01_012_0.start u idx q = (idx (ix1 q)).toInt := by
  have hm : q ∈ scatter_S2x1x256_S3_S128_0_01_012_0.scatterDimsToOperandDims := by revert q; decide
  unfold ScatterDims.start
  rw [dif_pos hm]
  have e : scatter_S2x1x256_S3_S128_0_01_012_0.siIdx u ⟨scatter_S2x1x256_S3_S128_0_01_012_0.scatterDimsToOperandDims.idxOf q,
      List.idxOf_lt_length_iff.2 hm⟩ = ix1 q := by
    funext b
    match b with
    | ⟨0, _⟩ => refine Fin.ext ?_; revert q; intro q; match q with
      | ⟨0, _⟩ => intro _; rfl
      | ⟨1, _⟩ => intro _; rfl
      | ⟨2, _⟩ => intro _; rfl
  rw [e]

/-- The weights after one such write, at an entry: the block's where the entry lies in the block. -/
theorem put_w (x : S2x128x256.Idx → EReal) (idx : IVec S3 32) (upd : S16x128.Idx → EReal) (p r0 c0 : Nat)
    (h0 : (idx (ix1 0)).toInt = (p : Int)) (h1 : (idx (ix1 1)).toInt = (r0 : Int)) (h2 : (idx (ix1 2)).toInt = (c0 : Int))
    (a : Fin 2) (b : Fin 128) (n : Fin 256) :
    Host.scatter scatter_S2x128x256_S3_S16x128_01_0_012_0 (fun _ b => b) x idx upd (ix3 a b n)
      = if h : a.val = p ∧ (r0 ≤ b.val ∧ b.val < r0 + 16) ∧ c0 ≤ n.val ∧ n.val < c0 + 128 then
          upd (ix2 ⟨b.val - r0, by omega⟩ ⟨n.val - c0, by omega⟩) else x (ix3 a b n) := by
  have land : ∀ u : S16x128.Idx, scatter_S2x128x256_S3_S16x128_01_0_012_0.resultIdx? u idx = some (ix3 a b n)
      ↔ p = a.val ∧ r0 + (u 0).val = b.val ∧ c0 + (u 1).val = n.val := fun u => by
    rw [resultIdx?_eq_some]
    constructor
    · intro h
      have e0 : (idx (ix1 0)).toInt + ((0 : Nat) : Int) = (a.val : Int) := (congrArg (· + _) (start_w idx u 0)).symm.trans (h 0)
      have e1 : (idx (ix1 1)).toInt + ((u 0).val : Int) = (b.val : Int) := (congrArg (· + _) (start_w idx u 1)).symm.trans (h 1)
      have e2 : (idx (ix1 2)).toInt + ((u 1).val : Int) = (n.val : Int) := (congrArg (· + _) (start_w idx u 2)).symm.trans (h 2)
      omega
    · rintro ⟨e0, e1, e2⟩ ax
      match ax with
      | ⟨0, _⟩ => exact (congrArg (· + _) (start_w idx u 0)).trans (by show (idx (ix1 0)).toInt + ((0 : Nat) : Int) = (a.val : Int); omega)
      | ⟨1, _⟩ => exact (congrArg (· + _) (start_w idx u 1)).trans (by show (idx (ix1 1)).toInt + ((u 0).val : Int) = (b.val : Int); omega)
      | ⟨2, _⟩ => exact (congrArg (· + _) (start_w idx u 2)).trans (by show (idx (ix1 2)).toInt + ((u 1).val : Int) = (n.val : Int); omega)
  split
  · next h =>
    refine scatter_set_hit _ x idx upd _ _ (fun u hu => congrArg upd ?_) (ix2 ⟨b.val - r0, by omega⟩ ⟨n.val - c0, by omega⟩) ((land _).2 ?_)
    · have e := (land u).1 hu
      rw [eq_ix2 u]
      exact congrArg₂ ix2 (Fin.ext (by show (u 0).val = b.val - r0; omega)) (Fin.ext (by show (u 1).val = n.val - c0; omega))
    · show p = a.val ∧ r0 + (b.val - r0) = b.val ∧ c0 + (n.val - c0) = n.val
      omega
  · next h =>
    refine scatter_set_miss _ x idx upd _ fun u hu => h ?_
    have e := (land u).1 hu
    have q0 : (u 0).val < 16 := (u 0).isLt
    have q1 : (u 1).val < 128 := (u 1).isLt
    omega

/-- The biases after one such write, at an entry. -/
theorem put_b (x : S2x1x256.Idx → EReal) (idx : IVec S3 32) (upd : S128.Idx → EReal) (p c0 : Nat)
    (h0 : (idx (ix1 0)).toInt = (p : Int)) (h1 : (idx (ix1 1)).toInt = (0 : Int)) (h2 : (idx (ix1 2)).toInt = (c0 : Int))
    (a : Fin 2) (n : Fin 256) :
    Host.scatter scatter_S2x1x256_S3_S128_0_01_012_0 (fun _ b => b) x idx upd (ix3 a 0 n)
      = if h : a.val = p ∧ c0 ≤ n.val ∧ n.val < c0 + 128 then upd (ix1 ⟨n.val - c0, by omega⟩) else x (ix3 a 0 n) := by
  have land : ∀ u : S128.Idx, scatter_S2x1x256_S3_S128_0_01_012_0.resultIdx? u idx = some (ix3 a 0 n)
      ↔ p = a.val ∧ c0 + (u 0).val = n.val := fun u => by
    rw [resultIdx?_eq_some]
    constructor
    · intro h
      have e0 : (idx (ix1 0)).toInt + ((0 : Nat) : Int) = (a.val : Int) := (congrArg (· + _) (start_b idx u 0)).symm.trans (h 0)
      have e2 : (idx (ix1 2)).toInt + ((u 0).val : Int) = (n.val : Int) := (congrArg (· + _) (start_b idx u 2)).symm.trans (h 2)
      omega
    · rintro ⟨e0, e2⟩ ax
      match ax with
      | ⟨0, _⟩ => exact (congrArg (· + _) (start_b idx u 0)).trans (by show (idx (ix1 0)).toInt + ((0 : Nat) : Int) = (a.val : Int); omega)
      | ⟨1, _⟩ => exact (congrArg (· + _) (start_b idx u 1)).trans (by show (idx (ix1 1)).toInt + ((0 : Nat) : Int) = (0 : Int); omega)
      | ⟨2, _⟩ => exact (congrArg (· + _) (start_b idx u 2)).trans (by show (idx (ix1 2)).toInt + ((u 0).val : Int) = (n.val : Int); omega)
  split
  · next h =>
    refine scatter_set_hit _ x idx upd _ _ (fun u hu => congrArg upd ?_) (ix1 ⟨n.val - c0, by omega⟩) ((land _).2 ?_)
    · have e := (land u).1 hu
      rw [eq_ix1 u]
      exact congrArg ix1 (Fin.ext (by show (u 0).val = n.val - c0; omega))
    · show p = a.val ∧ c0 + (n.val - c0) = n.val
      omega
  · next h =>
    refine scatter_set_miss _ x idx upd _ fun u hu => h ?_
    have e := (land u).1 hu
    have q0 : (u 0).val < 128 := (u 0).isLt
    omega

/-- Three index words joined, at a word. -/
theorem word_apply (A B C : IVec S1 32) (h : Shape.Concatenates [S1, S1, S1] S3 0) :
    concatenate S3 0 [⟨S1, A⟩, ⟨S1, B⟩, ⟨S1, C⟩] h (ix1 0) = A (ix1 0) ∧ concatenate S3 0 [⟨S1, A⟩, ⟨S1, B⟩, ⟨S1, C⟩] h (ix1 1) = B (ix1 0)
      ∧ concatenate S3 0 [⟨S1, A⟩, ⟨S1, B⟩, ⟨S1, C⟩] h (ix1 2) = C (ix1 0) := by
  refine ⟨?_, ?_, ?_⟩ <;> pointwise

/-- A block of the gate weights: one direction's sixteen rows, at 128 columns. -/
theorem part_w (X : S2x16x256.Idx → EReal) (p c0 : Nat) (h1 : S2x16x256.Slices ![p, 0, 0] S1x16x256) (h2 : S1x16x256.ShapeCasts S16x256)
    (h3 : S16x256.Slices ![0, c0] S16x128) (i : Fin 16) (l : Fin 128) (d : Fin 2) (n : Fin 256) (hd : d.val = p) (hn : n.val = c0 + l.val) :
    extractStridedSlice S16x128 ![0, c0] (shapeCast S16x256 (extractStridedSlice S1x16x256 ![p, 0, 0] X h1) h2) h3 (ix2 i l) = X (ix3 d i n) := by
  pointwise
  refine congrArg X ?_
  funext ax
  match ax with
  | ⟨0, _⟩ => exact Fin.ext hd.symm
  | ⟨1, _⟩ => rfl
  | ⟨2, _⟩ => exact Fin.ext hn.symm

/-- A row of the gate biases: one direction's, at 128 columns. -/
theorem part_b (X : S2x256.Idx → EReal) (p c0 : Nat) (h1 : S2x256.Slices ![p, 0] S1x256) (h2 : S1x256.ShapeCasts S256)
    (h3 : S256.Slices ![c0] S128) (l : Fin 128) (d : Fin 2) (n : Fin 256) (hd : d.val = p) (hn : n.val = c0 + l.val) :
    extractStridedSlice S128 ![c0] (shapeCast S256 (extractStridedSlice S1x256 ![p, 0] X h1) h2) h3 (ix1 l) = X (ix2 d n) := by
  pointwise
  refine congrArg X ?_
  funext ax
  match ax with
  | ⟨0, _⟩ => exact Fin.ext hd.symm
  | ⟨1, _⟩ => exact Fin.ext hn.symm

/-- The four writes of the gate weights, over zeros: at a direction's sixteen rows its weights for the pair's heads,
    elsewhere nothing. -/
theorem four_w (Z : S2x128x256.Idx → EReal) (hZ : ∀ y, Z y = 0) (X : S2x16x256.Idx → EReal) (i0 i1 i2 i3 : IVec S3 32)
    (w00 : (i0 (ix1 0)).toInt = (0 : Int)) (w01 : (i0 (ix1 1)).toInt = (64 : Int)) (w02 : (i0 (ix1 2)).toInt = (0 : Int))
    (w10 : (i1 (ix1 0)).toInt = (0 : Int)) (w11 : (i1 (ix1 1)).toInt = (80 : Int)) (w12 : (i1 (ix1 2)).toInt = (128 : Int))
    (w20 : (i2 (ix1 0)).toInt = (1 : Int)) (w21 : (i2 (ix1 1)).toInt = (64 : Int)) (w22 : (i2 (ix1 2)).toInt = (0 : Int))
    (w30 : (i3 (ix1 0)).toInt = (1 : Int)) (w31 : (i3 (ix1 1)).toInt = (80 : Int)) (w32 : (i3 (ix1 2)).toInt = (128 : Int))
    (a : Fin 2) (j : Fin 128) (d : Fin 2) (l : Fin 128) :
    (Host.scatter scatter_S2x128x256_S3_S16x128_01_0_012_0 (fun _ b => b) (Host.scatter scatter_S2x128x256_S3_S16x128_01_0_012_0 (fun _ b => b) (Host.scatter scatter_S2x128x256_S3_S16x128_01_0_012_0 (fun _ b => b) (Host.scatter scatter_S2x128x256_S3_S16x128_01_0_012_0 (fun _ b => b) Z i0
      (extractStridedSlice S16x128 ![0, 0] (shapeCast S16x256 (extractStridedSlice S1x16x256 ![0, 0, 0] X slices_S2x16x256_S1x16x256_0_0_0) shapeCasts_S1x16x256_S16x256) slices_S16x256_S16x128_0_0)) i1
      (extractStridedSlice S16x128 ![0, 0] (shapeCast S16x256 (extractStridedSlice S1x16x256 ![1, 0, 0] X slices_S2x16x256_S1x16x256_1_0_0) shapeCasts_S1x16x256_S16x256) slices_S16x256_S16x128_0_0)) i2
      (extractStridedSlice S16x128 ![0, 128] (shapeCast S16x256 (extractStridedSlice S1x16x256 ![0, 0, 0] X slices_S2x16x256_S1x16x256_0_0_0) shapeCasts_S1x16x256_S16x256) slices_S16x256_S16x128_0_128)) i3
      (extractStridedSlice S16x128 ![0, 128] (shapeCast S16x256 (extractStridedSlice S1x16x256 ![1, 0, 0] X slices_S2x16x256_S1x16x256_1_0_0) shapeCasts_S1x16x256_S16x256) slices_S16x256_S16x128_0_128))
        (ix3 a j ⟨128 * d.val + l.val, by omega⟩)
      = if h : 64 + 16 * d.val ≤ j.val ∧ j.val < 64 + 16 * d.val + 16 then
          X (ix3 d ⟨j.val - (64 + 16 * d.val), by omega⟩ ⟨128 * a.val + l.val, by omega⟩) else 0 := by
  refine (put_w _ _ _ 1 80 128 w30 w31 w32 a j _).trans ?_
  split
  · next h =>
    simp only at h
    rw [dif_pos (by omega)]
    refine (part_w X 1 128 _ _ _ _ _ d ⟨128 * a.val + l.val, by omega⟩ (by omega) (by simp only; omega)).trans ?_
    exact congrArg X (congrArg (fun z => ix3 d z _) (Fin.ext (by simp only; omega)))
  next h3 =>
  refine (put_w _ _ _ 1 64 0 w20 w21 w22 a j _).trans ?_
  split
  · next h =>
    simp only at h
    rw [dif_pos (by omega)]
    refine (part_w X 0 128 _ _ _ _ _ d ⟨128 * a.val + l.val, by omega⟩ (by omega) (by simp only; omega)).trans ?_
    exact congrArg X (congrArg (fun z => ix3 d z _) (Fin.ext (by simp only; omega)))
  next h2 =>
  refine (put_w _ _ _ 0 80 128 w10 w11 w12 a j _).trans ?_
  split
  · next h =>
    simp only at h
    rw [dif_pos (by omega)]
    refine (part_w X 1 0 _ _ _ _ _ d ⟨128 * a.val + l.val, by omega⟩ (by omega) (by simp only; omega)).trans ?_
    exact congrArg X (congrArg (fun z => ix3 d z _) (Fin.ext (by simp only; omega)))
  next h1 =>
  refine (put_w _ _ _ 0 64 0 w00 w01 w02 a j _).trans ?_
  split
  · next h =>
    simp only at h
    rw [dif_pos (by omega)]
    refine (part_w X 0 0 _ _ _ _ _ d ⟨128 * a.val + l.val, by omega⟩ (by omega) (by simp only; omega)).trans ?_
    exact congrArg X (congrArg (fun z => ix3 d z _) (Fin.ext (by simp only; omega)))
  next h0 =>
  rw [dif_neg (by simp only at h0 h1 h2 h3; omega)]
  exact hZ _

/-- The four writes of the gate biases. -/
theorem four_b (Z : S2x1x256.Idx → EReal) (X : S2x256.Idx → EReal) (i0 i1 i2 i3 : IVec S3 32)
    (w00 : (i0 (ix1 0)).toInt = (0 : Int)) (w01 : (i0 (ix1 1)).toInt = (0 : Int)) (w02 : (i0 (ix1 2)).toInt = (0 : Int))
    (w10 : (i1 (ix1 0)).toInt = (0 : Int)) (w11 : (i1 (ix1 1)).toInt = (0 : Int)) (w12 : (i1 (ix1 2)).toInt = (128 : Int))
    (w20 : (i2 (ix1 0)).toInt = (1 : Int)) (w21 : (i2 (ix1 1)).toInt = (0 : Int)) (w22 : (i2 (ix1 2)).toInt = (0 : Int))
    (w30 : (i3 (ix1 0)).toInt = (1 : Int)) (w31 : (i3 (ix1 1)).toInt = (0 : Int)) (w32 : (i3 (ix1 2)).toInt = (128 : Int))
    (a d : Fin 2) (l : Fin 128) :
    (Host.scatter scatter_S2x1x256_S3_S128_0_01_012_0 (fun _ b => b) (Host.scatter scatter_S2x1x256_S3_S128_0_01_012_0 (fun _ b => b) (Host.scatter scatter_S2x1x256_S3_S128_0_01_012_0 (fun _ b => b) (Host.scatter scatter_S2x1x256_S3_S128_0_01_012_0 (fun _ b => b) Z i0
      (extractStridedSlice S128 ![0] (shapeCast S256 (extractStridedSlice S1x256 ![0, 0] X slices_S2x256_S1x256_0_0) shapeCasts_S1x256_S256) slices_S256_S128_0)) i1
      (extractStridedSlice S128 ![0] (shapeCast S256 (extractStridedSlice S1x256 ![1, 0] X slices_S2x256_S1x256_1_0) shapeCasts_S1x256_S256) slices_S256_S128_0)) i2
      (extractStridedSlice S128 ![128] (shapeCast S256 (extractStridedSlice S1x256 ![0, 0] X slices_S2x256_S1x256_0_0) shapeCasts_S1x256_S256) slices_S256_S128_128)) i3
      (extractStridedSlice S128 ![128] (shapeCast S256 (extractStridedSlice S1x256 ![1, 0] X slices_S2x256_S1x256_1_0) shapeCasts_S1x256_S256) slices_S256_S128_128))
        (ix3 a 0 ⟨128 * d.val + l.val, by omega⟩) = X (ix2 d ⟨128 * a.val + l.val, by omega⟩) := by
  refine (put_b _ _ _ 1 128 w30 w31 w32 a _).trans ?_
  split
  · next h =>
    simp only at h
    exact part_b X 1 128 _ _ _ _ d ⟨128 * a.val + l.val, by omega⟩ (by omega) (by simp only; omega)
  next h3 =>
  refine (put_b _ _ _ 1 0 w20 w21 w22 a _).trans ?_
  split
  · next h =>
    simp only at h
    exact part_b X 0 128 _ _ _ _ d ⟨128 * a.val + l.val, by omega⟩ (by omega) (by simp only; omega)
  next h2 =>
  refine (put_b _ _ _ 0 128 w10 w11 w12 a _).trans ?_
  split
  · next h =>
    simp only at h
    exact part_b X 1 0 _ _ _ _ d ⟨128 * a.val + l.val, by omega⟩ (by omega) (by simp only; omega)
  next h1 =>
  refine (put_b _ _ _ 0 0 w00 w01 w02 a _).trans ?_
  split
  · next h =>
    simp only at h
    exact part_b X 0 0 _ _ _ _ d ⟨128 * a.val + l.val, by omega⟩ (by omega) (by simp only; omega)
  next h0 =>
  simp only at h0 h1 h2 h3
  omega

end Cert.Kernel5Ideal.Gla
-- ==== Proof.GlaBlocks.lean ====
/-
  The blocks the gated linear attention's grid points load, read at an index: the keys, the values and the low-rank gate
  lanes of the projection, the gate weights and biases by head pair, and the initial states.
-/
module

public import proofs.«01_k».proof.Proof.GlaPut
public import proofs.«01_k».proof.Proof.Columns

@[expose] public section

set_option maxRecDepth 16384

noncomputable section

namespace Cert.Kernel5Ideal.Gla

open Cert.Kernel5Ideal Cert.Kernel5Ideal.Gen Idealize.ShloMosaic Idealize.ShloMosaic.TcCoe Idealize.SL.Sem
open Cert.Proof.Gla
open scoped BigOperators

variable (m : (ℓ : Loc nD τ sig) → Buf (Elt Ideal) ℓ)

/-- Where each window's block lies at each point of the grid. -/
theorem idx : ∀ t : Fin cfg0.N,
    win0_1.index t = ![(grid0.coords t 0).val, 0, 5 + (grid0.coords t 1).val] ∧ win0_2.index t = ![(grid0.coords t 0).val, 0, 7 + (grid0.coords t 1).val]
    ∧ win0_4.index t = ![(grid0.coords t 0).val, 0, 27] ∧ win0_5.index t = ![(grid0.coords t 1).val, 0, 0]
    ∧ win0_6.index t = ![(grid0.coords t 1).val, 0, 0] ∧ win0_8.index t = ![2 * (grid0.coords t 0).val + (grid0.coords t 1).val, 0, 0, 0, 0]
    ∧ win0_10.index t = ![2 * (grid0.coords t 0).val + (grid0.coords t 1).val, 0, 0, 0, 0] :=
  (by decide +kernel : ∀ t : Fin grid0.N, _)

/-! ## The argument arrays -/

/-- The projection as launched. -/
abbrev argP (c : Dev nD) : S32x256x3552.Idx → EReal := m ((c : Thread nD τ).loc main_arg0)
/-- The gate weights as launched. -/
abbrev argW (c : Dev nD) : S2x16x256.Idx → EReal := m ((c : Thread nD τ).loc main_arg1)
/-- The gate biases as launched. -/
abbrev argB (c : Dev nD) : S2x256.Idx → EReal := m ((c : Thread nD τ).loc main_arg2)

/-! ## The projection's columns, packed -/

/-- The buffers' contents where the host joins the column groups. -/
abbrev grp (c : Dev nD) (b : Ref sig .tc) : Buf (Elt Ideal) ((c : Thread nD τ).loc b) :=
  StableHlo.upto (hostOps0 (F := Ideal)) (fun b => m (c, b)) 24 (Proc.tc.devRef b)

/-- The column groups in the order in which the host joins them. -/
def pieces (c : Dev nD) : List ((s : Shape) × (s.Idx → EReal)) :=
  [⟨S32x256x256, grp m c main_v0⟩, ⟨S32x256x128, grp m c main_v1⟩, ⟨S32x256x256, grp m c main_v3⟩, ⟨S32x256x256, grp m c main_v4⟩,
    ⟨S32x256x256, grp m c main_v5⟩, ⟨S32x256x256, grp m c main_v7⟩, ⟨S32x256x512, grp m c main_v8⟩, ⟨S32x256x512, grp m c main_v9⟩,
    ⟨S32x256x512, grp m c main_v10⟩, ⟨S32x256x512, grp m c main_v11⟩, ⟨S32x256x32, grp m c main_v2⟩, ⟨S32x256x32, grp m c main_v23⟩,
    ⟨S32x256x32, grp m c main_v6⟩, ⟨S32x256x16, grp m c main_v12⟩, ⟨S32x256x16, grp m c main_v13⟩]

theorem grp_k (c : Dev nD) (a : Fin 32) (b j : Fin 256) :
    (grp m c main_v4 (ix3 a b j) : EReal) = argP m c (ix3 a b ⟨672 + j.val, by omega⟩) := by
  unfold grp
  after_reads_simp
  pointwise

theorem grp_v (c : Dev nD) (a : Fin 32) (b j : Fin 256) :
    (grp m c main_v5 (ix3 a b j) : EReal) = argP m c (ix3 a b ⟨928 + j.val, by omega⟩) := by
  unfold grp
  after_reads_simp
  pointwise

theorem grp_g (c : Dev nD) (a : Fin 32) (b : Fin 256) (j : Fin 32) :
    (grp m c main_v6 (ix3 a b j) : EReal) = argP m c (ix3 a b ⟨1184 + j.val, by omega⟩) := by
  unfold grp
  after_reads_simp
  pointwise

set_option maxHeartbeats 2000000 in
theorem packed_eq (c : Dev nD) :
    V (F := Ideal) m c main_v24
      = concatenate S32x256x3584 2 (pieces m c) concatenates_S32x256x256_S32x256x128_S32x256x256_S32x256x256_S32x256x256_S32x256x256_S32x256x512_S32x256x512_S32x256x512_S32x256x512_S32x256x32_S32x256x32_S32x256x32_S32x256x16_S32x256x16_S32x256x3584_d2 := by
  unfold V
  after_reads_simp
  rfl

/-- A packed row's keys. -/
theorem packed_k (c : Dev nD) (a : Fin 32) (b j : Fin 256) :
    (V (F := Ideal) m c main_v24 (ix3 a b ⟨640 + j.val, by omega⟩) : EReal) = argP m c (ix3 a b ⟨672 + j.val, by omega⟩) := by
  rw [packed_eq]
  exact (Cert.Proof.Columns.at_piece3 (pieces m c) _ _ _ _ 3 (show _ < 15 by decide) (grp m c main_v4) rfl 640 (by rfl) j rfl).trans (grp_k m c a b j)

/-- A packed row's values. -/
theorem packed_v (c : Dev nD) (a : Fin 32) (b j : Fin 256) :
    (V (F := Ideal) m c main_v24 (ix3 a b ⟨896 + j.val, by omega⟩) : EReal) = argP m c (ix3 a b ⟨928 + j.val, by omega⟩) := by
  rw [packed_eq]
  exact (Cert.Proof.Columns.at_piece3 (pieces m c) _ _ _ _ 4 (show _ < 15 by decide) (grp m c main_v5) rfl 896 (by rfl) j rfl).trans (grp_v m c a b j)

set_option maxHeartbeats 1000000 in
/-- A packed row's low-rank gate lanes. -/
theorem packed_g (c : Dev nD) (a : Fin 32) (b : Fin 256) (j : Fin 32) :
    (V (F := Ideal) m c main_v24 (ix3 a b ⟨3520 + j.val, by omega⟩) : EReal) = argP m c (ix3 a b ⟨1184 + j.val, by omega⟩) := by
  rw [packed_eq]
  exact (Cert.Proof.Columns.at_piece3 (pieces m c) _ _ _ _ 12 (show _ < 15 by decide) (grp m c main_v6) rfl 3520 (by rfl) j rfl).trans (grp_g m c a b j)

/-- The index words of the writes, at their places among the host's operations. -/
abbrev word (c : Dev nD) (K : Nat) (b : Ref sig .tc) : Buf (Elt Ideal) ((c : Thread nD τ).loc b) :=
  StableHlo.upto (hostOps0 (F := Ideal)) (fun b => m (c, b)) K (Proc.tc.devRef b)

theorem words_w (c : Dev nD) :
    (word m c 38 main_v30 : IVec S1 32) (ix1 0) = 0#32 ∧ (word m c 38 main_v31 : IVec S1 32) (ix1 0) = 64#32 ∧ (word m c 38 main_v32 : IVec S1 32) (ix1 0) = 0#32
      ∧ (word m c 60 main_v46 : IVec S1 32) (ix1 0) = 0#32 ∧ (word m c 60 main_v47 : IVec S1 32) (ix1 0) = 80#32 ∧ (word m c 60 main_v48 : IVec S1 32) (ix1 0) = 128#32
      ∧ (word m c 82 main_v62 : IVec S1 32) (ix1 0) = 1#32 ∧ (word m c 82 main_v63 : IVec S1 32) (ix1 0) = 64#32 ∧ (word m c 82 main_v64 : IVec S1 32) (ix1 0) = 0#32
      ∧ (word m c 104 main_v78 : IVec S1 32) (ix1 0) = 1#32 ∧ (word m c 104 main_v79 : IVec S1 32) (ix1 0) = 80#32 ∧ (word m c 104 main_v80 : IVec S1 32) (ix1 0) = 128#32 := by
  refine ⟨?_, ?_, ?_, ?_, ?_, ?_, ?_, ?_, ?_, ?_, ?_, ?_⟩ <;> (unfold word; after_reads_simp; rfl)

theorem words_b (c : Dev nD) :
    (word m c 49 main_v38 : IVec S1 32) (ix1 0) = 0#32 ∧ (word m c 49 main_v39 : IVec S1 32) (ix1 0) = 0#32 ∧ (word m c 49 main_v40 : IVec S1 32) (ix1 0) = 0#32
      ∧ (word m c 71 main_v54 : IVec S1 32) (ix1 0) = 0#32 ∧ (word m c 71 main_v55 : IVec S1 32) (ix1 0) = 0#32 ∧ (word m c 71 main_v56 : IVec S1 32) (ix1 0) = 128#32
      ∧ (word m c 93 main_v70 : IVec S1 32) (ix1 0) = 1#32 ∧ (word m c 93 main_v71 : IVec S1 32) (ix1 0) = 0#32 ∧ (word m c 93 main_v72 : IVec S1 32) (ix1 0) = 0#32
      ∧ (word m c 115 main_v86 : IVec S1 32) (ix1 0) = 1#32 ∧ (word m c 115 main_v87 : IVec S1 32) (ix1 0) = 0#32 ∧ (word m c 115 main_v88 : IVec S1 32) (ix1 0) = 128#32 := by
  refine ⟨?_, ?_, ?_, ?_, ?_, ?_, ?_, ?_, ?_, ?_, ?_, ?_⟩ <;> (unfold word; after_reads_simp; rfl)

/-- A narrowing over the extended reals changes nothing. -/
theorem narrow_apply (X : FVec Ideal S2x128x256 .f32) (y : S2x128x256.Idx) :
    (truncf (F := Ideal) (φ := .f32) .bf16 X bitsLt_bf16_f32 : FVec Ideal S2x128x256 .bf16) y = X y := rfl

set_option maxHeartbeats 1000000 in
/-- The packed gate weights: at a direction's sixteen rows its weights for the pair's heads, elsewhere nothing. -/
theorem w_arr (c : Dev nD) (a : Fin 2) (j : Fin 128) (d : Fin 2) (l : Fin 128) :
    (V (F := Ideal) m c main_v92 (ix3 a j ⟨128 * d.val + l.val, by omega⟩) : EReal)
      = if h : 64 + 16 * d.val ≤ j.val ∧ j.val < 64 + 16 * d.val + 16 then
          argW m c (ix3 d ⟨j.val - (64 + 16 * d.val), by omega⟩ ⟨128 * a.val + l.val, by omega⟩) else 0 := by
  obtain ⟨w00, w01, w02, w10, w11, w12, w20, w21, w22, w30, w31, w32⟩ := words_w m c
  unfold V
  after_reads_simp
  refine (narrow_apply _ _).trans ?_
  exact four_w _ (fun _ => Ideal.ofBits_zero_f32) (argW m c) _ _ _ _
    ((congrArg BitVec.toInt ((word_apply _ _ _ _).1.trans w00)).trans (by decide)) ((congrArg BitVec.toInt ((word_apply _ _ _ _).2.1.trans w01)).trans (by decide)) ((congrArg BitVec.toInt ((word_apply _ _ _ _).2.2.trans w02)).trans (by decide))
    ((congrArg BitVec.toInt ((word_apply _ _ _ _).1.trans w10)).trans (by decide)) ((congrArg BitVec.toInt ((word_apply _ _ _ _).2.1.trans w11)).trans (by decide)) ((congrArg BitVec.toInt ((word_apply _ _ _ _).2.2.trans w12)).trans (by decide))
    ((congrArg BitVec.toInt ((word_apply _ _ _ _).1.trans w20)).trans (by decide)) ((congrArg BitVec.toInt ((word_apply _ _ _ _).2.1.trans w21)).trans (by decide)) ((congrArg BitVec.toInt ((word_apply _ _ _ _).2.2.trans w22)).trans (by decide))
    ((congrArg BitVec.toInt ((word_apply _ _ _ _).1.trans w30)).trans (by decide)) ((congrArg BitVec.toInt ((word_apply _ _ _ _).2.1.trans w31)).trans (by decide)) ((congrArg BitVec.toInt ((word_apply _ _ _ _).2.2.trans w32)).trans (by decide)) a j d l

set_option maxHeartbeats 1000000 in
/-- The packed gate biases. -/
theorem b_arr (c : Dev nD) (a d : Fin 2) (l : Fin 128) :
    (V (F := Ideal) m c main_v90 (ix3 a 0 ⟨128 * d.val + l.val, by omega⟩) : EReal) = argB m c (ix2 d ⟨128 * a.val + l.val, by omega⟩) := by
  obtain ⟨w00, w01, w02, w10, w11, w12, w20, w21, w22, w30, w31, w32⟩ := words_b m c
  unfold V
  after_reads_simp
  exact four_b _ (argB m c) _ _ _ _
    ((congrArg BitVec.toInt ((word_apply _ _ _ _).1.trans w00)).trans (by decide)) ((congrArg BitVec.toInt ((word_apply _ _ _ _).2.1.trans w01)).trans (by decide)) ((congrArg BitVec.toInt ((word_apply _ _ _ _).2.2.trans w02)).trans (by decide))
    ((congrArg BitVec.toInt ((word_apply _ _ _ _).1.trans w10)).trans (by decide)) ((congrArg BitVec.toInt ((word_apply _ _ _ _).2.1.trans w11)).trans (by decide)) ((congrArg BitVec.toInt ((word_apply _ _ _ _).2.2.trans w12)).trans (by decide))
    ((congrArg BitVec.toInt ((word_apply _ _ _ _).1.trans w20)).trans (by decide)) ((congrArg BitVec.toInt ((word_apply _ _ _ _).2.1.trans w21)).trans (by decide)) ((congrArg BitVec.toInt ((word_apply _ _ _ _).2.2.trans w22)).trans (by decide))
    ((congrArg BitVec.toInt ((word_apply _ _ _ _).1.trans w30)).trans (by decide)) ((congrArg BitVec.toInt ((word_apply _ _ _ _).2.1.trans w31)).trans (by decide)) ((congrArg BitVec.toInt ((word_apply _ _ _ _).2.2.trans w32)).trans (by decide)) a d l

/-- The initial states are zero. -/
theorem s_arr (c : Dev nD) (y : S64x2x2x64x64.Idx) : (V (F := Ideal) m c main_v99 y : EReal) = (0 : EReal) := by
  entry_read
  exact Ideal.ofBits_zero_f32

/-! ## The blocks -/

/-- The token group of a grid point, and its head pair. -/
abbrev bt (t : Fin cfg0.N) : Fin 32 := ⟨(grid0.coords t 0).val, (grid0.coords t 0).isLt⟩
abbrev pr (t : Fin cfg0.N) : Fin 2 := ⟨(grid0.coords t 1).val, (grid0.coords t 1).isLt⟩

theorem k_block (c : Dev nD) (t : Fin cfg0.N) (r : Fin 256) (k : Fin 128) :
    (iblk (F := Ideal) m c 1 t (ix3 0 r k) : EReal) = argP m c (ix3 (bt t) r ⟨672 + (128 * (pr t).val + k.val), by have := (pr t).isLt; omega⟩) := by
  have hp := (pr t).isLt
  have e0 : ((cfg0.win 1).blk t).view.emb (ix3 0 r k)
      = (ix3 (bt t) r ⟨640 + (⟨128 * (pr t).val + k.val, by omega⟩ : Fin 256).val, by show 640 + (128 * (pr t).val + k.val) < 3584; omega⟩ : S32x256x3584.Idx) := by
    blk_ext [idx t]
  show (V (F := Ideal) m c main_v24 (((cfg0.win 1).blk t).view.emb (ix3 0 r k)) : EReal) = _
  rw [e0, packed_k]

theorem v_block (c : Dev nD) (t : Fin cfg0.N) (r : Fin 256) (k : Fin 128) :
    (iblk (F := Ideal) m c 2 t (ix3 0 r k) : EReal) = argP m c (ix3 (bt t) r ⟨928 + (128 * (pr t).val + k.val), by have := (pr t).isLt; omega⟩) := by
  have hp := (pr t).isLt
  have e0 : ((cfg0.win 2).blk t).view.emb (ix3 0 r k)
      = (ix3 (bt t) r ⟨896 + (⟨128 * (pr t).val + k.val, by omega⟩ : Fin 256).val, by show 896 + (128 * (pr t).val + k.val) < 3584; omega⟩ : S32x256x3584.Idx) := by
    blk_ext [idx t]
  show (V (F := Ideal) m c main_v24 (((cfg0.win 2).blk t).view.emb (ix3 0 r k)) : EReal) = _
  rw [e0, packed_v]

theorem g_block (c : Dev nD) (t : Fin cfg0.N) (r : Fin 256) (j : Fin 32) :
    (iblk (F := Ideal) m c 4 t (ix3 0 r ⟨64 + j.val, by omega⟩) : EReal) = argP m c (ix3 (bt t) r ⟨1184 + j.val, by omega⟩) := by
  have e0 : ((cfg0.win 4).blk t).view.emb (ix3 0 r ⟨64 + j.val, by omega⟩) = (ix3 (bt t) r ⟨3520 + j.val, by omega⟩ : S32x256x3584.Idx) := by
    blk_ext [idx t]
  show (V (F := Ideal) m c main_v24 (((cfg0.win 4).blk t).view.emb (ix3 0 r ⟨64 + j.val, by omega⟩)) : EReal) = _
  rw [e0, packed_g]

theorem s_block (c : Dev nD) (t : Fin cfg0.N) (y) : (iblk (F := Ideal) m c 8 t y : EReal) = (0 : EReal) :=
  s_arr m c (((cfg0.win 8).blk t).view.emb y)

end Cert.Kernel5Ideal.Gla
-- ==== Proof.GlaCum.lean ====
/-
  A running sum along a chunk's tokens, as the host's windowed sum: entry `r` is the sum of the entries up to `r`.
-/
module

public import proofs.«01_k».proof.Proof.GlaMath
public import proofs.«01_k».proof.Proof.Gen.Reference5Ideal.Read

@[expose] public section

set_option maxRecDepth 16384

noncomputable section

namespace Cert.Reference5Ideal.Gla

open Cert.Reference5Ideal Cert.Reference5Ideal.Gen Cert.Reference5Ideal.Read Idealize.ShloMosaic Idealize.ShloMosaic.TcCoe Idealize.SL.Sem
open Cert.Proof.Gla
open scoped BigOperators

/-- Adding up a list one entry at a time. -/
theorem fold_add {ι : Type} (f : ι → EReal) (l : List ι) : ∀ v : EReal, l.foldl (fun r n => r + f n) v = v + (l.map f).sum := by
  induction l with
  | nil => intro v; simp
  | cons a l ih => intro v; rw [List.foldl_cons, ih, List.map_cons, List.sum_cons, add_assoc]

/-- The window: sixty-four tokens of one column. -/
abbrev W : Shape := ⟨5, ![1, 1, 64, 1, 1]⟩

/-- A place of the window is its token. -/
def winEquiv : Fin 64 ≃ W.Idx where
  toFun w := ix5 (0 : Fin 1) (0 : Fin 1) w (0 : Fin 1) (0 : Fin 1)
  invFun y := y 2
  left_inv w := rfl
  right_inv y := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _

/-- The window that ends at `r` holds the entries up to `r`. -/
theorem window_sum (g : Fin 64 → EReal) (r : Fin 64) :
    (∑ w : Fin 64, if h : 63 ≤ r.val + w.val then g ⟨r.val + w.val - 63, by omega⟩ else 0) = ∑ j : Fin 64, if j ≤ r then g j else 0 := by
  rw [← Finset.sum_filter (fun j : Fin 64 => j ≤ r)]
  rw [← Finset.sum_subset (Finset.subset_univ (Finset.univ.filter fun w : Fin 64 => 63 ≤ r.val + w.val))
    (fun w _ hw => dif_neg fun h => hw (Finset.mem_filter.2 ⟨Finset.mem_univ _, h⟩))]
  refine Finset.sum_bij' (fun w _ => (⟨r.val + w.val - 63, by omega⟩ : Fin 64)) (fun j hj => (⟨(63 + j.val - r.val) % 64, by omega⟩ : Fin 64)) ?_ ?_ ?_ ?_ ?_
  · intro w hw
    have := (Finset.mem_filter.1 hw).2
    exact Finset.mem_filter.2 ⟨Finset.mem_univ _, by show r.val + w.val - 63 ≤ r.val; omega⟩
  · intro j hj
    have : j.val ≤ r.val := (Finset.mem_filter.1 hj).2
    exact Finset.mem_filter.2 ⟨Finset.mem_univ _, by show 63 ≤ r.val + (63 + j.val - r.val) % 64; omega⟩
  · intro w hw
    have := (Finset.mem_filter.1 hw).2
    apply Fin.ext
    show (63 + (r.val + w.val - 63) - r.val) % 64 = w.val
    omega
  · intro j hj
    have : j.val ≤ r.val := (Finset.mem_filter.1 hj).2
    apply Fin.ext
    show r.val + (63 + j.val - r.val) % 64 - 63 = j.val
    omega
  · intro w hw
    exact dif_pos (Finset.mem_filter.1 hw).2

/-- The running sum at a token. -/
theorem cum_apply (x : FVec Ideal S32x4x64x4x64 .f32) (init : FVec Ideal S_ .f32) (hi : ∀ y, (init y : EReal) = (0 : EReal))
    (h : S32x4x64x4x64.ReduceWindows ![1, 1, 64, 1, 1] ![1, 1, 1, 1, 1] ![0, 0, 63, 0, 0] ![0, 0, 0, 0, 0] S32x4x64x4x64) (hu : 0 < S_.numel)
    (b : Fin 32) (c : Fin 4) (r : Fin 64) (q : Fin 4) (k : Fin 64) :
    (Host.reduceWindowAdd ![1, 1, 64, 1, 1] ![1, 1, 1, 1, 1] ![0, 0, 63, 0, 0] ![0, 0, 0, 0, 0] x init h hu (ix5 b c r q k) : EReal)
      = ∑ j : Fin 64, if j ≤ r then (x (ix5 b c j q k) : EReal) else 0 := by
  have hv : (init (Shape.Idx.first hu) : EReal) = (0 : EReal) := hi _
  unfold Host.reduceWindowAdd
  rw [Ideal.hostReduceWindowAdd_def]
  unfold Ideal.hostReduceWindowAdd Host.reduceWindow
  rw [hv]
  dsimp only
  refine (fold_add _ _ _).trans ?_
  rw [zero_add, ← Fin.sum_univ_def]
  let G : W.Idx → EReal := fun y => if h : 63 ≤ r.val + (y 2).val then
    (x (ix5 b c ⟨r.val + (y 2).val - 63, by have : (y 2).val < 64 := (y 2).isLt; have := r.isLt; omega⟩ q k) : EReal) else 0
  refine (Finset.sum_congr rfl fun n _ => (?_ : _ = G (W.rowMajor.symm n))).trans ((Equiv.sum_comp W.rowMajor.symm G).trans
    ((Equiv.sum_comp winEquiv G).symm.trans (window_sum (fun j => (x (ix5 b c j q k) : EReal)) r)))
  have y0 : (W.rowMajor.symm n 0).val = 0 := Nat.lt_one_iff.1 (W.rowMajor.symm n 0).isLt
  have y1 : (W.rowMajor.symm n 1).val = 0 := Nat.lt_one_iff.1 (W.rowMajor.symm n 1).isLt
  have y3 : (W.rowMajor.symm n 3).val = 0 := Nat.lt_one_iff.1 (W.rowMajor.symm n 3).isLt
  have y4 : (W.rowMajor.symm n 4).val = 0 := Nat.lt_one_iff.1 (W.rowMajor.symm n 4).isLt
  have y2 : (W.rowMajor.symm n 2).val < 64 := (W.rowMajor.symm n 2).isLt
  dsimp only [G]
  split
  · next hin =>
    have h2 := (hin 2).1
    change 63 ≤ r.val * 1 + (W.rowMajor.symm n 2).val at h2
    rw [dif_pos (by omega)]
    refine congrArg x (funext fun a => Fin.ext ?_)
    match a with
    | ⟨0, _⟩ => show b.val * 1 + (W.rowMajor.symm n 0).val - 0 = b.val; omega
    | ⟨1, _⟩ => show c.val * 1 + (W.rowMajor.symm n 1).val - 0 = c.val; omega
    | ⟨2, _⟩ => show r.val * 1 + (W.rowMajor.symm n 2).val - 63 = r.val + (W.rowMajor.symm n 2).val - 63; omega
    | ⟨3, _⟩ => show q.val * 1 + (W.rowMajor.symm n 3).val - 0 = q.val; omega
    | ⟨4, _⟩ => show k.val * 1 + (W.rowMajor.symm n 4).val - 0 = k.val; omega
  · next hin =>
    rw [dif_neg fun hle => hin fun a => by
      match a with
      | ⟨0, _⟩ => show 0 ≤ b.val * 1 + (W.rowMajor.symm n 0).val ∧ b.val * 1 + (W.rowMajor.symm n 0).val - 0 < 32; omega
      | ⟨1, _⟩ => show 0 ≤ c.val * 1 + (W.rowMajor.symm n 1).val ∧ c.val * 1 + (W.rowMajor.symm n 1).val - 0 < 4; omega
      | ⟨2, _⟩ => show 63 ≤ r.val * 1 + (W.rowMajor.symm n 2).val ∧ r.val * 1 + (W.rowMajor.symm n 2).val - 63 < 64; omega
      | ⟨3, _⟩ => show 0 ≤ q.val * 1 + (W.rowMajor.symm n 3).val ∧ q.val * 1 + (W.rowMajor.symm n 3).val - 0 < 4; omega
      | ⟨4, _⟩ => show 0 ≤ k.val * 1 + (W.rowMajor.symm n 4).val ∧ k.val * 1 + (W.rowMajor.symm n 4).val - 0 < 64; omega]

end Cert.Reference5Ideal.Gla

end
-- ==== Proof.GlaRef.lean ====
/-
  The gated linear attention's reference: one chunk's step and the four chunks together, for either direction.
-/
module

public import proofs.«01_k».proof.Proof.GlaCum
public import Idealize.ShloMosaic.Lib.Pointwise

@[expose] public section

set_option maxRecDepth 16384

noncomputable section

namespace Cert.Reference5Ideal.Gla

open Cert.Reference5Ideal Cert.Reference5Ideal.Gen Cert.Reference5Ideal.Read Idealize.ShloMosaic Idealize.ShloMosaic.TcCoe Idealize.SL.Sem
open Cert.Proof.Gla
open scoped BigOperators

/-! ## The gates -/

/-- The gates of an array of logits. -/
def gateR (Y : FVec Ideal S32x256x256 .f32) : FVec Ideal S32x256x256 .f32 :=
  let n := Host.negf Y
  let z := val_main_call0_call0_v2 (F := Ideal)
  Host.divf (Host.negf (select (cmpf .une (subf n z) (subf n z)) (addf n z)
    (addf (maximumf n z) (Host.log1p (Host.exp (Host.negf (Host.absf (subf n z)))))))) (val_main_v13 (F := Ideal))

theorem gate_fwd (x0 : FVec Ideal S32x256x3552 .f32) (x1 : FVec Ideal S2x16x256 .f32) (x2 : FVec Ideal S2x256 .f32) :
    val_main_v14 (F := Ideal) x0 x1 x2 = gateR (val_main_v11 (F := Ideal) x0 x1 x2) := rfl

theorem gate_bwd (x0 : FVec Ideal S32x256x3552 .f32) (x1 : FVec Ideal S2x16x256 .f32) (x2 : FVec Ideal S2x256 .f32) :
    val_main_v82 (F := Ideal) x0 x1 x2 = gateR (val_main_v79 (F := Ideal) x0 x1 x2) := rfl

/-- Sixteen, from its bits. -/
theorem bits_16 : (Ideal.ofBits .f32 0x41800000#32 : EReal) = ((16 : ℝ) : EReal) := by
  simp [Ideal.ofBits, Ideal.ieee, -EReal.coe_mul]
  norm_num

/-- The reference's gate of one logit. -/
theorem gate_scalar (y : EReal) :
    Ideal.div (-(Scalar.select (Ideal.cmp .une (-y - 0) (-y - 0)) (-y + 0) (max (-y) 0 + Ideal.log1p (Ideal.exp (-(max (-y - 0) (-(-y - 0))))))))
      ((16 : ℝ) : EReal) = ls y := by
  have e : Ideal.cmp .une (-y - 0) (-y - 0) = 0#1 := by simp [Ideal.cmp]
  have h16 : ((16 : ℝ) : EReal)⁻¹ = (((1 : ℝ) / 16 : ℝ) : EReal) := by rw [← EReal.coe_inv, one_div]
  rw [e]
  unfold ls Ideal.div
  rw [if_neg (by norm_num), h16]
  rw [show Scalar.select (0#1) (-y + 0) (max (-y) 0 + Ideal.log1p (Ideal.exp (-(max (-y - 0) (-(-y - 0))))))
    = max (-y) 0 + Ideal.log1p (Ideal.exp (-(max (-y - 0) (-(-y - 0))))) from rfl]
  rw [sub_zero, zero_sub, zero_sub, zero_sub]
  rfl

theorem gate_apply (Y : FVec Ideal S32x256x256 .f32) (i : S32x256x256.Idx) : (gateR Y i : EReal) = ls (Y i) := by
  have hz : (val_main_call0_call0_v2 (F := Ideal) i : EReal) = (0 : EReal) := by
    rw [val_main_call0_call0_v2_apply, val_main_call0_call0_cst_apply]
    exact Ideal.ofBits_zero_f32
  have h16 : (val_main_v13 (F := Ideal) i : EReal) = ((16 : ℝ) : EReal) := by
    rw [val_main_v13_apply, val_main_cst_apply]
    exact bits_16
  refine Eq.trans ?_ (gate_scalar (Y i))
  rw [← hz, ← h16]
  rfl

/-! ## One chunk's step -/

/-- The running sums of the gates. -/
def cumR (A : FVec Ideal S32x4x64x4x64 .f32) : FVec Ideal S32x4x64x4x64 .f32 :=
  Host.reduceWindowAdd ![1, 1, 64, 1, 1] ![1, 1, 1, 1, 1] ![0, 0, 63, 0, 0] ![0, 0, 0, 0, 0] A (val_main_call1_call0_v0 (F := Ideal))
    reduceWindows_S32x4x64x4x64_S32x4x64x4x64_w1s1p0_0_w1s1p0_0_w64s1p63_0_w1s1p0_0_w1s1p0_0 h_S_

theorem cumR_apply (A : FVec Ideal S32x4x64x4x64 .f32) (b : Fin 32) (c : Fin 4) (r : Fin 64) (q : Fin 4) (k : Fin 64) :
    (cumR A (ix5 b c r q k) : EReal) = ∑ j : Fin 64, if j ≤ r then (A (ix5 b c j q k) : EReal) else 0 :=
  cum_apply A _ (fun y => by
    rw [val_main_call1_call0_v0_apply, val_main_call1_call0_cst_apply]
    exact Ideal.ofBits_zero_f32) _ _ b c r q k

/-- Each chunk's last running sum. -/
def lastR (C : FVec Ideal S32x4x64x4x64 .f32) : FVec Ideal S32x4x1x4x64 .f32 :=
  extractStridedSlice S32x4x1x4x64 ![0, 0, 63, 0, 0] C slices_S32x4x64x4x64_S32x4x1x4x64_0_0_63_0_0

/-- The keys, decayed to the end of their chunk. -/
def endR (K C : FVec Ideal S32x4x64x4x64 .f32) : FVec Ideal S32x4x64x4x64 .f32 :=
  mulf K (Host.exp (subf (broadcastInDim S32x4x64x4x64 ![0, 1, 2, 3, 4] bcast_S32x4x1x4x64_S32x4x64x4x64_0_1_2_3_4 (lastR C)) C))

/-- Each chunk's whole decay. -/
def decR (C : FVec Ideal S32x4x64x4x64 .f32) : FVec Ideal S32x4x4x64 .f32 :=
  Host.exp (shapeCast S32x4x4x64 (lastR C) shapeCasts_S32x4x1x4x64_S32x4x4x64)

/-- A chunk's step from its decay, its keys and its values. -/
def stepR (D : FVec Ideal S32x1x4x64 .f32) (E V : FVec Ideal S32x1x64x4x64 .f32) (S : FVec Ideal S32x4x64x64 .f32) : FVec Ideal S32x4x64x64 .f32 :=
  addf (mulf S (broadcastInDim S32x4x64x64 ![0, 1, 2, 3] bcast_S32x4x64x1_S32x4x64x64_0_1_2_3
      (broadcastInDim S32x4x64x1 ![0, 1, 2] bcast_S32x4x64_S32x4x64x1_0_1_2 (shapeCast S32x4x64 D shapeCasts_S32x1x4x64_S32x4x64))))
    (Host.dotGeneral dot_S32x64x4x64_S32x64x4x64_S32x4x64x64_1_1_3_3_02_02 none (shapeCast S32x64x4x64 E shapeCasts_S32x1x64x4x64_S32x64x4x64)
      (shapeCast S32x64x4x64 V shapeCasts_S32x1x64x4x64_S32x64x4x64))

theorem end_apply (K C : FVec Ideal S32x4x64x4x64 .f32) (b : Fin 32) (c : Fin 4) (r : Fin 64) (q : Fin 4) (k : Fin 64) :
    (endR K C (ix5 b c r q k) : EReal) = K (ix5 b c r q k) * Ideal.exp (C (ix5 b c 63 q k) - C (ix5 b c r q k)) := by
  unfold endR lastR
  pointwise

theorem dec_apply (C : FVec Ideal S32x4x64x4x64 .f32) (b : Fin 32) (c : Fin 4) (q : Fin 4) (k : Fin 64) :
    (decR C (ix4 b c q k) : EReal) = Ideal.exp (C (ix5 b c 63 q k)) := by
  unfold decR lastR
  pointwise

theorem stepR_apply (D : FVec Ideal S32x1x4x64 .f32) (E V : FVec Ideal S32x1x64x4x64 .f32) (S : FVec Ideal S32x4x64x64 .f32)
    (b : Fin 32) (q : Fin 4) (k v : Fin 64) :
    (stepR D E V S (ix4 b q k v) : EReal) = S (ix4 b q k v) * D (ix4 b 0 q k) + ∑ r : Fin 64, E (ix5 b 0 r q k) * V (ix5 b 0 r q v) := by
  unfold stepR
  pointwise

/-- A chunk's step from the arrays of all the chunks. -/
def chunkR (c : Nat) (hd : S32x4x4x64.Slices ![0, c, 0, 0] S32x1x4x64) (he : S32x4x64x4x64.Slices ![0, c, 0, 0, 0] S32x1x64x4x64)
    (D : FVec Ideal S32x4x4x64 .f32) (E V : FVec Ideal S32x4x64x4x64 .f32) (S : FVec Ideal S32x4x64x64 .f32) : FVec Ideal S32x4x64x64 .f32 :=
  stepR (extractStridedSlice S32x1x4x64 ![0, c, 0, 0] D hd) (extractStridedSlice S32x1x64x4x64 ![0, c, 0, 0, 0] E he)
    (extractStridedSlice S32x1x64x4x64 ![0, c, 0, 0, 0] V he) S

theorem cut_dec (c : Fin 4) (hd : S32x4x4x64.Slices ![0, c.val, 0, 0] S32x1x4x64) (D : FVec Ideal S32x4x4x64 .f32) (b : Fin 32) (q : Fin 4) (k : Fin 64) :
    (extractStridedSlice S32x1x4x64 ![0, c.val, 0, 0] D hd (ix4 b 0 q k) : EReal) = D (ix4 b c q k) := by
  pointwise

theorem cut_rows (c : Fin 4) (he : S32x4x64x4x64.Slices ![0, c.val, 0, 0, 0] S32x1x64x4x64) (E : FVec Ideal S32x4x64x4x64 .f32) (b : Fin 32) (r : Fin 64)
    (q : Fin 4) (k : Fin 64) :
    (extractStridedSlice S32x1x64x4x64 ![0, c.val, 0, 0, 0] E he (ix5 b 0 r q k) : EReal) = E (ix5 b c r q k) := by
  pointwise

/-- A chunk's step is the step of its column's gates, keys and values. -/
theorem chunkR_apply (c : Fin 4) (hd : S32x4x4x64.Slices ![0, c.val, 0, 0] S32x1x4x64) (he : S32x4x64x4x64.Slices ![0, c.val, 0, 0, 0] S32x1x64x4x64)
    (A K V : FVec Ideal S32x4x64x4x64 .f32) (S : FVec Ideal S32x4x64x64 .f32) (b : Fin 32) (q : Fin 4) (k v : Fin 64)
    (aa kk vv : Fin 256 → EReal) (s : EReal) (hA : ∀ c r, (A (ix5 b c r q k) : EReal) = aa (row c r)) (hK : ∀ c r, (K (ix5 b c r q k) : EReal) = kk (row c r))
    (hV : ∀ c r, (V (ix5 b c r q v) : EReal) = vv (row c r)) (hS : (S (ix4 b q k v) : EReal) = s) :
    (chunkR c.val hd he (decR (cumR A)) (endR K (cumR A)) V S (ix4 b q k v) : EReal) = step aa kk vv c s := by
  have hc : ∀ r, (cumR A (ix5 b c r q k) : EReal) = cum aa c r := fun r =>
    (cumR_apply A b c r q k).trans (Finset.sum_congr rfl fun j _ => by rw [hA])
  unfold chunkR
  rw [stepR_apply, cut_dec, dec_apply, hc, hS]
  unfold step
  refine congrArg (s * Ideal.exp (cum aa c 63) + ·) (Finset.sum_congr rfl fun r _ => ?_)
  rw [cut_rows, cut_rows, end_apply, hc, hc, hK, hV, mul_comm]

/-- The four chunks, from zero. -/
def chainR (A K V : FVec Ideal S32x4x64x4x64 .f32) : FVec Ideal S32x4x64x64 .f32 :=
  let D := decR (cumR A)
  let E := endR K (cumR A)
  chunkR 3 slices_S32x4x4x64_S32x1x4x64_0_3_0_0 slices_S32x4x64x4x64_S32x1x64x4x64_0_3_0_0_0 D E V
    (chunkR 2 slices_S32x4x4x64_S32x1x4x64_0_2_0_0 slices_S32x4x64x4x64_S32x1x64x4x64_0_2_0_0_0 D E V
      (chunkR 1 slices_S32x4x4x64_S32x1x4x64_0_1_0_0 slices_S32x4x64x4x64_S32x1x64x4x64_0_1_0_0_0 D E V
        (chunkR 0 slices_S32x4x4x64_S32x1x4x64_0_0_0_0 slices_S32x4x64x4x64_S32x1x64x4x64_0_0_0_0_0 D E V (val_main_v26 (F := Ideal)))))

theorem chain_fwd (x0 : FVec Ideal S32x256x3552 .f32) (x1 : FVec Ideal S2x16x256 .f32) (x2 : FVec Ideal S2x256 .f32) :
    val_main_v70 (F := Ideal) x0 x1 x2 = chainR (val_main_v17 (F := Ideal) x0 x1 x2) (val_main_v15 (F := Ideal) x0) (val_main_v16 (F := Ideal) x0) := rfl

theorem chain_bwd (x0 : FVec Ideal S32x256x3552 .f32) (x1 : FVec Ideal S2x16x256 .f32) (x2 : FVec Ideal S2x256 .f32) :
    val_main_v141 (F := Ideal) x0 x1 x2 = chainR (val_main_v88 (F := Ideal) x0 x1 x2) (val_main_v86 (F := Ideal) x0) (val_main_v87 (F := Ideal) x0) := rfl

theorem chainR_apply (A K V : FVec Ideal S32x4x64x4x64 .f32) (b : Fin 32) (q : Fin 4) (k v : Fin 64)
    (aa kk vv : Fin 256 → EReal) (hA : ∀ c r, (A (ix5 b c r q k) : EReal) = aa (row c r)) (hK : ∀ c r, (K (ix5 b c r q k) : EReal) = kk (row c r))
    (hV : ∀ c r, (V (ix5 b c r q v) : EReal) = vv (row c r)) :
    (chainR A K V (ix4 b q k v) : EReal) = state aa kk vv := by
  have h0 : (val_main_v26 (F := Ideal) (ix4 b q k v) : EReal) = (0 : EReal) := by
    rw [val_main_v26_apply, val_main_cst_0_apply]
    exact Ideal.ofBits_zero_f32
  have a0 := chunkR_apply 0 slices_S32x4x4x64_S32x1x4x64_0_0_0_0 slices_S32x4x64x4x64_S32x1x64x4x64_0_0_0_0_0 A K V _ b q k v aa kk vv _ hA hK hV h0
  have a1 := chunkR_apply 1 slices_S32x4x4x64_S32x1x4x64_0_1_0_0 slices_S32x4x64x4x64_S32x1x64x4x64_0_1_0_0_0 A K V _ b q k v aa kk vv _ hA hK hV a0
  have a2 := chunkR_apply 2 slices_S32x4x4x64_S32x1x4x64_0_2_0_0 slices_S32x4x64x4x64_S32x1x64x4x64_0_2_0_0_0 A K V _ b q k v aa kk vv _ hA hK hV a1
  exact chunkR_apply 3 slices_S32x4x4x64_S32x1x4x64_0_3_0_0 slices_S32x4x64x4x64_S32x1x64x4x64_0_3_0_0_0 A K V _ b q k v aa kk vv _ hA hK hV a2

end Cert.Reference5Ideal.Gla

end
-- ==== Proof.GlaRead.lean ====
/-
  The gated linear attention's reference at an index: each state from the projection and the gate's weights.
-/
module

public import proofs.«01_k».proof.Proof.GlaRef
public import proofs.«01_k».proof.Proof.GlaBody

@[expose] public section

set_option maxRecDepth 16384

noncomputable section

namespace Cert.Reference5Ideal.Gla

open Cert.Reference5Ideal Cert.Reference5Ideal.Gen Cert.Reference5Ideal.Read Idealize.ShloMosaic Idealize.ShloMosaic.TcCoe Idealize.SL.Sem
open Cert.Proof.Gla
open Cert.Kernel5Ideal.Gla (tok)
open scoped BigOperators

variable (x0 : S32x256x3552.Idx → EReal) (x1 : S2x16x256.Idx → EReal) (x2 : S2x256.Idx → EReal)

/-- The column of lane `k` of head `q`. -/
abbrev col (q : Fin 4) (k : Fin 64) : Fin 256 := ⟨64 * q.val + k.val, by omega⟩

/-- A token's logit for direction `d`. -/
def logit (b : Fin 32) (d : Fin 2) (n l : Fin 256) : EReal :=
  (∑ i : Fin 16, x0 (ix3 b n ⟨1184 + (16 * d.val + i.val), by omega⟩) * x1 (ix3 d i l)) + x2 (ix2 d l)

/-- One state. -/
def stateAt (b : Fin 32) (d : Fin 2) (q : Fin 4) (k v : Fin 64) : EReal :=
  state (fun n => ls (logit x0 x1 x2 b d (tok d n) (col q k))) (fun n => x0 (ix3 b (tok d n) ⟨672 + (64 * q.val + k.val), by omega⟩))
    (fun n => x0 (ix3 b (tok d n) ⟨928 + (64 * q.val + v.val), by omega⟩))

/-- The columns by head and the tokens by chunk. -/
theorem split_apply (X : FVec Ideal S32x256x256 .f32) (b : Fin 32) (c : Fin 4) (r : Fin 64) (q : Fin 4) (k : Fin 64) :
    (shapeCast S32x4x64x4x64 X shapeCasts_S32x256x256_S32x4x64x4x64 (ix5 b c r q k) : EReal) = X (ix3 b (row c r) (col q k)) := by
  pointwise
  exact congrArg X (congrArg₂ (ix3 b) (Fin.ext (by show c.val * 64 + r.val = 64 * c.val + r.val; omega))
    (Fin.ext (by show q.val * 64 + k.val = 64 * q.val + k.val; omega)))

/-- The tokens from the last to the first. -/
theorem rev_apply (X : FVec Ideal S32x256x256 .f32) (b : Fin 32) (n l : Fin 256) :
    ((Host.reverse [1] X : FVec Ideal S32x256x256 .f32) (ix3 b n l) : EReal) = X (ix3 b n.rev l) := by
  pointwise
  rfl

theorem logit_fwd (b : Fin 32) (n l : Fin 256) : (val_main_v11 (F := Ideal) x0 x1 x2 (ix3 b n l) : EReal) = logit x0 x1 x2 b 0 n l := by
  unfold val_main_v11 val_main_v6 val_main_v3 val_main_v2 val_main_v5 val_main_v4 val_main_v10 val_main_v9 val_main_v8 val_main_v7 logit
  pointwise

theorem logit_bwd (b : Fin 32) (n l : Fin 256) : (val_main_v79 (F := Ideal) x0 x1 x2 (ix3 b n l) : EReal) = logit x0 x1 x2 b 1 n l := by
  unfold val_main_v79 val_main_v74 val_main_v71 val_main_v2 val_main_v73 val_main_v72 val_main_v78 val_main_v77 val_main_v76 val_main_v75 logit
  pointwise

theorem key_read (b : Fin 32) (n l : Fin 256) : (val_main_v0 (F := Ideal) x0 (ix3 b n l) : EReal) = x0 (ix3 b n ⟨672 + l.val, by omega⟩) := by
  unfold val_main_v0
  pointwise

theorem val_read (b : Fin 32) (n l : Fin 256) : (val_main_v1 (F := Ideal) x0 (ix3 b n l) : EReal) = x0 (ix3 b n ⟨928 + l.val, by omega⟩) := by
  unfold val_main_v1
  pointwise

/-- The forward direction's states. -/
theorem state_fwd (b : Fin 32) (q : Fin 4) (k v : Fin 64) :
    (val_main_v70 (F := Ideal) x0 x1 x2 (ix4 b q k v) : EReal) = stateAt x0 x1 x2 b 0 q k v := by
  rw [chain_fwd]
  refine chainR_apply _ _ _ b q k v _ _ _ (fun c r => ?_) (fun c r => ?_) fun c r => ?_
  · unfold val_main_v17
    refine (split_apply _ b c r q k).trans ?_
    rw [gate_fwd, gate_apply, logit_fwd]
    rfl
  · unfold val_main_v15
    exact (split_apply _ b c r q k).trans (key_read x0 b _ _)
  · unfold val_main_v16
    exact (split_apply _ b c r q v).trans (val_read x0 b _ _)

/-- The backward direction's states. -/
theorem state_bwd (b : Fin 32) (q : Fin 4) (k v : Fin 64) :
    (val_main_v141 (F := Ideal) x0 x1 x2 (ix4 b q k v) : EReal) = stateAt x0 x1 x2 b 1 q k v := by
  rw [chain_bwd]
  refine chainR_apply _ _ _ b q k v _ _ _ (fun c r => ?_) (fun c r => ?_) fun c r => ?_
  · unfold val_main_v88 val_main_v85
    refine (split_apply _ b c r q k).trans ((rev_apply _ b _ _).trans ?_)
    rw [gate_bwd, gate_apply, logit_bwd]
    rfl
  · unfold val_main_v86 val_main_v83
    exact (split_apply _ b c r q k).trans ((rev_apply _ b _ _).trans (key_read x0 b _ _))
  · unfold val_main_v87 val_main_v84
    exact (split_apply _ b c r q v).trans ((rev_apply _ b _ _).trans (val_read x0 b _ _))

/-- The two directions side by side. -/
def bothR (X Y : FVec Ideal S32x4x64x64 .f32) : FVec Ideal S32x2x4x64x64 .f32 :=
  concatenate S32x2x4x64x64 1 [⟨S32x1x4x64x64, broadcastInDim S32x1x4x64x64 ![0, 2, 3, 4] bcast_S32x4x64x64_S32x1x4x64x64_0_2_3_4 X⟩,
    ⟨S32x1x4x64x64, broadcastInDim S32x1x4x64x64 ![0, 2, 3, 4] bcast_S32x4x64x64_S32x1x4x64x64_0_2_3_4 Y⟩] concatenates_S32x1x4x64x64_S32x1x4x64x64_S32x2x4x64x64_d1

theorem both_fst (X Y : FVec Ideal S32x4x64x64 .f32) (b : Fin 32) (q : Fin 4) (k v : Fin 64) :
    (bothR X Y (ix5 b 0 q k v) : EReal) = X (ix4 b q k v) := by
  unfold bothR
  pointwise

theorem both_snd (X Y : FVec Ideal S32x4x64x64 .f32) (b : Fin 32) (q : Fin 4) (k v : Fin 64) :
    (bothR X Y (ix5 b 1 q k v) : EReal) = Y (ix4 b q k v) := by
  unfold bothR
  pointwise

/-- The heads in pairs, the values before the keys. -/
theorem pairs_apply (Z : FVec Ideal S32x2x4x64x64 .f32) (b : Fin 32) (p d h : Fin 2) (v k : Fin 64) :
    (shapeCast S64x2x2x64x64 (transpose S32x2x2x2x64x64 [0, 1, 2, 3, 5, 4] (transpose S32x2x2x2x64x64 [0, 2, 1, 3, 4, 5]
      (shapeCast S32x2x2x2x64x64 Z shapeCasts_S32x2x4x64x64_S32x2x2x2x64x64) transposes_S32x2x2x2x64x64_S32x2x2x2x64x64_0_2_1_3_4_5)
      transposes_S32x2x2x2x64x64_S32x2x2x2x64x64_0_1_2_3_5_4) shapeCasts_S32x2x2x2x64x64_S64x2x2x64x64
      (ix5 (⟨2 * b.val + p.val, by omega⟩ : Fin 64) d h v k) : EReal) = Z (ix5 b d ⟨2 * p.val + h.val, by omega⟩ k v) := by
  pointwise
  exact congrArg (fun q : Fin 4 => Z (ix5 b d q k v)) (Fin.ext (by show p.val * 2 + h.val = 2 * p.val + h.val; omega))

/-- The reference's result at an index. -/
theorem ref_apply (b : Fin 32) (p d h : Fin 2) (v k : Fin 64) :
    (val_main_v148 (F := Ideal) x0 x1 x2 (ix5 (⟨2 * b.val + p.val, by omega⟩ : Fin 64) d h v k) : EReal)
      = stateAt x0 x1 x2 b d ⟨2 * p.val + h.val, by omega⟩ k v := by
  refine (pairs_apply (bothR (val_main_v70 (F := Ideal) x0 x1 x2) (val_main_v141 (F := Ideal) x0 x1 x2)) b p d h v k).trans ?_
  obtain rfl | rfl : d = 0 ∨ d = 1 := by omega
  · exact (both_fst _ _ b _ k v).trans (state_fwd x0 x1 x2 b _ k v)
  · exact (both_snd _ _ b _ k v).trans (state_bwd x0 x1 x2 b _ k v)

end Cert.Reference5Ideal.Gla

end
-- ==== Proof.GlaFinal.lean ====
/-
  The gated linear attention's states after the run: the kernel's array is the reference's.
-/
module

public import proofs.«01_k».proof.Proof.GlaBlocks
public import proofs.«01_k».proof.Proof.GlaRead

@[expose] public section

set_option maxRecDepth 16384

noncomputable section

namespace Cert.Kernel5Ideal.Gla

open Cert.Kernel5Ideal Cert.Kernel5Ideal.Gen Idealize.ShloMosaic Idealize.ShloMosaic.TcCoe Idealize.SL.Sem
open Cert.Proof.Gla
open scoped BigOperators

variable (m : (ℓ : Loc nD τ sig) → Buf (Elt Ideal) ℓ)

/-- The gate weights of a grid point's head pair: zero outside the direction's sixteen rows. -/
theorem w_block (c : Dev nD) (t : Fin cfg0.N) (j : Fin 128) (d : Fin 2) (l : Fin 128) :
    (iblk (F := Ideal) m c 5 t (ix3 0 j ⟨128 * d.val + l.val, by omega⟩) : EReal)
      = if h : 64 + 16 * d.val ≤ j.val ∧ j.val < 64 + 16 * d.val + 16
        then argW m c (ix3 d ⟨j.val - (64 + 16 * d.val), by omega⟩ ⟨128 * (pr t).val + l.val, by have := (pr t).isLt; omega⟩) else (0 : EReal) := by
  have e0 : ((cfg0.win 5).blk t).view.emb (ix3 0 j ⟨128 * d.val + l.val, by omega⟩) = (ix3 (pr t) j ⟨128 * d.val + l.val, by omega⟩ : S2x128x256.Idx) := by
    blk_ext [idx t]
  show (V (F := Ideal) m c main_v92 (((cfg0.win 5).blk t).view.emb (ix3 0 j ⟨128 * d.val + l.val, by omega⟩)) : EReal) = _
  rw [e0, w_arr]

theorem b_block (c : Dev nD) (t : Fin cfg0.N) (d : Fin 2) (l : Fin 128) :
    (iblk (F := Ideal) m c 6 t (ix3 0 0 ⟨128 * d.val + l.val, by omega⟩) : EReal)
      = argB m c (ix2 d ⟨128 * (pr t).val + l.val, by have := (pr t).isLt; omega⟩) := by
  have e0 : ((cfg0.win 6).blk t).view.emb (ix3 0 0 ⟨128 * d.val + l.val, by omega⟩) = (ix3 (pr t) 0 ⟨128 * d.val + l.val, by omega⟩ : S2x1x256.Idx) := by
    blk_ext [idx t]
  show (V (F := Ideal) m c main_v90 (((cfg0.win 6).blk t).view.emb (ix3 0 0 ⟨128 * d.val + l.val, by omega⟩)) : EReal) = _
  rw [e0, b_arr]

/-- A sum over lanes of which only sixteen have a weight. -/
theorem sum_lanes (o : Nat) (ho : o + 16 ≤ 128) (f : Fin 128 → EReal) (w : Fin 16 → EReal) :
    (∑ j : Fin 128, f j * (if h : o ≤ j.val ∧ j.val < o + 16 then w ⟨j.val - o, by omega⟩ else (0 : EReal))) = ∑ i : Fin 16, f ⟨o + i.val, by omega⟩ * w i := by
  refine (Fintype.sum_of_injective (fun i : Fin 16 => (⟨o + i.val, by omega⟩ : Fin 128)) (fun a b h => ?_) _ _ (fun j hj => ?_) fun i => ?_).symm
  · have := congrArg Fin.val h
    exact Fin.ext (by simpa using this)
  · rw [dif_neg fun h => hj ⟨⟨j.val - o, by omega⟩, Fin.ext (by show o + (j.val - o) = j.val; omega)⟩, mul_zero]
  · rw [dif_pos ⟨by show o ≤ o + i.val; omega, by show o + i.val < o + 16; omega⟩]
    exact congrArg (f _ * w ·) (Fin.ext (by show i.val = o + i.val - o; omega))

/-- A head pair's lane `k` of head `h`, among all the heads' lanes. -/
theorem pair_lane (p h : Fin 2) (k : Fin 64) :
    (⟨128 * p.val + (lane h k).val, by have := (lane h k).isLt; omega⟩ : Fin 256) = Cert.Reference5Ideal.Gla.col ⟨2 * p.val + h.val, by omega⟩ k :=
  Fin.ext (by show 128 * p.val + (64 * h.val + k.val) = 64 * (2 * p.val + h.val) + k.val; omega)

/-- A grid point's states, from what its blocks hold of the arrays. -/
theorem entry_eq (X1 X2 : Vec Ideal S1x256x128 .f32) (X4 : Vec Ideal S1x256x128 .f32) (X5 : Vec Ideal S1x128x256 .bf16) (X6 : Vec Ideal S1x1x256 .f32)
    (P : S32x256x3552.Idx → EReal) (W : S2x16x256.Idx → EReal) (B : S2x256.Idx → EReal) (b : Fin 32) (p : Fin 2)
    (h1 : ∀ (r : Fin 256) (l : Fin 128), (X1 (ix3 0 r l) : EReal) = P (ix3 b r ⟨672 + (128 * p.val + l.val), by omega⟩))
    (h2 : ∀ (r : Fin 256) (l : Fin 128), (X2 (ix3 0 r l) : EReal) = P (ix3 b r ⟨928 + (128 * p.val + l.val), by omega⟩))
    (h4 : ∀ (r : Fin 256) (j : Fin 32), (X4 (ix3 0 r ⟨64 + j.val, by omega⟩) : EReal) = P (ix3 b r ⟨1184 + j.val, by omega⟩))
    (h5 : ∀ (j : Fin 128) (d : Fin 2) (l : Fin 128), (X5 (ix3 0 j ⟨128 * d.val + l.val, by omega⟩) : EReal)
      = if h : 64 + 16 * d.val ≤ j.val ∧ j.val < 64 + 16 * d.val + 16 then W (ix3 d ⟨j.val - (64 + 16 * d.val), by omega⟩ ⟨128 * p.val + l.val, by omega⟩) else (0 : EReal))
    (h6 : ∀ (d : Fin 2) (l : Fin 128), (X6 (ix3 0 0 ⟨128 * d.val + l.val, by omega⟩) : EReal) = B (ix2 d ⟨128 * p.val + l.val, by omega⟩))
    (d h : Fin 2) (v k : Fin 64) :
    entry X1 X2 X4 X5 X6 d h v k = Cert.Reference5Ideal.Gla.stateAt P W B b d ⟨2 * p.val + h.val, by omega⟩ k v := by
  unfold entry Cert.Reference5Ideal.Gla.stateAt
  refine congr (congrArg₂ state (funext fun n => congrArg ls ?_) (funext fun n => ?_)) (funext fun n => ?_)
  · unfold Cert.Reference5Ideal.Gla.logit
    rw [h6 d (lane h k), pair_lane p h k]
    refine congrArg (fun s : EReal => s + B (ix2 d (Cert.Reference5Ideal.Gla.col ⟨2 * p.val + h.val, by omega⟩ k))) ?_
    refine (Finset.sum_congr rfl fun j _ => congrArg (fun s : EReal => (X4 (ix3 0 (tok d n) j) : EReal) * s) (h5 j d (lane h k))).trans ?_
    refine (sum_lanes (64 + 16 * d.val) (by omega) (fun j => X4 (ix3 0 (tok d n) j)) (fun i => W (ix3 d i ⟨128 * p.val + (lane h k).val, by have := (lane h k).isLt; omega⟩))).trans ?_
    rw [pair_lane p h k]
    refine Finset.sum_congr rfl fun i _ => congrArg (fun s : EReal => s * W (ix3 d i _)) ?_
    refine Eq.trans (congrArg (fun j : Fin 128 => (X4 (ix3 0 (tok d n) j) : EReal)) (Fin.ext ?_)) (h4 (tok d n) ⟨16 * d.val + i.val, by omega⟩)
    show 64 + 16 * d.val + i.val = 64 + (16 * d.val + i.val)
    omega
  · refine (h1 (tok d n) (lane h k)).trans (congrArg (fun l : Fin 3552 => P (ix3 b (tok d n) l)) (Fin.ext ?_))
    show 672 + (128 * p.val + (64 * h.val + k.val)) = 672 + (64 * (2 * p.val + h.val) + k.val)
    omega
  · refine (h2 (tok d n) (lane h v)).trans (congrArg (fun l : Fin 3552 => P (ix3 b (tok d n) l)) (Fin.ext ?_))
    show 928 + (128 * p.val + (64 * h.val + v.val)) = 928 + (64 * (2 * p.val + h.val) + v.val)
    omega

/-- What the reference gives of the states. -/
def G (c : Dev nD) : S64x2x2x64x64.Idx → EReal := Cert.Reference5Ideal.Read.val_main_v148 (F := Ideal) (argP m c) (argW m c) (argB m c)

theorem state_entry (c : Dev nD) (t : Fin cfg0.N) (d h : Fin 2) (v k : Fin 64) :
    ((dats (F := Ideal) m 0 c).after 10 t (ix5 0 d h v k) : EReal)
      = G m c (ix5 ⟨2 * (bt t).val + (pr t).val, by have := (bt t).isLt; have := (pr t).isLt; omega⟩ d h v k) := by
  rw [after0_10]
  refine (outs_apply m c t (s_block m c t) d h v k).trans ?_
  unfold G
  refine Eq.trans ?_ (Cert.Reference5Ideal.Gla.ref_apply (argP m c) (argW m c) (argB m c) (bt t) (pr t) d h v k).symm
  exact entry_eq _ _ _ _ _ (argP m c) (argW m c) (argB m c) (bt t) (pr t) (k_block m c t) (v_block m c t) (g_block m c t) (w_block m c t) (b_block m c t) d h v k

/-! ## THE ARRAY AFTER THE RUN -/

theorem final (c : Dev nD) : (dats (F := Ideal) m 0 c).arrAt 10 cfg0.N = G m c := by
  refine (dats m 0 c).arrAt_eq_of_covers 10 _ (by decide +kernel) fun t hf y => ?_
  blk_simp
  obtain ⟨a, d, h, v, k, rfl⟩ : ∃ (a : Fin 1) (d h : Fin 2) (v k : Fin 64), y = ix5 a d h v k := ⟨y 0, y 1, y 2, y 3, y 4, eq_ix5 y⟩
  obtain rfl : a = 0 := Subsingleton.elim _ _
  have e0 : ((cfg0.win 10).blk t).view.emb (ix5 0 d h v k)
      = (ix5 ⟨2 * (bt t).val + (pr t).val, by have := (bt t).isLt; have := (pr t).isLt; omega⟩ d h v k : S64x2x2x64x64.Idx) := by
    blk_ext [idx t]
  exact (state_entry m c t d h v k).trans (congrArg (G m c) e0.symm)

end Cert.Kernel5Ideal.Gla

end
-- ==== Proof.OutMath.lean ====
/-
  The mathematics of the output projection and the router: a row normalised by its mean square, the affinities as a
  softmax over sixteen experts, and the same softmax over a full group of lanes of which the first sixteen count.
-/
module

public import proofs.«01_k».proof.Proof.ProjReal

@[expose] public section

set_option maxRecDepth 16384

noncomputable section

namespace Cert.Proof.Out

open Idealize.ShloMosaic
open Cert.Proof.Softmax
open Cert.Kernel2Ideal.Proj (modulated modulated_real)
open scoped BigOperators

/-- One entry of a row normalised by its mean square, with its gain. -/
def normed (y : Fin 1024 → EReal) (g : EReal) (e : Fin 1024) : EReal :=
  y e * Ideal.rsqrt (Ideal.div (∑ k : Fin 1024, y k * y k) (Ideal.ofBits .f32 0x44800000#32) + Ideal.ofBits .f32 0x358637BD#32) * g

/-- One entry of the token after the mixers: the token plus the gate times the normalised mix. -/
def joined (x gate : EReal) (y : Fin 1024 → EReal) (g : EReal) (e : Fin 1024) : EReal :=
  x + gate * normed y g e

/-- The affinity of one expert: the softmax of the scores. -/
def affinity (s : Fin 16 → EReal) (l : Fin 16) : EReal :=
  Ideal.div (Ideal.exp (s l - Finset.univ.fold max ⊥ s)) (∑ k, Ideal.exp (s k - Finset.univ.fold max ⊥ s))

/-- The scores in a full group of lanes: those past the sixteenth lie below everything. -/
def masked (S : Fin 128 → EReal) (l : Fin 128) : EReal := if l.val < 16 then S l else ⊥

/-- The softmax over a full group of lanes. -/
def soft (T : Fin 128 → EReal) (l : Fin 128) : EReal :=
  Ideal.div (Ideal.exp (T l - Finset.univ.fold max ⊥ T)) (∑ k, Ideal.exp (T k - Finset.univ.fold max ⊥ T))

/-- Products of reals sum to a real. -/
theorem sum_real {n : Nat} (a b : Fin n → EReal) (ha : ∀ k, ∃ r : ℝ, a k = (r : EReal)) (hb : ∀ k, ∃ r : ℝ, b k = (r : EReal)) :
    ∃ r : ℝ, (∑ k, a k * b k) = (r : EReal) := by
  choose f hf using ha
  choose g hg using hb
  refine ⟨∑ k, f k * g k, ?_⟩
  rw [coe_sum]
  exact Finset.sum_congr rfl fun k _ => by rw [hf k, hg k, EReal.coe_mul]

/-- A sum of two reals is real. -/
theorem add_real {a b : EReal} (ha : ∃ r : ℝ, a = (r : EReal)) (hb : ∃ r : ℝ, b = (r : EReal)) : ∃ r : ℝ, a + b = (r : EReal) := by
  obtain ⟨x, rfl⟩ := ha
  obtain ⟨y, rfl⟩ := hb
  exact ⟨x + y, (EReal.coe_add x y).symm⟩

/-- A real less itself is nothing. -/
theorem sub_self_real {a : EReal} (ha : ∃ r : ℝ, a = (r : EReal)) : a - a = 0 := by
  obtain ⟨x, rfl⟩ := ha
  rw [← EReal.coe_sub, sub_self, EReal.coe_zero]

/-- A normalised row of reals is real. -/
theorem normed_real (y : Fin 1024 → EReal) (g : EReal) (e : Fin 1024) (hy : ∀ k, ∃ r : ℝ, y k = (r : EReal)) (hg : ∃ r : ℝ, g = (r : EReal)) :
    ∃ r : ℝ, normed y g e = (r : EReal) := by
  obtain ⟨r, hr⟩ := modulated_real y g 0 0 e hy hg ⟨0, EReal.coe_zero.symm⟩ ⟨0, EReal.coe_zero.symm⟩
  refine ⟨r, ?_⟩
  rw [← hr]
  unfold normed modulated
  rw [Ideal.ofBits_one_f32, add_zero, add_zero, mul_one]

theorem joined_real (x gate : EReal) (y : Fin 1024 → EReal) (g : EReal) (e : Fin 1024) (hx : ∃ r : ℝ, x = (r : EReal))
    (ht : ∃ r : ℝ, gate = (r : EReal)) (hy : ∀ k, ∃ r : ℝ, y k = (r : EReal)) (hg : ∃ r : ℝ, g = (r : EReal)) :
    ∃ r : ℝ, joined x gate y g e = (r : EReal) := by
  obtain ⟨n, hn⟩ := normed_real y g e hy hg
  obtain ⟨t, rfl⟩ := ht
  unfold joined
  rw [hn]
  exact add_real hx ⟨t * n, (EReal.coe_mul t n).symm⟩

/-- A product split into a rounded part and its remainder: over the reals the remainders are nothing. -/
theorem split_dot (a b : Fin 1024 → EReal) (ha : ∀ k, ∃ r : ℝ, a k = (r : EReal)) (hb : ∀ k, ∃ r : ℝ, b k = (r : EReal)) :
    (∑ k, a k * b k) + (∑ k, a k * (b k - b k)) + (∑ k, (a k - a k) * b k) = ∑ k, a k * b k := by
  have h1 : (∑ k, a k * (b k - b k)) = 0 := Finset.sum_eq_zero fun k _ => by rw [sub_self_real (hb k), mul_zero]
  have h2 : (∑ k, (a k - a k) * b k) = 0 := Finset.sum_eq_zero fun k _ => by rw [sub_self_real (ha k), zero_mul]
  rw [h1, h2, add_zero, add_zero]

/-- A selected lane, by products with the three parts of a split. -/
theorem pick (sel a : Fin 128 → EReal) (e : Fin 128) (ha : ∀ k, ∃ r : ℝ, a k = (r : EReal)) (hs : ∀ k, sel k = if k = e then 1 else 0) :
    (∑ k, sel k * a k) + (∑ k, sel k * (a k - a k)) + (∑ k, sel k * ((a k - a k) - (a k - a k))) = a e := by
  have h1 : (∑ k, sel k * (a k - a k)) = 0 := Finset.sum_eq_zero fun k _ => by rw [sub_self_real (ha k), mul_zero]
  have h2 : (∑ k, sel k * ((a k - a k) - (a k - a k))) = 0 :=
    Finset.sum_eq_zero fun k _ => by rw [sub_self_real (ha k), sub_zero, mul_zero]
  have h0 : (∑ k, sel k * a k) = a e := by
    rw [Finset.sum_eq_single e (fun k _ hk => by rw [hs, if_neg hk, zero_mul]) (fun h => absurd (Finset.mem_univ _) h), hs, if_pos rfl, one_mul]
  rw [h1, h2, h0, add_zero, add_zero]

/-- The largest of the masked lanes is the largest score. -/
theorem max_masked (S : Fin 128 → EReal) :
    Finset.univ.fold max ⊥ (masked S) = Finset.univ.fold max ⊥ fun k : Fin 16 => S ⟨k.val, by omega⟩ := by
  refine eq_of_forall_ge_iff fun c => ?_
  rw [Finset.fold_max_le, Finset.fold_max_le]
  constructor
  · rintro ⟨h0, h⟩
    refine ⟨h0, fun k _ => ?_⟩
    have e := h ⟨k.val, by omega⟩ (Finset.mem_univ _)
    unfold masked at e
    rwa [if_pos k.isLt] at e
  · rintro ⟨h0, h⟩
    refine ⟨h0, fun k _ => ?_⟩
    unfold masked
    split
    · next hk => exact h ⟨k.val, hk⟩ (Finset.mem_univ _)
    · exact bot_le

/-- A lane below everything weighs nothing. -/
theorem exp_bot_sub {M : EReal} (hM : ∃ r : ℝ, M = (r : EReal)) : Ideal.exp (⊥ - M) = 0 := by
  obtain ⟨x, rfl⟩ := hM
  rw [EReal.bot_sub]
  rfl

/-- The sum over 128 lanes of which only the first sixteen count. -/
theorem sum_lanes (f : Fin 128 → EReal) (h : ∀ k : Fin 128, ¬ k.val < 16 → f k = 0) :
    (∑ k, f k) = ∑ k : Fin 16, f ⟨k.val, by omega⟩ := by
  have e := Fin.sum_univ_add (a := 16) (b := 112) f
  refine e.trans ?_
  have z : (∑ i : Fin 112, f (Fin.natAdd 16 i)) = 0 := Finset.sum_eq_zero fun i _ => h _ (by show ¬ (16 + i.val < 16); omega)
  rw [z, add_zero]
  rfl

/-- THE SOFTMAX OVER THE LANES is the affinity in the first sixteen and nothing in the rest. -/
theorem soft_masked (S : Fin 128 → EReal) (hS : ∀ k, ∃ r : ℝ, S k = (r : EReal)) (l : Fin 128) :
    soft (masked S) l = if h : l.val < 16 then affinity (fun k => S ⟨k.val, by omega⟩) ⟨l.val, h⟩ else 0 := by
  have hM := fold_max_real (fun k : Fin 16 => S ⟨k.val, by omega⟩) fun k => hS _
  unfold soft affinity
  rw [max_masked]
  generalize Finset.univ.fold max ⊥ (fun k : Fin 16 => S ⟨k.val, by omega⟩) = M at hM ⊢
  have hsum : (∑ k, Ideal.exp (masked S k - M)) = ∑ k : Fin 16, Ideal.exp (S ⟨k.val, by omega⟩ - M) := by
    refine (sum_lanes _ fun k hk => ?_).trans (Finset.sum_congr rfl fun k _ => ?_)
    · unfold masked
      rw [if_neg hk]
      exact exp_bot_sub hM
    · unfold masked
      rw [if_pos (show (⟨k.val, _⟩ : Fin 128).val < 16 from k.isLt)]
  rw [hsum]
  unfold masked
  split
  · rfl
  · have hpos := fun k : Fin 16 => exp_sub_pos (S ⟨k.val, by omega⟩) M (hS _) hM
    choose p hp hpe using hpos
    rw [exp_bot_sub hM, show (∑ k : Fin 16, Ideal.exp (S ⟨k.val, by omega⟩ - M)) = ((∑ k, p k : ℝ) : EReal) by
      rw [coe_sum]; exact Finset.sum_congr rfl fun k _ => hpe k]
    have hs : 0 < ∑ k, p k := Finset.sum_pos (fun k _ => hp k) Finset.univ_nonempty
    rw [Ideal.div_coe hs.ne', zero_mul]

/-- The affinities of real scores are real. -/
theorem affinity_real (s : Fin 16 → EReal) (hs : ∀ k, ∃ r : ℝ, s k = (r : EReal)) (l : Fin 16) : ∃ r : ℝ, affinity s l = (r : EReal) := by
  have hM := fold_max_real s hs
  unfold affinity
  generalize Finset.univ.fold max ⊥ s = M at hM ⊢
  have hpos := fun k : Fin 16 => exp_sub_pos (s k) M (hs _) hM
  choose p hp hpe using hpos
  rw [show (∑ k : Fin 16, Ideal.exp (s k - M)) = ((∑ k, p k : ℝ) : EReal) by
    rw [coe_sum]; exact Finset.sum_congr rfl fun k _ => hpe k]
  have h0 : 0 < ∑ k, p k := Finset.sum_pos (fun k _ => hp k) Finset.univ_nonempty
  rw [Ideal.div_coe h0.ne', hpe l, ← EReal.coe_mul]
  exact ⟨_, rfl⟩

/-- A row of 1024 joined from three segments, against a column: the segments' products added up. -/
theorem three_parts (f : Fin 1024 → EReal) :
    (∑ k : Fin 256, f ⟨k.val, by omega⟩) + (∑ k : Fin 256, f ⟨256 + k.val, by omega⟩) + (∑ k : Fin 512, f ⟨512 + k.val, by omega⟩)
      = ∑ k, f k := by
  refine Eq.symm ((Fin.sum_univ_add (a := 512) (b := 512) f).trans ?_)
  refine congrArg₂ (· + ·) ((Fin.sum_univ_add (a := 256) (b := 256) fun k : Fin 512 => f ⟨k.val, by omega⟩)) rfl

end Cert.Proof.Out

end
-- ==== Proof.OutBody.lean ====
/-
  The output projection's blocks at an index: the token after the mixers, the token the experts read with its affinities
  behind it, and the affinities lane by lane.
-/
module

public import proofs.«01_k».proof.Proof.Gen.Kernel6Ideal.Value
public import proofs.«01_k».proof.Proof.OutMath
public import Idealize.ShloMosaic.Lib.Pointwise
public import Idealize.ShloMosaic.Lib.Pipeline.ValueKit

@[expose] public section

set_option maxRecDepth 16384

noncomputable section

namespace Cert.Kernel6Ideal.Out

open Cert.Kernel6Ideal Cert.Kernel6Ideal.Gen Idealize.ShloMosaic Idealize.SL.Sem
open Cert.Proof.Out
open Cert.Kernel2Ideal.Proj (modulated)
open scoped BigOperators

/-- The mixers' outputs times the projection's rows, the three of them added. -/
def mix (a b : Fin 256 → EReal) (c : Fin 512 → EReal) (u v : Fin 256 → Fin 1024 → EReal) (w : Fin 512 → Fin 1024 → EReal)
    (e : Fin 1024) : EReal :=
  (∑ k, a k * u k e) + (∑ k, b k * v k e) + (∑ k, c k * w k e)

/-- The mix, over the root of its mean square. -/
theorem mix_apply (v0 : Vec Ideal S512x256 .bf16) (v2 : Vec Ideal S256x1024 .bf16) (v5 : Vec Ideal S512x256 .bf16)
    (v7 : Vec Ideal S256x1024 .bf16) (v11 : Vec Ideal S512x512 .bf16) (v13 : Vec Ideal S512x1024 .bf16) (r : Fin 512) (e : Fin 1024) :
    (k0_pay6 (F := Ideal) v0 v2 v5 v7 v11 v13 (ix2 r e) : EReal)
      = normed (mix (fun k => v0 (ix2 r k)) (fun k => v5 (ix2 r k)) (fun k => v11 (ix2 r k)) (fun k e => v2 (ix2 k e))
          (fun k e => v7 (ix2 k e)) (fun k e => v13 (ix2 k e))) 1 e := by
  unfold k0_pay6 normed mix
  rw [mul_one]
  pointwise

/-- The token after the mixers. -/
theorem joined_apply (v20 : FVec Ideal S512x1024 .f32) (v21 : FVec Ideal S1x1024 .f32) (v32 v33 : FVec Ideal S512x1024 .f32) (r : Fin 512) (e : Fin 1024) :
    (k0_pay8 (F := Ideal) v20 v21 v32 v33 (ix2 r e) : EReal) = v20 (ix2 r e) + v21 (ix2 0 e) * (v32 (ix2 r e) * v33 (ix2 r e)) := by
  unfold k0_pay8
  pointwise

/-- The token the experts read. -/
theorem tokens_apply (v18 : FVec Ideal S6x1024 .f32) (v20 : FVec Ideal S512x1024 .f32) (v21 : FVec Ideal S1x1024 .f32) (v32 v33 : FVec Ideal S512x1024 .f32)
    (v39 : Vec Ideal S1x1024 .f32) (r : Fin 512) (e : Fin 1024) :
    (k0_pay9 (F := Ideal) v18 v20 v21 v32 v33 v39 (ix2 r e) : EReal)
      = modulated (fun k => k0_pay8 (F := Ideal) v20 v21 v32 v33 (ix2 r k)) (v39 (ix2 0 e)) (v18 (ix2 4 e)) (v18 (ix2 3 e)) e := by
  unfold k0_pay9 modulated
  generalize k0_pay8 (F := Ideal) v20 v21 v32 v33 = T
  pointwise

/-- The scores: a product whose factors are split into a rounded part and its remainder. -/
theorem scores_apply (v18 : FVec Ideal S6x1024 .f32) (v20 : FVec Ideal S512x1024 .f32) (v21 : FVec Ideal S1x1024 .f32) (v32 v33 : FVec Ideal S512x1024 .f32)
    (v39 : Vec Ideal S1x1024 .f32) (v61 : Vec Ideal S1024x128 .f32) (T : FVec Ideal S512x1024 .f32)
    (hT : k0_pay9 (F := Ideal) v18 v20 v21 v32 v33 v39 = T) (r : Fin 512) (l : Fin 128) :
    (k0_pay10 (F := Ideal) v18 v20 v21 v32 v33 v39 v61 (ix2 r l) : EReal)
      = (∑ k : Fin 1024, (T (ix2 r k) : EReal) * v61 (ix2 k l)) + (∑ k : Fin 1024, (T (ix2 r k) : EReal) * (v61 (ix2 k l) - v61 (ix2 k l)))
          + (∑ k : Fin 1024, ((T (ix2 r k) : EReal) - T (ix2 r k)) * v61 (ix2 k l)) := by
  unfold k0_pay10
  rw [hT]
  pointwise

/-- The mask of the lanes past the sixteenth. -/
theorem mask_lane (k : Fin 128) (x : EReal) :
    (Scalar.select (IntOp.cmpi .slt (BitVec.ofNat 32 k.val) 16#32) x (Ideal.ofBits .f32 0xFF800000#32) : EReal) = if k.val < 16 then x else ⊥ := by
  have h : IntOp.cmpi .slt (BitVec.ofNat 32 k.val) 16#32 = if k.val < 16 then 1#1 else 0#1 := by
    revert k; decide +kernel
  rw [h, Cert.Proof.Softmax.ofBits_neg_inf]
  split <;> rfl

/-- The selection of one lane. -/
theorem pick_lane (q : Fin 16) (k : Fin 128) :
    (FloatOps.sitofp (F := Ideal) .f32 (BitVec.setWidth 32 (IntOp.cmpi .eq (BitVec.ofNat 32 q.val) (BitVec.ofNat 32 k.val))) : EReal)
      = if k = ⟨q.val, by omega⟩ then 1 else 0 := by
  have h : BitVec.setWidth 32 (IntOp.cmpi .eq (BitVec.ofNat 32 q.val) (BitVec.ofNat 32 k.val)) = if k = (⟨q.val, by omega⟩ : Fin 128) then 1#32 else 0#32 := by
    revert q k; decide +kernel
  rw [h]
  split
  · simp [FloatOps.sitofp]
  · simp [FloatOps.sitofp]

/-- The softmax over the lanes. -/
theorem soft_apply (v75 : FVec Ideal S512x128 .f32) (r : Fin 512) (l : Fin 128) :
    (k0_pay1 (F := Ideal) v75 (iota .tc S512x128 32 [1] iota_S512x128_d1_w32) (ix2 r l) : EReal)
      = soft (masked fun k => v75 (ix2 r k)) l := by
  have hm : (masked fun k => v75 (ix2 r k)) = fun k : Fin 128 =>
      Scalar.select (IntOp.cmpi .slt (BitVec.ofNat 32 k.val) 16#32) (v75 (ix2 r k)) (Ideal.ofBits .f32 0xFF800000#32) :=
    funext fun k => (mask_lane k _).symm
  unfold k0_pay1 soft
  rw [hm, ← Cert.Proof.Softmax.ofBits_neg_inf]
  pointwise

/-- The affinities laid out by expert. -/
theorem rows_apply (v75 : FVec Ideal S512x128 .f32) (v76 : IVec S512x128 32) (q : Fin 16) (r : Fin 512)
    (hA : ∀ k, ∃ x : ℝ, (k0_pay1 (F := Ideal) v75 v76 (ix2 r k) : EReal) = (x : EReal)) :
    (k0_pay2 (F := Ideal) v75 v76 (ix2 q r) : EReal) = k0_pay1 (F := Ideal) v75 v76 (ix2 r ⟨q.val, by omega⟩) := by
  unfold k0_pay2
  generalize k0_pay1 (F := Ideal) v75 v76 = A at hA ⊢
  pointwise
  exact pick _ (fun k => A (ix2 r k)) ⟨q.val, by omega⟩ hA fun k => pick_lane q k

/-! ## The blocks -/

variable (X0 X1 : Vec Ideal S512x256 .bf16) (X2 : Vec Ideal S512x512 .bf16) (X3 : Vec Ideal S512x1024 .f32) (X4 : Vec Ideal S1x6x1024 .f32)
  (X5 : Vec Ideal S4x1024 .f32) (X6 : Vec Ideal S1024x1024 .bf16) (X7 : Vec Ideal S1024x128 .f32)

/-- The mix of a row. -/
def mixRow (r : Fin 512) : Fin 1024 → EReal :=
  mix (fun k => X0 (ix2 r k)) (fun k => X1 (ix2 r k)) (fun k => X2 (ix2 r k)) (fun k e => X6 (ix2 ⟨k.val, by omega⟩ e))
    (fun k e => X6 (ix2 ⟨256 + k.val, by omega⟩ e)) (fun k e => X6 (ix2 ⟨512 + k.val, by omega⟩ e))

/-- The token after the mixers. -/
def tok (r : Fin 512) (e : Fin 1024) : EReal :=
  joined (X3 (ix2 r e)) (X4 (ix3 0 2 e)) (mixRow X0 X1 X2 X6 r) (X5 (ix2 1 e)) e

/-- The token the experts read. -/
def rd (r : Fin 512) (e : Fin 1024) : EReal :=
  modulated (tok X0 X1 X2 X3 X4 X5 X6 r) (X5 (ix2 2 e)) (X4 (ix3 0 4 e)) (X4 (ix3 0 3 e)) e

/-- The router's score of a lane. -/
def score (r : Fin 512) (l : Fin 128) : EReal := ∑ k, rd X0 X1 X2 X3 X4 X5 X6 r k * X7 (ix2 k l)

theorem tok_apply (r : Fin 512) (e : Fin 1024) :
    (k0_pay8 (F := Ideal) (k0_pay4 X3) (k0_pay5 X4)
      (k0_pay6 X0 (View.ld X6 (Rect.unit ![0, 0] ![256, 1024] inb_S1024x1024_S256x1024_0_0)) X1
        (View.ld X6 (Rect.unit ![256, 0] ![256, 1024] inb_S1024x1024_S256x1024_256_0)) X2
        (View.ld X6 (Rect.unit ![512, 0] ![512, 1024] inb_S1024x1024_S512x1024_512_0)))
      (k0_pay7 (View.ld X5 (Rect.unit ![1, 0] ![1, 1024] inb_S4x1024_S1x1024_1_0))) (ix2 r e) : EReal)
      = tok X0 X1 X2 X3 X4 X5 X6 r e := by
  refine (joined_apply _ _ _ _ r e).trans ?_
  rw [mix_apply]
  unfold tok joined normed
  rw [mul_one]
  refine congrArg₂ (· + ·) ?_ (congrArg₂ (· * ·) ?_ (congrArg₂ (· * ·) ?_ ?_))
  · unfold k0_pay4
    pointwise
  · unfold k0_pay5 k0_pay3
    pointwise
  · have hm : mix (fun k => X0 (ix2 r k)) (fun k => X1 (ix2 r k)) (fun k => X2 (ix2 r k))
        (fun k e => View.ld X6 (Rect.unit ![0, 0] ![256, 1024] inb_S1024x1024_S256x1024_0_0) (ix2 k e))
        (fun k e => View.ld X6 (Rect.unit ![256, 0] ![256, 1024] inb_S1024x1024_S256x1024_256_0) (ix2 k e))
        (fun k e => View.ld X6 (Rect.unit ![512, 0] ![512, 1024] inb_S1024x1024_S512x1024_512_0) (ix2 k e))
        = mixRow X0 X1 X2 X6 r := by
      unfold mixRow
      refine congr (congr (congrArg (mix _ _ _) (funext fun k => funext fun e => ?_)) (funext fun k => funext fun e => ?_)) (funext fun k => funext fun e => ?_)
      · pointwise
      · pointwise
      · pointwise
    rw [hm]
  · unfold k0_pay7
    pointwise

theorem rd_apply (r : Fin 512) (e : Fin 1024) :
    (k0_pay9 (F := Ideal) (k0_pay3 X4) (k0_pay4 X3) (k0_pay5 X4)
      (k0_pay6 X0 (View.ld X6 (Rect.unit ![0, 0] ![256, 1024] inb_S1024x1024_S256x1024_0_0)) X1
        (View.ld X6 (Rect.unit ![256, 0] ![256, 1024] inb_S1024x1024_S256x1024_256_0)) X2
        (View.ld X6 (Rect.unit ![512, 0] ![512, 1024] inb_S1024x1024_S512x1024_512_0)))
      (k0_pay7 (View.ld X5 (Rect.unit ![1, 0] ![1, 1024] inb_S4x1024_S1x1024_1_0)))
      (View.ld X5 (Rect.unit ![2, 0] ![1, 1024] inb_S4x1024_S1x1024_2_0)) (ix2 r e) : EReal)
      = rd X0 X1 X2 X3 X4 X5 X6 r e := by
  refine (tokens_apply _ _ _ _ _ _ r e).trans ?_
  unfold rd
  simp only [tok_apply]
  refine congr (congr (congr (congrArg (modulated _) ?_) ?_) ?_) rfl
  · pointwise
  · unfold k0_pay3
    pointwise
  · unfold k0_pay3
    pointwise

theorem score_apply (r : Fin 512) (l : Fin 128) (hr : ∀ k, ∃ x : ℝ, rd X0 X1 X2 X3 X4 X5 X6 r k = (x : EReal))
    (h7 : ∀ k, ∃ x : ℝ, (X7 (ix2 k l) : EReal) = (x : EReal)) :
    (k0_pay10 (F := Ideal) (k0_pay3 X4) (k0_pay4 X3) (k0_pay5 X4)
      (k0_pay6 X0 (View.ld X6 (Rect.unit ![0, 0] ![256, 1024] inb_S1024x1024_S256x1024_0_0)) X1
        (View.ld X6 (Rect.unit ![256, 0] ![256, 1024] inb_S1024x1024_S256x1024_256_0)) X2
        (View.ld X6 (Rect.unit ![512, 0] ![512, 1024] inb_S1024x1024_S512x1024_512_0)))
      (k0_pay7 (View.ld X5 (Rect.unit ![1, 0] ![1, 1024] inb_S4x1024_S1x1024_1_0)))
      (View.ld X5 (Rect.unit ![2, 0] ![1, 1024] inb_S4x1024_S1x1024_2_0)) X7 (ix2 r l) : EReal)
      = score X0 X1 X2 X3 X4 X5 X6 X7 r l := by
  refine (scores_apply _ _ _ _ _ _ _ _ rfl r l).trans ?_
  simp only [rd_apply]
  exact split_dot _ (fun k => X7 (ix2 k l)) hr h7

/-- The affinities in their lanes, and nothing past the sixteenth. -/
theorem aff_apply (r : Fin 512) (hr : ∀ k, ∃ x : ℝ, rd X0 X1 X2 X3 X4 X5 X6 r k = (x : EReal))
    (h7 : ∀ k l, ∃ x : ℝ, (X7 (ix2 k l) : EReal) = (x : EReal)) (l : Fin 128) :
    (k0_pay1 (F := Ideal) (k0_pay10 (F := Ideal) (k0_pay3 X4) (k0_pay4 X3) (k0_pay5 X4)
      (k0_pay6 X0 (View.ld X6 (Rect.unit ![0, 0] ![256, 1024] inb_S1024x1024_S256x1024_0_0)) X1
        (View.ld X6 (Rect.unit ![256, 0] ![256, 1024] inb_S1024x1024_S256x1024_256_0)) X2
        (View.ld X6 (Rect.unit ![512, 0] ![512, 1024] inb_S1024x1024_S512x1024_512_0)))
      (k0_pay7 (View.ld X5 (Rect.unit ![1, 0] ![1, 1024] inb_S4x1024_S1x1024_1_0)))
      (View.ld X5 (Rect.unit ![2, 0] ![1, 1024] inb_S4x1024_S1x1024_2_0)) X7) (iota .tc S512x128 32 [1] iota_S512x128_d1_w32) (ix2 r l) : EReal)
      = if h : l.val < 16 then affinity (fun k => score X0 X1 X2 X3 X4 X5 X6 X7 r ⟨k.val, by omega⟩) ⟨l.val, h⟩ else 0 := by
  refine (soft_apply _ r l).trans ?_
  simp only [score_apply X0 X1 X2 X3 X4 X5 X6 X7 r _ hr fun k => h7 k _]
  exact soft_masked (score X0 X1 X2 X3 X4 X5 X6 X7 r) (fun l => sum_real _ _ hr fun k => h7 k l) l

/-! ## What a point stores -/

variable (m : (ℓ : Loc nD τ sig) → Buf (Elt Ideal) ℓ) (c : Dev nD) (t : Fin cfg0.N)

/-- THE FIRST BLOCK: the token after the mixers. -/
theorem outs_x (r : Fin 512) (e : Fin 1024) :
    ((outsAt0 (F := Ideal) m c t).1 (ix2 r e) : EReal)
      = tok (iblk (F := Ideal) m c 0 t) (iblk (F := Ideal) m c 1 t) (iblk (F := Ideal) m c 2 t) (iblk (F := Ideal) m c 3 t)
          (iblk (F := Ideal) m c 4 t) (iblk (F := Ideal) m c 5 t) (iblk (F := Ideal) m c 6 t) r e := by
  unfold outsAt0
  frame_out
  exact tok_apply _ _ _ _ _ _ _ r e

/-- THE SECOND BLOCK: the token the experts read, its affinities behind it. -/
theorem outs_m (r : Fin 512) (e : Fin 1152)
    (hr : ∀ k, ∃ x : ℝ, rd (iblk (F := Ideal) m c 0 t) (iblk (F := Ideal) m c 1 t) (iblk (F := Ideal) m c 2 t) (iblk (F := Ideal) m c 3 t)
      (iblk (F := Ideal) m c 4 t) (iblk (F := Ideal) m c 5 t) (iblk (F := Ideal) m c 6 t) r k = (x : EReal))
    (h7 : ∀ k l, ∃ x : ℝ, (iblk (F := Ideal) m c 7 t (ix2 k l) : EReal) = (x : EReal)) :
    ((outsAt0 (F := Ideal) m c t).2.1 (ix2 r e) : EReal)
      = if h : e.val < 1024 then rd (iblk (F := Ideal) m c 0 t) (iblk (F := Ideal) m c 1 t) (iblk (F := Ideal) m c 2 t) (iblk (F := Ideal) m c 3 t)
          (iblk (F := Ideal) m c 4 t) (iblk (F := Ideal) m c 5 t) (iblk (F := Ideal) m c 6 t) r ⟨e.val, h⟩
        else if h : e.val - 1024 < 16 then affinity (fun k => score (iblk (F := Ideal) m c 0 t) (iblk (F := Ideal) m c 1 t) (iblk (F := Ideal) m c 2 t)
          (iblk (F := Ideal) m c 3 t) (iblk (F := Ideal) m c 4 t) (iblk (F := Ideal) m c 5 t) (iblk (F := Ideal) m c 6 t) (iblk (F := Ideal) m c 7 t) r ⟨k.val, by omega⟩) ⟨e.val - 1024, h⟩
        else 0 := by
  unfold outsAt0
  frame_out
  generalize iblk (F := Ideal) m c 0 t = X0 at hr ⊢
  generalize iblk (F := Ideal) m c 1 t = X1 at hr ⊢
  generalize iblk (F := Ideal) m c 2 t = X2 at hr ⊢
  generalize iblk (F := Ideal) m c 3 t = X3 at hr ⊢
  generalize iblk (F := Ideal) m c 4 t = X4 at hr ⊢
  generalize iblk (F := Ideal) m c 5 t = X5 at hr ⊢
  generalize iblk (F := Ideal) m c 6 t = X6 at hr ⊢
  generalize iblk (F := Ideal) m c 7 t = X7 at h7 ⊢
  canon_tiles x hx using (View.cover_of_tiledBy _ ![512, 128] (by sl_kernel_rfl) _)
  · have e0 : e.val = 1024 + (x 1).val := hx1
    have hx : x = ix2 r (x 1) := (eq_ix2 x).trans (congrArg (ix2 · (x 1)) (Fin.ext hx0.symm))
    rw [dif_neg (by omega)]
    refine (congrArg (k0_pay1 _ _) hx).trans ((aff_apply X0 X1 X2 X3 X4 X5 X6 X7 r hr h7 (x 1)).trans ?_)
    have e1 : e.val - 1024 = (x 1).val := by omega
    simp only [e1]
  · have e0 : e.val = (x 1).val := hx1
    have hx : x = ix2 r (x 1) := (eq_ix2 x).trans (congrArg (ix2 · (x 1)) (Fin.ext hx0.symm))
    have x1 : (x 1).val < 1024 := (x 1).isLt
    rw [dif_pos (by omega)]
    refine (congrArg (k0_pay9 _ _ _ _ _ _) hx).trans ?_
    exact (rd_apply X0 X1 X2 X3 X4 X5 X6 r (x 1)).trans (congrArg (rd X0 X1 X2 X3 X4 X5 X6 r) (Fin.ext e0.symm))

/-- THE THIRD BLOCK: the affinities laid out by expert. -/
theorem outs_a (q : Fin 16) (r : Fin 512)
    (hr : ∀ k, ∃ x : ℝ, rd (iblk (F := Ideal) m c 0 t) (iblk (F := Ideal) m c 1 t) (iblk (F := Ideal) m c 2 t) (iblk (F := Ideal) m c 3 t)
      (iblk (F := Ideal) m c 4 t) (iblk (F := Ideal) m c 5 t) (iblk (F := Ideal) m c 6 t) r k = (x : EReal))
    (h7 : ∀ k l, ∃ x : ℝ, (iblk (F := Ideal) m c 7 t (ix2 k l) : EReal) = (x : EReal)) :
    ((outsAt0 (F := Ideal) m c t).2.2 (ix2 q r) : EReal)
      = affinity (fun k => score (iblk (F := Ideal) m c 0 t) (iblk (F := Ideal) m c 1 t) (iblk (F := Ideal) m c 2 t)
          (iblk (F := Ideal) m c 3 t) (iblk (F := Ideal) m c 4 t) (iblk (F := Ideal) m c 5 t) (iblk (F := Ideal) m c 6 t) (iblk (F := Ideal) m c 7 t) r ⟨k.val, by omega⟩) q := by
  unfold outsAt0
  frame_out
  refine (rows_apply _ _ q r fun k => ?_).trans ((aff_apply _ _ _ _ _ _ _ _ r hr h7 _).trans (dif_pos q.isLt))
  rw [aff_apply _ _ _ _ _ _ _ _ r hr h7 k]
  split
  · exact affinity_real _ (fun l => sum_real _ _ hr fun k => h7 k _) _
  · exact ⟨0, EReal.coe_zero.symm⟩

end Cert.Kernel6Ideal.Out

end
-- ==== Proof.OutBlocks.lean ====
/-
  The blocks the output projection's grid points load, read at an index, and the router's weights as the host lays them out:
  sixteen columns in a full group of lanes, nothing in the others.
-/
module

public import proofs.«01_k».proof.Proof.Gen.Kernel6Ideal.Value
public import Idealize.ShloMosaic.Lib.StableHlo.ReadAt
public import Idealize.ShloMosaic.Lib.Routing.OpsSet
public import Idealize.ShloMosaic.Lib.Routing.OpsPair
public import Idealize.ShloMosaic.Lib.Pointwise
public import Idealize.ShloMosaic.Lib.Pipeline.ValueKit

@[expose] public section

set_option maxRecDepth 16384

noncomputable section

namespace Cert.Kernel6Ideal.Out

open Cert.Kernel6Ideal Cert.Kernel6Ideal.Gen Idealize.ShloMosaic Idealize.ShloMosaic.TcCoe Idealize.SL.Sem Idealize.ShloMosaic.Routing
open scoped BigOperators

/-! ## The router's weights in a full group of lanes -/

/-- Where the weights' window starts. -/
theorem start_r (idx : IVec S1 32) (u : S1024x16.Idx) (h : (idx (ix1 0)).toInt = 0) (q : Fin 2) :
    scatter_S1024x128_S1_S1024x16_01_n_1_0.start u idx q = 0 := by
  unfold ScatterDims.start
  split
  · next hm =>
    have e : scatter_S1024x128_S1_S1024x16_01_n_1_0.siIdx u ⟨scatter_S1024x128_S1_S1024x16_01_n_1_0.scatterDimsToOperandDims.idxOf q,
        List.idxOf_lt_length_iff.2 hm⟩ = ix1 0 := by
      funext b
      match b with
      | ⟨0, hb⟩ => exact Subsingleton.elim (α := Fin 1) (scatter_S1024x128_S1_S1024x16_01_n_1_0.siIdx u _ ⟨0, hb⟩) (ix1 0 ⟨0, hb⟩)
    rw [e, h]
  · rfl

/-- The weights written into the first columns of an array, at an entry. -/
theorem put_r (x : S1024x128.Idx → EReal) (idx : IVec S1 32) (upd : S1024x16.Idx → EReal) (h0 : (idx (ix1 0)).toInt = 0)
    (a : Fin 1024) (n : Fin 128) :
    Host.scatter scatter_S1024x128_S1_S1024x16_01_n_1_0 (fun _ b => b) x idx upd (ix2 a n)
      = if h : n.val < 16 then upd (ix2 a ⟨n.val, h⟩) else x (ix2 a n) := by
  have land : ∀ u : S1024x16.Idx, scatter_S1024x128_S1_S1024x16_01_n_1_0.resultIdx? u idx = some (ix2 a n)
      ↔ (u 0).val = a.val ∧ (u 1).val = n.val := fun u => by
    rw [resultIdx?_eq_some]
    constructor
    · intro h
      have e0 : (0 : Int) + ((u 0).val : Int) = (a.val : Int) := (congrArg (· + _) (start_r idx u h0 0)).symm.trans (h 0)
      have e1 : (0 : Int) + ((u 1).val : Int) = (n.val : Int) := (congrArg (· + _) (start_r idx u h0 1)).symm.trans (h 1)
      omega
    · rintro ⟨e0, e1⟩ ax
      match ax with
      | ⟨0, _⟩ => exact (congrArg (· + _) (start_r idx u h0 0)).trans (by show (0 : Int) + ((u 0).val : Int) = (a.val : Int); omega)
      | ⟨1, _⟩ => exact (congrArg (· + _) (start_r idx u h0 1)).trans (by show (0 : Int) + ((u 1).val : Int) = (n.val : Int); omega)
  split
  · next h =>
    refine scatter_set_hit _ x idx upd _ _ (fun u hu => congrArg upd ?_) (ix2 a ⟨n.val, h⟩) ((land _).2 ⟨rfl, rfl⟩)
    have e := (land u).1 hu
    rw [eq_ix2 u]
    exact congrArg₂ ix2 (Fin.ext e.1) (Fin.ext e.2)
  · next h =>
    refine scatter_set_miss _ x idx upd _ fun u hu => h ?_
    have e := (land u).1 hu
    have q1 : (u 1).val < 16 := (u 1).isLt
    omega

variable (m : (ℓ : Loc nD τ sig) → Buf (Elt Ideal) ℓ)

/-- Where each window's block lies at each point of the grid. -/
theorem idx : ∀ t : Fin cfg0.N,
    win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val / 8, 0, 0]
    ∧ win0_5.index t = ![0, 0]
    ∧ win0_6.index t = ![0, 0]
    ∧ win0_7.index t = ![0, 0]
    ∧ win0_8.index t = ![(grid0.coords t 0).val, 0]
    ∧ win0_9.index t = ![(grid0.coords t 0).val, 0]
    ∧ win0_10.index t = ![0, (grid0.coords t 0).val] :=
  (by decide +kernel : ∀ t : Fin grid0.N, _)

/-! ## The argument arrays -/

/-- The attention's columns as launched. -/
abbrev argA (c : Dev nD) : S8192x256.Idx → EReal := m ((c : Thread nD τ).loc main_arg0)
/-- The gated linear attention's columns as launched. -/
abbrev argB (c : Dev nD) : S8192x256.Idx → EReal := m ((c : Thread nD τ).loc main_arg1)
/-- The delta rule's columns as launched. -/
abbrev argC (c : Dev nD) : S8192x512.Idx → EReal := m ((c : Thread nD τ).loc main_arg2)
/-- The tokens as launched. -/
abbrev argX (c : Dev nD) : S2x4096x1024.Idx → EReal := m ((c : Thread nD τ).loc main_arg3)
/-- The modulation as launched. -/
abbrev argM (c : Dev nD) : S2x6144.Idx → EReal := m ((c : Thread nD τ).loc main_arg4)
/-- The gains as launched. -/
abbrev argN (c : Dev nD) : S4x1024.Idx → EReal := m ((c : Thread nD τ).loc main_arg5)
/-- The output weights as launched. -/
abbrev argW (c : Dev nD) : S1024x1024.Idx → EReal := m ((c : Thread nD τ).loc main_arg6)
/-- The router's weights as launched. -/
abbrev argR (c : Dev nD) : S1024x16.Idx → EReal := m ((c : Thread nD τ).loc main_arg7)

/-! ## The arrays the call reads, at an index -/

theorem a_arr (c : Dev nD) (r : Fin 8192) (k : Fin 256) : (V (F := Ideal) m c main_v4 (ix2 r k) : EReal) = argA m c (ix2 r k) := by
  entry_read
  pointwise

theorem b_arr (c : Dev nD) (r : Fin 8192) (k : Fin 256) : (V (F := Ideal) m c main_v5 (ix2 r k) : EReal) = argB m c (ix2 r k) := by
  entry_read
  pointwise

theorem c_arr (c : Dev nD) (r : Fin 8192) (k : Fin 512) : (V (F := Ideal) m c main_v6 (ix2 r k) : EReal) = argC m c (ix2 r k) := by
  entry_read
  pointwise

theorem x_arr (c : Dev nD) (r : Fin 8192) (e : Fin 1024) :
    (V (F := Ideal) m c main_v7 (ix2 r e) : EReal) = argX m c (ix3 ⟨r.val / 4096, by omega⟩ ⟨r.val % 4096, by omega⟩ e) := by
  entry_read
  pointwise

theorem md_arr (c : Dev nD) (b : Fin 2) (k : Fin 6) (e : Fin 1024) :
    (V (F := Ideal) m c main_v0 (ix3 b k e) : EReal) = argM m c (ix2 b ⟨k.val * 1024 + e.val, by omega⟩) := by
  entry_read
  pointwise

theorem n_arr (c : Dev nD) (k : Fin 4) (e : Fin 1024) : (V (F := Ideal) m c main_arg5 (ix2 k e) : EReal) = argN m c (ix2 k e) := by
  entry_read
  rfl

theorem w_arr (c : Dev nD) (k e : Fin 1024) : (V (F := Ideal) m c main_v8 (ix2 k e) : EReal) = argW m c (ix2 k e) := by
  entry_read
  pointwise

theorem r_arr (c : Dev nD) (k : Fin 1024) (l : Fin 128) :
    (V (F := Ideal) m c main_v3 (ix2 k l) : EReal) = if h : l.val < 16 then argR m c (ix2 k ⟨l.val, h⟩) else 0 := by
  unfold V
  after_reads_simp
  refine (put_r _ _ _ ?_ k l).trans ?_
  · rfl
  · have hz : (broadcastInDim S1024x128 ![] bcast_S_S1024x128 (constant (F := Ideal) S_ FTy.f32 0#32) (ix2 k l) : EReal) = 0 := by
      pointwise
    split
    · rfl
    · exact hz

/-! ## The blocks a point loads, at an index -/

/-- The token a point's row is. -/
abbrev trow (t : Fin cfg0.N) (r : Fin 512) : Fin 8192 := ⟨512 * (grid0.coords t 0).val + r.val, by have h : (grid0.coords t 0).val < 16 := (grid0.coords t 0).isLt; omega⟩

theorem a_block (c : Dev nD) (t : Fin cfg0.N) (r : Fin 512) (k : Fin 256) :
    (iblk (F := Ideal) m c 0 t (ix2 r k) : EReal) = argA m c (ix2 (trow t r) k) := by
  have e0 : ((cfg0.win 0).blk t).view.emb (ix2 r k) = (ix2 (trow t r) k : S8192x256.Idx) := by
    blk_ext [idx t] <;> (simp only [trow]; omega)
  show (V (F := Ideal) m c main_v4 (((cfg0.win 0).blk t).view.emb (ix2 r k)) : EReal) = _
  rw [e0, a_arr]

theorem b_block (c : Dev nD) (t : Fin cfg0.N) (r : Fin 512) (k : Fin 256) :
    (iblk (F := Ideal) m c 1 t (ix2 r k) : EReal) = argB m c (ix2 (trow t r) k) := by
  have e0 : ((cfg0.win 1).blk t).view.emb (ix2 r k) = (ix2 (trow t r) k : S8192x256.Idx) := by
    blk_ext [idx t] <;> (simp only [trow]; omega)
  show (V (F := Ideal) m c main_v5 (((cfg0.win 1).blk t).view.emb (ix2 r k)) : EReal) = _
  rw [e0, b_arr]

theorem c_block (c : Dev nD) (t : Fin cfg0.N) (r : Fin 512) (k : Fin 512) :
    (iblk (F := Ideal) m c 2 t (ix2 r k) : EReal) = argC m c (ix2 (trow t r) k) := by
  have e0 : ((cfg0.win 2).blk t).view.emb (ix2 r k) = (ix2 (trow t r) k : S8192x512.Idx) := by
    blk_ext [idx t] <;> (simp only [trow]; omega)
  show (V (F := Ideal) m c main_v6 (((cfg0.win 2).blk t).view.emb (ix2 r k)) : EReal) = _
  rw [e0, c_arr]

theorem x_block (c : Dev nD) (t : Fin cfg0.N) (r : Fin 512) (e : Fin 1024) :
    (iblk (F := Ideal) m c 3 t (ix2 r e) : EReal)
      = argX m c (ix3 ⟨(trow t r).val / 4096, by omega⟩ ⟨(trow t r).val % 4096, by omega⟩ e) := by
  have e0 : ((cfg0.win 3).blk t).view.emb (ix2 r e) = (ix2 (trow t r) e : S8192x1024.Idx) := by
    blk_ext [idx t] <;> (simp only [trow]; omega)
  show (V (F := Ideal) m c main_v7 (((cfg0.win 3).blk t).view.emb (ix2 r e)) : EReal) = _
  rw [e0, x_arr]

theorem md_block (c : Dev nD) (t : Fin cfg0.N) (r : Fin 512) (k : Fin 6) (e : Fin 1024) :
    (iblk (F := Ideal) m c 4 t (ix3 0 k e) : EReal)
      = argM m c (ix2 ⟨(trow t r).val / 4096, by omega⟩ ⟨k.val * 1024 + e.val, by omega⟩) := by
  have e0 : ((cfg0.win 4).blk t).view.emb (ix3 0 k e) = (ix3 ⟨(trow t r).val / 4096, by omega⟩ k e : S2x6x1024.Idx) := by
    blk_ext [idx t] <;> (simp only [trow]; omega)
  show (V (F := Ideal) m c main_v0 (((cfg0.win 4).blk t).view.emb (ix3 0 k e)) : EReal) = _
  rw [e0, md_arr]

theorem n_block (c : Dev nD) (t : Fin cfg0.N) (k : Fin 4) (e : Fin 1024) :
    (iblk (F := Ideal) m c 5 t (ix2 k e) : EReal) = argN m c (ix2 k e) := by
  have e0 : ((cfg0.win 5).blk t).view.emb (ix2 k e) = (ix2 k e : S4x1024.Idx) := by
    blk_ext [idx t]
  show (V (F := Ideal) m c main_arg5 (((cfg0.win 5).blk t).view.emb (ix2 k e)) : EReal) = _
  rw [e0, n_arr]

theorem w_block (c : Dev nD) (t : Fin cfg0.N) (k e : Fin 1024) :
    (iblk (F := Ideal) m c 6 t (ix2 k e) : EReal) = argW m c (ix2 k e) := by
  have e0 : ((cfg0.win 6).blk t).view.emb (ix2 k e) = (ix2 k e : S1024x1024.Idx) := by
    blk_ext [idx t]
  show (V (F := Ideal) m c main_v8 (((cfg0.win 6).blk t).view.emb (ix2 k e)) : EReal) = _
  rw [e0, w_arr]

theorem r_block (c : Dev nD) (t : Fin cfg0.N) (k : Fin 1024) (l : Fin 128) :
    (iblk (F := Ideal) m c 7 t (ix2 k l) : EReal) = if h : l.val < 16 then argR m c (ix2 k ⟨l.val, h⟩) else 0 := by
  have e0 : ((cfg0.win 7).blk t).view.emb (ix2 k l) = (ix2 k l : S1024x128.Idx) := by
    blk_ext [idx t]
  show (V (F := Ideal) m c main_v3 (((cfg0.win 7).blk t).view.emb (ix2 k l)) : EReal) = _
  rw [e0, r_arr]

end Cert.Kernel6Ideal.Out

end
-- ==== Proof.OutRef.lean ====
/-
  The output projection's reference, read at an index: the mixers' columns side by side times the weights, normalised, gated
  and added to the token; the token the experts read; the softmax of its scores.
-/
module

public import proofs.«01_k».proof.Proof.Gen.Reference6Ideal.Read
public import proofs.«01_k».proof.Proof.OutMath
public import proofs.«01_k».proof.Proof.Columns
public import Idealize.ShloMosaic.Lib.Pointwise
public import Idealize.ShloMosaic.Lib.Pipeline.ValueKit

@[expose] public section

set_option maxRecDepth 16384

noncomputable section

namespace Cert.Reference6Ideal.Out

open Cert.Reference6Ideal Cert.Reference6Ideal.Gen Cert.Reference6Ideal.Read Idealize.ShloMosaic Idealize.ShloMosaic.TcCoe Idealize.SL.Sem
open Cert.Kernel2Ideal.Proj (modulated)
open Cert.Proof.Out Cert.Proof.Softmax
open scoped BigOperators

variable (x0 x1 : S8192x256.Idx → EReal) (x2 : S8192x512.Idx → EReal) (x3 : S2x4096x1024.Idx → EReal) (x4 : S2x6144.Idx → EReal)
  (x5 : S4x1024.Idx → EReal) (x6 : S1024x1024.Idx → EReal) (x7 : S1024x16.Idx → EReal)

/-- A row of the three mixers' columns side by side. -/
def cat (R : Fin 8192) (k : Fin 1024) : EReal :=
  if h : k.val < 256 then x0 (ix2 R ⟨k.val, h⟩) else if h : k.val < 512 then x1 (ix2 R ⟨k.val - 256, by omega⟩)
    else x2 (ix2 R ⟨k.val - 512, by omega⟩)

/-- The mix: those columns times the weights. -/
def mixed (R : Fin 8192) (e : Fin 1024) : EReal := ∑ k, cat x0 x1 x2 R k * x6 (ix2 k e)

/-- The token after the mixers: row `R` of the mixers' columns, token `r` of sample `b`. -/
def token (R : Fin 8192) (b : Fin 2) (r : Fin 4096) (e : Fin 1024) : EReal :=
  joined (x3 (ix3 b r e)) (x4 (ix2 b ⟨2048 + e.val, by omega⟩)) (mixed x0 x1 x2 x6 R) (x5 (ix2 1 e)) e

/-- The token the experts read. -/
def seen (R : Fin 8192) (b : Fin 2) (r : Fin 4096) (e : Fin 1024) : EReal :=
  modulated (token x0 x1 x2 x3 x4 x5 x6 R b r) (x5 (ix2 2 e)) (x4 (ix2 b ⟨4096 + e.val, by omega⟩)) (x4 (ix2 b ⟨3072 + e.val, by omega⟩)) e

/-- The router's score of an expert. -/
def points (R : Fin 8192) (b : Fin 2) (r : Fin 4096) (l : Fin 16) : EReal :=
  ∑ k, seen x0 x1 x2 x3 x4 x5 x6 R b r k * x7 (ix2 k l)

theorem cat_apply (R : Fin 8192) (k : Fin 1024) : (val_main_v7 (F := Ideal) x0 x1 x2 (ix2 R k) : EReal) = cat x0 x1 x2 R k := by
  have hk := k.isLt
  unfold val_main_v7 cat
  by_cases h0 : k.val < 256
  · rw [dif_pos h0]
    exact Cert.Proof.Columns.at_piece _ _ R k 0 (show _ < 3 by decide) x0 rfl 0 (by rfl) ⟨k.val, h0⟩ (Nat.zero_add _)
  rw [dif_neg h0]
  by_cases h1 : k.val < 512
  · rw [dif_pos h1]
    exact Cert.Proof.Columns.at_piece _ _ R k 1 (show _ < 3 by decide) x1 rfl 256 (by rfl) ⟨k.val - 256, by omega⟩ (by show 256 + (k.val - 256) = k.val; omega)
  rw [dif_neg h1]
  exact Cert.Proof.Columns.at_piece _ _ R k 2 (show _ < 3 by decide) x2 rfl 512 (by rfl) ⟨k.val - 512, by omega⟩ (by show 512 + (k.val - 512) = k.val; omega)

theorem mixed_apply (b : Fin 2) (r : Fin 4096) (e : Fin 1024) :
    (val_main_v9 (F := Ideal) x0 x1 x2 x6 (ix3 b r e) : EReal) = mixed x0 x1 x2 x6 ⟨4096 * b.val + r.val, by omega⟩ e := by
  have e0 : idx_main_v9 (ix3 b r e) = (ix2 ⟨4096 * b.val + r.val, by omega⟩ e : S8192x1024.Idx) := by
    blk_ext
  rw [val_main_v9_apply, e0, val_main_v8_apply]
  refine Finset.sum_congr rfl fun k _ => ?_
  have el : lidx_main_v8 (ix2 ⟨4096 * b.val + r.val, by omega⟩ e : S8192x1024.Idx) k = (ix2 ⟨4096 * b.val + r.val, by omega⟩ k : S8192x1024.Idx) := by
    funext a; fin_cases a <;> rfl
  have er : ridx_main_v8 (ix2 ⟨4096 * b.val + r.val, by omega⟩ e : S8192x1024.Idx) k = (ix2 k e : S1024x1024.Idx) := by
    funext a; fin_cases a <;> rfl
  rw [el, er, cat_apply]

theorem token_apply (b : Fin 2) (r : Fin 4096) (e : Fin 1024) :
    (val_main_v27 (F := Ideal) x0 x1 x2 x3 x4 x5 x6 (ix3 b r e) : EReal)
      = token x0 x1 x2 x3 x4 x5 x6 ⟨4096 * b.val + r.val, by omega⟩ b r e := by
  unfold token joined normed
  simp only [← mixed_apply]
  unfold val_main_v27 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v3 val_main_v0
    val_main_cst val_main_cst_0 val_main_cst_1
  generalize val_main_v9 (F := Ideal) x0 x1 x2 x6 = Y
  pointwise

theorem seen_apply (b : Fin 2) (r : Fin 4096) (e : Fin 1024) :
    (val_main_v48 (F := Ideal) x0 x1 x2 x3 x4 x5 x6 (ix3 b r e) : EReal)
      = seen x0 x1 x2 x3 x4 x5 x6 ⟨4096 * b.val + r.val, by omega⟩ b r e := by
  have ht : token x0 x1 x2 x3 x4 x5 x6 ⟨4096 * b.val + r.val, by omega⟩ b r
      = fun e => val_main_v27 (F := Ideal) x0 x1 x2 x3 x4 x5 x6 (ix3 b r e) := funext fun e => (token_apply x0 x1 x2 x3 x4 x5 x6 b r e).symm
  unfold seen
  rw [ht]
  unfold modulated
  unfold val_main_v48 val_main_v47 val_main_v46 val_main_v45 val_main_v44 val_main_v43 val_main_v42 val_main_v41 val_main_v40 val_main_v39
    val_main_v38 val_main_v37 val_main_v36 val_main_v35 val_main_v34 val_main_v33 val_main_v32 val_main_v31 val_main_v30 val_main_v29 val_main_v28
    val_main_v5 val_main_v4 val_main_v0 val_main_cst_2 val_main_cst_3 val_main_cst_4 val_main_cst_5
  generalize val_main_v27 (F := Ideal) x0 x1 x2 x3 x4 x5 x6 = T
  pointwise

/-- A row of the output is a token of a sample. -/
theorem row_eq (R : Fin 8192) : (⟨4096 * (R.val / 4096) + R.val % 4096, by omega⟩ : Fin 8192) = R := Fin.ext (Nat.div_add_mod R.val 4096)

/-- THE FIRST RESULT. -/
theorem token_row (R : Fin 8192) (e : Fin 1024) :
    (val_main_v64 (F := Ideal) x0 x1 x2 x3 x4 x5 x6 (ix2 R e) : EReal)
      = token x0 x1 x2 x3 x4 x5 x6 R ⟨R.val / 4096, by omega⟩ ⟨R.val % 4096, by omega⟩ e := by
  have e0 : idx_main_v64 (ix2 R e) = (ix3 ⟨R.val / 4096, by omega⟩ ⟨R.val % 4096, by omega⟩ e : S2x4096x1024.Idx) := by
    blk_ext
  rw [val_main_v64_apply, e0, token_apply]
  exact congrArg (fun Q => token x0 x1 x2 x3 x4 x5 x6 Q ⟨R.val / 4096, by omega⟩ ⟨R.val % 4096, by omega⟩ e) (row_eq R)

theorem seen_row (R : Fin 8192) (e : Fin 1024) :
    (val_main_v49 (F := Ideal) x0 x1 x2 x3 x4 x5 x6 (ix2 R e) : EReal)
      = seen x0 x1 x2 x3 x4 x5 x6 R ⟨R.val / 4096, by omega⟩ ⟨R.val % 4096, by omega⟩ e := by
  have e0 : idx_main_v49 (ix2 R e) = (ix3 ⟨R.val / 4096, by omega⟩ ⟨R.val % 4096, by omega⟩ e : S2x4096x1024.Idx) := by
    blk_ext
  rw [val_main_v49_apply, e0, seen_apply]
  exact congrArg (fun Q => seen x0 x1 x2 x3 x4 x5 x6 Q ⟨R.val / 4096, by omega⟩ ⟨R.val % 4096, by omega⟩ e) (row_eq R)

theorem points_row (R : Fin 8192) (l : Fin 16) :
    (val_main_v50 (F := Ideal) x0 x1 x2 x3 x4 x5 x6 x7 (ix2 R l) : EReal)
      = points x0 x1 x2 x3 x4 x5 x6 x7 R ⟨R.val / 4096, by omega⟩ ⟨R.val % 4096, by omega⟩ l := by
  rw [val_main_v50_apply]
  refine Finset.sum_congr rfl fun k _ => ?_
  have el : lidx_main_v50 (ix2 R l : S8192x16.Idx) k = (ix2 R k : S8192x1024.Idx) := by
    funext a; fin_cases a <;> rfl
  have er : ridx_main_v50 (ix2 R l : S8192x16.Idx) k = (ix2 k l : S1024x16.Idx) := by
    funext a; fin_cases a <;> rfl
  rw [el, er, seen_row]

/-- The softmax of the scores. -/
theorem affinity_row (R : Fin 8192) (l : Fin 16) :
    (val_main_v61 (F := Ideal) x0 x1 x2 x3 x4 x5 x6 x7 (ix2 R l) : EReal)
      = affinity (points x0 x1 x2 x3 x4 x5 x6 x7 R ⟨R.val / 4096, by omega⟩ ⟨R.val % 4096, by omega⟩) l := by
  have hp : points x0 x1 x2 x3 x4 x5 x6 x7 R ⟨R.val / 4096, by omega⟩ ⟨R.val % 4096, by omega⟩
      = fun l => val_main_v50 (F := Ideal) x0 x1 x2 x3 x4 x5 x6 x7 (ix2 R l) := funext fun l => (points_row x0 x1 x2 x3 x4 x5 x6 x7 R l).symm
  rw [hp]
  unfold affinity
  unfold val_main_v61 val_main_v60 val_main_v59 val_main_v58 val_main_v57 val_main_v56 val_main_v55 val_main_v54 val_main_v53 val_main_v52
    val_main_v51 val_main_cst_6 val_main_cst_7 val_main_cst_8
  generalize val_main_v50 (F := Ideal) x0 x1 x2 x3 x4 x5 x6 x7 = S
  pointwise
  have hb : Ideal.ofBits FTy.f32 4286578688#32 = ⊥ := ofBits_neg_inf
  have hm : ∀ x : EReal, max ⊥ x = x := fun x => bot_sup_eq x
  rw [hb, hm]

/-- THE SECOND RESULT: the tokens the experts read, their affinities behind them, nothing past those. -/
theorem lanes_row (R : Fin 8192) (e : Fin 1152) :
    (val_main_v63 (F := Ideal) x0 x1 x2 x3 x4 x5 x6 x7 (ix2 R e) : EReal)
      = if h : e.val < 1024 then seen x0 x1 x2 x3 x4 x5 x6 R ⟨R.val / 4096, by omega⟩ ⟨R.val % 4096, by omega⟩ ⟨e.val, h⟩
        else if h : e.val - 1024 < 16 then
          affinity (points x0 x1 x2 x3 x4 x5 x6 x7 R ⟨R.val / 4096, by omega⟩ ⟨R.val % 4096, by omega⟩) ⟨e.val - 1024, h⟩
        else 0 := by
  have he := e.isLt
  unfold val_main_v63
  by_cases h0 : e.val < 1024
  · rw [dif_pos h0, ← seen_row]
    exact Cert.Proof.Columns.at_piece _ _ R e 0 (show _ < 3 by decide) (val_main_v49 (F := Ideal) x0 x1 x2 x3 x4 x5 x6) rfl 0 (by rfl) ⟨e.val, h0⟩ (Nat.zero_add _)
  rw [dif_neg h0]
  by_cases h1 : e.val - 1024 < 16
  · rw [dif_pos h1, ← affinity_row]
    exact Cert.Proof.Columns.at_piece _ _ R e 1 (show _ < 3 by decide) (val_main_v61 (F := Ideal) x0 x1 x2 x3 x4 x5 x6 x7) rfl 1024 (by rfl) ⟨e.val - 1024, h1⟩ (by show 1024 + (e.val - 1024) = e.val; omega)
  rw [dif_neg h1]
  refine (Cert.Proof.Columns.at_piece _ _ R e 2 (show _ < 3 by decide) (val_main_v62 (F := Ideal)) rfl 1040 (by rfl) ⟨e.val - 1040, by omega⟩ (by show 1040 + (e.val - 1040) = e.val; omega)).trans ?_
  rw [val_main_v62_apply, val_main_cst_9_apply, Ideal.ofBits_def, Ideal.ofBits_zero_f32]

/-- THE THIRD RESULT: the affinities laid out by expert. -/
theorem experts_row (q : Fin 16) (R : Fin 8192) :
    (val_main_v65 (F := Ideal) x0 x1 x2 x3 x4 x5 x6 x7 (ix2 q R) : EReal)
      = affinity (points x0 x1 x2 x3 x4 x5 x6 x7 R ⟨R.val / 4096, by omega⟩ ⟨R.val % 4096, by omega⟩) q := by
  have e0 : idx_main_v65 (ix2 q R) = (ix2 R q : S8192x16.Idx) := by
    funext a; fin_cases a <;> rfl
  rw [val_main_v65_apply, e0, affinity_row]

end Cert.Reference6Ideal.Out

end
-- ==== Proof.OutFinal.lean ====
/-
  The output projection's three arrays after the run: entry by entry the reference's, for finite arrays. Finiteness is needed
  where the kernel splits a number into parts and takes a part from itself.
-/
module

public import proofs.«01_k».proof.Proof.Pre
public import proofs.«01_k».proof.Proof.Gen.Pre_finite_mix
public import proofs.«01_k».proof.Proof.OutBody
public import proofs.«01_k».proof.Proof.OutBlocks
public import proofs.«01_k».proof.Proof.OutRef

@[expose] public section

set_option maxRecDepth 16384

noncomputable section

namespace Cert.Pre_finite_mix

open Cert.Pre_finite_mix Cert.Pre_finite_mix.Gen Idealize.ShloMosaic

instance : Subsingleton S_.Idx := ⟨fun a b => funext fun i => i.elim0⟩

/-- What the precondition says. -/
theorem real_of_pre (x0 x1 : S8192x256.Idx → EReal) (x2 : S8192x512.Idx → EReal) (x3 : S2x4096x1024.Idx → EReal) (x4 : S2x6144.Idx → EReal)
    (x5 : S4x1024.Idx → EReal) (x6 : S1024x1024.Idx → EReal) (x7 : S1024x16.Idx → EReal)
    (h : fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ ∀ i, ∃ r : ℝ, x7 i = (r : EReal) := by
  have h' := congrFun h (Shape.Idx.first h_S_)
  unfold fn at h'
  obtain ⟨g6, h7⟩ := IntOp.andi_eq_one.1 h'
  obtain ⟨g5, h6⟩ := IntOp.andi_eq_one.1 g6
  obtain ⟨g4, h5⟩ := IntOp.andi_eq_one.1 g5
  obtain ⟨g3, h4⟩ := IntOp.andi_eq_one.1 g4
  obtain ⟨g2, h3⟩ := IntOp.andi_eq_one.1 g3
  obtain ⟨g1, h2⟩ := IntOp.andi_eq_one.1 g2
  obtain ⟨h0, h1⟩ := IntOp.andi_eq_one.1 g1
  exact ⟨fun i => Cert.Pre_finite_scores.real_of_test _ (Host.reduce_andi_all _ _ _ _ _ h0 i),
    fun i => Cert.Pre_finite_scores.real_of_test _ (Host.reduce_andi_all _ _ _ _ _ h1 i),
    fun i => Cert.Pre_finite_scores.real_of_test _ (Host.reduce_andi_all _ _ _ _ _ h2 i),
    fun i => Cert.Pre_finite_scores.real_of_test _ (Host.reduce_andi_all _ _ _ _ _ h3 i),
    fun i => Cert.Pre_finite_scores.real_of_test _ (Host.reduce_andi_all _ _ _ _ _ h4 i),
    fun i => Cert.Pre_finite_scores.real_of_test _ (Host.reduce_andi_all _ _ _ _ _ h5 i),
    fun i => Cert.Pre_finite_scores.real_of_test _ (Host.reduce_andi_all _ _ _ _ _ h6 i),
    fun i => Cert.Pre_finite_scores.real_of_test _ (Host.reduce_andi_all _ _ _ _ _ h7 i)⟩

end Cert.Pre_finite_mix

namespace Cert.Kernel6Ideal.Out

open Cert.Kernel6Ideal Cert.Kernel6Ideal.Gen Idealize.ShloMosaic Idealize.ShloMosaic.TcCoe Idealize.SL.Sem
open Cert.Kernel2Ideal.Proj (modulated modulated_real)
open Cert.Proof.Out
open Cert.Reference6Ideal.Out (cat mixed token seen points)
open scoped BigOperators

variable (m : (ℓ : Loc nD τ sig) → Buf (Elt Ideal) ℓ)

/-- The tokens after the mixers, by the reference's own term. -/
def GX (c : Dev nD) : S8192x1024.Idx → EReal :=
  Cert.Reference6Ideal.Read.val_main_v64 (F := Ideal) (argA m c) (argB m c) (argC m c) (argX m c) (argM m c) (argN m c) (argW m c)

/-- The tokens the experts read with their affinities, likewise. -/
def GM (c : Dev nD) : S8192x1152.Idx → EReal :=
  Cert.Reference6Ideal.Read.val_main_v63 (F := Ideal) (argA m c) (argB m c) (argC m c) (argX m c) (argM m c) (argN m c) (argW m c) (argR m c)

/-- The affinities laid out by expert, likewise. -/
def GA (c : Dev nD) : S16x8192.Idx → EReal :=
  Cert.Reference6Ideal.Read.val_main_v65 (F := Ideal) (argA m c) (argB m c) (argC m c) (argX m c) (argM m c) (argN m c) (argW m c) (argR m c)

/-- The arrays as launched hold numbers. -/
structure Finite (c : Dev nD) : Prop where
  a : ∀ i, ∃ x : ℝ, argA m c i = (x : EReal)
  b : ∀ i, ∃ x : ℝ, argB m c i = (x : EReal)
  g : ∀ i, ∃ x : ℝ, argC m c i = (x : EReal)
  x : ∀ i, ∃ x : ℝ, argX m c i = (x : EReal)
  d : ∀ i, ∃ x : ℝ, argM m c i = (x : EReal)
  n : ∀ i, ∃ x : ℝ, argN m c i = (x : EReal)
  w : ∀ i, ∃ x : ℝ, argW m c i = (x : EReal)
  r : ∀ i, ∃ x : ℝ, argR m c i = (x : EReal)

/-! ## The reference's rows are real -/

/-- The token of the arrays as launched. -/
abbrev T0 (c : Dev nD) (R : Fin 8192) : Fin 1024 → EReal :=
  token (argA m c) (argB m c) (argC m c) (argX m c) (argM m c) (argN m c) (argW m c) R ⟨R.val / 4096, by omega⟩ ⟨R.val % 4096, by omega⟩
/-- The token the experts read. -/
abbrev S0 (c : Dev nD) (R : Fin 8192) : Fin 1024 → EReal :=
  seen (argA m c) (argB m c) (argC m c) (argX m c) (argM m c) (argN m c) (argW m c) R ⟨R.val / 4096, by omega⟩ ⟨R.val % 4096, by omega⟩
/-- Its scores. -/
abbrev P0 (c : Dev nD) (R : Fin 8192) : Fin 16 → EReal :=
  points (argA m c) (argB m c) (argC m c) (argX m c) (argM m c) (argN m c) (argW m c) (argR m c) R ⟨R.val / 4096, by omega⟩ ⟨R.val % 4096, by omega⟩

theorem mixed_real (c : Dev nD) (h : Finite m c) (R : Fin 8192) (e : Fin 1024) :
    ∃ x : ℝ, mixed (argA m c) (argB m c) (argC m c) (argW m c) R e = (x : EReal) := by
  refine sum_real _ _ (fun k => ?_) fun k => h.w _
  unfold cat
  split
  · exact h.a _
  · split
    · exact h.b _
    · exact h.g _

theorem seen_real (c : Dev nD) (h : Finite m c) (R : Fin 8192) (e : Fin 1024) : ∃ x : ℝ, S0 m c R e = (x : EReal) :=
  modulated_real _ _ _ _ e (fun k => joined_real _ _ _ _ k (h.x _) (h.d _) (mixed_real m c h R) (h.n _)) (h.n _) (h.d _) (h.d _)

/-! ## A point's rows are the reference's -/

theorem mix_block (c : Dev nD) (t : Fin cfg0.N) (r : Fin 512) :
    mixRow (iblk (F := Ideal) m c 0 t) (iblk (F := Ideal) m c 1 t) (iblk (F := Ideal) m c 2 t) (iblk (F := Ideal) m c 6 t) r
      = mixed (argA m c) (argB m c) (argC m c) (argW m c) (trow t r) := by
  funext e
  unfold mixed
  rw [← three_parts]
  unfold mixRow mix
  refine congrArg₂ (· + ·) (congrArg₂ (· + ·) ?_ ?_) ?_
  · refine Finset.sum_congr rfl fun k _ => congrArg₂ (· * ·) ((a_block m c t r k).trans ?_) (w_block m c t _ e)
    unfold cat
    rw [dif_pos k.isLt]
  · refine Finset.sum_congr rfl fun k _ => congrArg₂ (· * ·) ((b_block m c t r k).trans ?_) (w_block m c t _ e)
    unfold cat
    rw [dif_neg (by simp only; omega), dif_pos (by simp only; omega)]
    exact congrArg (fun z => argB m c (ix2 _ z)) (Fin.ext (by show k.val = 256 + k.val - 256; omega))
  · refine Finset.sum_congr rfl fun k _ => congrArg₂ (· * ·) ((c_block m c t r k).trans ?_) (w_block m c t _ e)
    unfold cat
    rw [dif_neg (by simp only; omega), dif_neg (by simp only; omega)]
    exact congrArg (fun z : Fin 512 => argC m c (ix2 (trow t r) z)) (Fin.ext (show k.val = 512 + k.val - 512 by omega))

theorem md_at (c : Dev nD) (t : Fin cfg0.N) (r : Fin 512) (k : Fin 6) (e : Fin 1024) (o : Nat) (ho : k.val * 1024 = o) :
    (iblk (F := Ideal) m c 4 t (ix3 0 k e) : EReal)
      = argM m c (ix2 ⟨(trow t r).val / 4096, by omega⟩ ⟨o + e.val, by omega⟩) :=
  (md_block m c t r k e).trans (congrArg (fun z => argM m c (ix2 _ z)) (Fin.ext (by show k.val * 1024 + e.val = o + e.val; omega)))

theorem tok_block (c : Dev nD) (t : Fin cfg0.N) (r : Fin 512) :
    tok (iblk (F := Ideal) m c 0 t) (iblk (F := Ideal) m c 1 t) (iblk (F := Ideal) m c 2 t) (iblk (F := Ideal) m c 3 t)
        (iblk (F := Ideal) m c 4 t) (iblk (F := Ideal) m c 5 t) (iblk (F := Ideal) m c 6 t) r = T0 m c (trow t r) := by
  funext e
  unfold T0 tok token
  exact congr (congr (congr (congr (congrArg joined (x_block m c t r e)) (md_at m c t r 2 e 2048 rfl)) (mix_block m c t r))
    (n_block m c t 1 e)) (rfl : e = e)

theorem rd_block (c : Dev nD) (t : Fin cfg0.N) (r : Fin 512) :
    rd (iblk (F := Ideal) m c 0 t) (iblk (F := Ideal) m c 1 t) (iblk (F := Ideal) m c 2 t) (iblk (F := Ideal) m c 3 t)
        (iblk (F := Ideal) m c 4 t) (iblk (F := Ideal) m c 5 t) (iblk (F := Ideal) m c 6 t) r = S0 m c (trow t r) := by
  funext e
  unfold S0 rd seen
  exact congr (congr (congr (congr (congrArg modulated (tok_block m c t r)) (n_block m c t 2 e)) (md_at m c t r 4 e 4096 rfl))
    (md_at m c t r 3 e 3072 rfl)) (rfl : e = e)

theorem score_block (c : Dev nD) (t : Fin cfg0.N) (r : Fin 512) :
    (fun k : Fin 16 => score (iblk (F := Ideal) m c 0 t) (iblk (F := Ideal) m c 1 t) (iblk (F := Ideal) m c 2 t) (iblk (F := Ideal) m c 3 t)
        (iblk (F := Ideal) m c 4 t) (iblk (F := Ideal) m c 5 t) (iblk (F := Ideal) m c 6 t) (iblk (F := Ideal) m c 7 t) r ⟨k.val, by omega⟩)
      = P0 m c (trow t r) := by
  funext l
  refine Finset.sum_congr rfl fun k _ => congrArg₂ (· * ·) (congrFun (rd_block m c t r) k) ((r_block m c t k _).trans ?_)
  exact dif_pos l.isLt

theorem rd_real (c : Dev nD) (h : Finite m c) (t : Fin cfg0.N) (r : Fin 512) (k : Fin 1024) :
    ∃ x : ℝ, rd (iblk (F := Ideal) m c 0 t) (iblk (F := Ideal) m c 1 t) (iblk (F := Ideal) m c 2 t) (iblk (F := Ideal) m c 3 t)
        (iblk (F := Ideal) m c 4 t) (iblk (F := Ideal) m c 5 t) (iblk (F := Ideal) m c 6 t) r k = (x : EReal) := by
  rw [rd_block]
  exact seen_real m c h _ k

theorem r_real (c : Dev nD) (h : Finite m c) (t : Fin cfg0.N) (k : Fin 1024) (l : Fin 128) :
    ∃ x : ℝ, (iblk (F := Ideal) m c 7 t (ix2 k l) : EReal) = (x : EReal) := by
  rw [r_block]
  split
  · exact h.r _
  · exact ⟨0, EReal.coe_zero.symm⟩

/-! ## The arrays after the run -/

/-- THE FIRST ARRAY: the tokens after the mixers. -/
theorem final_x (c : Dev nD) : (dats (F := Ideal) m 0 c).arrAt 8 cfg0.N = GX m c := by
  refine (dats m 0 c).arrAt_eq_of_covers 8 _ (by decide +kernel) fun t hf y => ?_
  blk_simp
  rw [after0_8]
  obtain ⟨r, j, rfl⟩ : ∃ (r : Fin 512) (j : Fin 1024), y = ix2 r j := ⟨y 0, y 1, eq_ix2 y⟩
  have e0 : ((cfg0.win 8).blk t).view.emb (ix2 r j) = (ix2 (trow t r) j : S8192x1024.Idx) := by
    blk_ext [idx t] <;> (simp only [trow]; omega)
  refine Eq.trans ?_ (congrArg (GX m c) e0.symm)
  refine (outs_x m c t r j).trans ((congrFun (tok_block m c t r) j).trans ?_)
  exact (Cert.Reference6Ideal.Out.token_row _ _ _ _ _ _ _ (trow t r) j).symm

/-- THE SECOND ARRAY: the tokens the experts read and their affinities. -/
theorem final_m (c : Dev nD) (h : Finite m c) : (dats (F := Ideal) m 0 c).arrAt 9 cfg0.N = GM m c := by
  refine (dats m 0 c).arrAt_eq_of_covers 9 _ (by decide +kernel) fun t hf y => ?_
  blk_simp
  rw [after0_9]
  obtain ⟨r, j, rfl⟩ : ∃ (r : Fin 512) (j : Fin 1152), y = ix2 r j := ⟨y 0, y 1, eq_ix2 y⟩
  have e0 : ((cfg0.win 9).blk t).view.emb (ix2 r j) = (ix2 (trow t r) j : S8192x1152.Idx) := by
    blk_ext [idx t] <;> (simp only [trow]; omega)
  refine Eq.trans ?_ (congrArg (GM m c) e0.symm)
  refine (outs_m m c t r j (rd_real m c h t r) (r_real m c h t)).trans ?_
  rw [score_block, rd_block]
  exact (Cert.Reference6Ideal.Out.lanes_row _ _ _ _ _ _ _ _ (trow t r) j).symm

/-- THE THIRD ARRAY: the affinities laid out by expert. -/
theorem final_a (c : Dev nD) (h : Finite m c) : (dats (F := Ideal) m 0 c).arrAt 10 cfg0.N = GA m c := by
  refine (dats m 0 c).arrAt_eq_of_covers 10 _ (by decide +kernel) fun t hf y => ?_
  blk_simp
  rw [after0_10]
  obtain ⟨q, r, rfl⟩ : ∃ (q : Fin 16) (r : Fin 512), y = ix2 q r := ⟨y 0, y 1, eq_ix2 y⟩
  have e0 : ((cfg0.win 10).blk t).view.emb (ix2 q r) = (ix2 q (trow t r) : S16x8192.Idx) := by
    blk_ext [idx t] <;> (simp only [trow]; omega)
  refine Eq.trans ?_ (congrArg (GA m c) e0.symm)
  refine (outs_a m c t q r (rd_real m c h t r) (r_real m c h t)).trans ?_
  rw [score_block]
  exact (Cert.Reference6Ideal.Out.experts_row _ _ _ _ _ _ _ _ q (trow t r)).symm

end Cert.Kernel6Ideal.Out

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_inputs
public import proofs.«01_k».proof.Proof.Gen.Pre_finite_mix
public import proofs.«01_k».proof.Proof.Pre
public import proofs.«01_k».proof.Proof.Final
public import proofs.«01_k».proof.Proof.ProjFinal
public import proofs.«01_k».proof.Proof.ExpFinal
public import proofs.«01_k».proof.Proof.PrepFinal
public import proofs.«01_k».proof.Proof.GlaFinal
public import proofs.«01_k».proof.Proof.OutFinal
public import Idealize.ShloMosaic.Adequacy
public import Idealize.ShloMosaic.Init

@[expose] public section

noncomputable section

namespace Cert.Proof

open Idealize.ShloMosaic Idealize.SL.Sem

/-- The kernel runs at any float model, arguments unchanged and semaphores at zero. -/
theorem frame_kernel : Cert.quiescent_Kernel := fun m ρ _ => Cert.Kernel.Gen.frame m ρ

/-- The same of its idealization. -/
theorem frame_ideal : Cert.quiescent_KernelIdeal := fun m ρ _ => Cert.KernelIdeal.Gen.frame m ρ

/-- The same under the precondition. -/
theorem frame_ideal_pre : Cert.quiescent_KernelIdeal_pre_finite_scores := fun m ρ _ => Cert.KernelIdeal.Gen.frame m ρ

/-- The reference runs, arguments unchanged. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition. -/
theorem frame_reference_pre : Cert.quiescent_ReferenceIdeal_pre_finite_scores := fun m ρ _ =>
  frame_reference m ρ trivial

/-- THE VALUE: the kernel's attention is the reference's, for finite queries and keys. -/
theorem value : Cert.algebraic_KernelIdeal_ReferenceIdeal_pre_finite_scores := by
  intro m ρ m' ρ' hpre hagree
  refine ⟨fun c => Cert.KernelIdeal.Att.G m c, ?_, ?_⟩
  · refine (θ_run Cert.KernelIdeal.defs _ _).mono (fun r h c => ?_) (Cert.KernelIdeal.Value.run_blocks (F := Ideal) m ρ)
    obtain ⟨h0, h1, h3⟩ := Cert.Pre_finite_scores.real_of_pre _ _ _ _ _ (hpre c)
    exact ⟨(h c).1.trans (Cert.KernelIdeal.Att.final m c h0 h1 h3), (h c).2⟩
  · refine (θ_run Cert.ReferenceIdeal.defs _ _).mono (fun r h c => ?_) (Cert.ReferenceIdeal.Value.run (F := Ideal) m' ρ')
    refine ⟨(h c).1.trans ?_, (h c).2⟩
    rw [(hagree c).1, (hagree c).2.1, (hagree c).2.2.1, (hagree c).2.2.2.1, (hagree c).2.2.2.2]
    rw [Cert.ReferenceIdeal.Read.val_main_v19_eq]
    rfl

/-! ## The input projection -/

/-- The projection runs at any float model, arguments unchanged and semaphores at zero. -/
theorem frame_kernel2 : Cert.quiescent_Kernel2 := fun m ρ _ => Cert.Kernel2.Gen.frame m ρ

/-- The same of its idealization. -/
theorem frame_ideal2 : Cert.quiescent_Kernel2Ideal := fun m ρ _ => Cert.Kernel2Ideal.Gen.frame m ρ

/-- The same under the precondition. -/
theorem frame_ideal2_pre : Cert.quiescent_Kernel2Ideal_pre_finite_inputs := fun m ρ _ => Cert.Kernel2Ideal.Gen.frame m ρ

/-- The projection's reference runs, arguments unchanged. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The same under the precondition. -/
theorem frame_reference2_pre : Cert.quiescent_Reference2Ideal_pre_finite_inputs := fun m ρ _ =>
  frame_reference2 m ρ trivial

/-- THE VALUE: the kernel's projection is the reference's, for finite arrays. -/
theorem value2 : Cert.algebraic_Kernel2Ideal_Reference2Ideal_pre_finite_inputs := by
  intro m ρ m' ρ' hpre hagree
  refine ⟨fun c => Cert.Kernel2Ideal.Proj.G m c, ?_, ?_⟩
  · refine (θ_run Cert.Kernel2Ideal.defs _ _).mono (fun r h c => ?_) (Cert.Kernel2Ideal.Value.run_blocks (F := Ideal) m ρ)
    obtain ⟨h0, h1, h2, h3⟩ := Cert.Pre_finite_inputs.real_of_pre _ _ _ _ (hpre c)
    exact ⟨(h c).1.trans (Cert.Kernel2Ideal.Proj.final m c h0 h1 h2 h3), (h c).2⟩
  · refine (θ_run Cert.Reference2Ideal.defs _ _).mono (fun r h c => ?_) (Cert.Reference2Ideal.Value.run (F := Ideal) m' ρ')
    refine ⟨(h c).1.trans ?_, (h c).2⟩
    rw [Cert.Reference2Ideal.Read.val_main_v44_eq, (hagree c).1, (hagree c).2.1, (hagree c).2.2.1, (hagree c).2.2.2]
    rfl

/-! ## The experts -/

/-- The experts run at any float model, arguments unchanged and semaphores at zero. -/
theorem frame_kernel3 : Cert.quiescent_Kernel3 := fun m ρ _ => Cert.Kernel3.Gen.frame m ρ

/-- The same of their idealization. -/
theorem frame_ideal3 : Cert.quiescent_Kernel3Ideal := fun m ρ _ => Cert.Kernel3Ideal.Gen.frame m ρ

/-- The experts' reference runs, arguments unchanged. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- THE VALUE: the kernel's experts are the reference's. -/
theorem value3 : Cert.algebraic_Kernel3Ideal_Reference3Ideal := by
  intro m ρ m' ρ' hpre hagree
  refine ⟨fun c => Cert.Kernel3Ideal.Exp.G m c, ?_, ?_⟩
  · refine (θ_run Cert.Kernel3Ideal.defs _ _).mono (fun r h c => ?_) (Cert.Kernel3Ideal.Value.run_blocks (F := Ideal) m ρ)
    exact ⟨(h c).1.trans (Cert.Kernel3Ideal.Exp.final m c), (h c).2⟩
  · refine (θ_run Cert.Reference3Ideal.defs _ _).mono (fun r h c => ?_) (Cert.Reference3Ideal.Value.run (F := Ideal) m' ρ')
    refine ⟨(h c).1.trans ?_, (h c).2⟩
    rw [(hagree c).1, (hagree c).2.1, (hagree c).2.2.1, (hagree c).2.2.2.1, (hagree c).2.2.2.2.1, (hagree c).2.2.2.2.2]
    rw [Cert.Reference3Ideal.Read.val_main_v37_eq]
    rfl

/-! ## The keys and values -/

/-- The preparation of queries, keys and values runs at any float model, arguments unchanged and semaphores at zero. -/
theorem frame_kernel4 : Cert.quiescent_Kernel4 := fun m ρ _ => Cert.Kernel4.Gen.frame m ρ

/-- The same of its idealization. -/
theorem frame_ideal4 : Cert.quiescent_Kernel4Ideal := fun m ρ _ => Cert.Kernel4Ideal.Gen.frame m ρ

/-- Its reference runs, arguments unchanged. -/
theorem frame_reference4 : Cert.quiescent_Reference4Ideal := fun m ρ _ =>
  (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m ρ)

/-- THE VALUE: the kernel's queries, keys and values, and the latents and rotary keys kept for later, are the reference's. -/
theorem value4 : Cert.algebraic_Kernel4Ideal_Reference4Ideal := by
  intro m ρ m' ρ' hpre hagree
  refine ⟨fun c => Cert.Kernel4Ideal.Prep.GQ m c, fun c => Cert.Kernel4Ideal.Prep.GK m c, fun c => Cert.Kernel4Ideal.Prep.GV m c,
    fun c => Cert.Kernel4Ideal.Prep.GC m c, fun c => Cert.Kernel4Ideal.Prep.GR m c, ?_, ?_⟩
  · refine (θ_run Cert.Kernel4Ideal.defs _ _).mono (fun r h c => ?_) (Cert.Kernel4Ideal.Value.run_blocks (F := Ideal) m ρ)
    exact ⟨(h c).1.trans (Cert.Kernel4Ideal.Prep.final_q m c), (h c).2.1.trans (Cert.Kernel4Ideal.Prep.final_k m c),
      (h c).2.2.1.trans (Cert.Kernel4Ideal.Prep.final_v m c), (h c).2.2.2.1.trans (Cert.Kernel4Ideal.Prep.final_c m c),
      (h c).2.2.2.2.1.trans (Cert.Kernel4Ideal.Prep.final_r m c), (h c).2.2.2.2.2⟩
  · refine (θ_run Cert.Reference4Ideal.defs _ _).mono (fun r h c => ?_) (Cert.Reference4Ideal.Value.run (F := Ideal) m' ρ')
    refine ⟨(h c).1.trans ?_, (h c).2.1.trans ?_, (h c).2.2.1.trans ?_, (h c).2.2.2.1.trans ?_, (h c).2.2.2.2.1.trans ?_, (h c).2.2.2.2.2⟩
    · rw [(hagree c).1, (hagree c).2.1, (hagree c).2.2.1, Cert.Reference4Ideal.Read.val_main_v43_eq]
      rfl
    · rw [(hagree c).1, (hagree c).2.2.2.1, (hagree c).2.2.2.2, Cert.Reference4Ideal.Read.val_main_v46_eq]
      rfl
    · rw [(hagree c).1, (hagree c).2.2.2.1, (hagree c).2.2.2.2, Cert.Reference4Ideal.Read.val_main_v49_eq]
      rfl
    · rw [(hagree c).1, (hagree c).2.2.2.1, Cert.Reference4Ideal.Read.val_main_v50_eq]
      rfl
    · rw [(hagree c).1, Cert.Reference4Ideal.Read.val_main_v51_eq]
      rfl

/-! ## The gated linear attention's states -/

/-- The gated linear attention runs at any float model, arguments unchanged and semaphores at zero. -/
theorem frame_kernel5 : Cert.quiescent_Kernel5 := fun m ρ _ => Cert.Kernel5.Gen.frame m ρ

/-- The same of its idealization. -/
theorem frame_ideal5 : Cert.quiescent_Kernel5Ideal := fun m ρ _ => Cert.Kernel5Ideal.Gen.frame m ρ

/-- Its reference runs, arguments unchanged. -/
theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- THE VALUE: the states the kernel leaves are the reference's. -/
theorem value5 : Cert.algebraic_Kernel5Ideal_Reference5Ideal := by
  intro m ρ m' ρ' hpre hagree
  refine ⟨fun c => Cert.Kernel5Ideal.Gla.G m c, ?_, ?_⟩
  · refine (θ_run Cert.Kernel5Ideal.defs _ _).mono (fun r h c => ?_) (Cert.Kernel5Ideal.Value.run_blocks (F := Ideal) m ρ)
    exact ⟨(h c).2.1.trans (Cert.Kernel5Ideal.Gla.final m c), (h c).2.2⟩
  · refine (θ_run Cert.Reference5Ideal.defs _ _).mono (fun r h c => ?_) (Cert.Reference5Ideal.Value.run (F := Ideal) m' ρ')
    refine ⟨(h c).1.trans ?_, (h c).2⟩
    rw [Cert.Reference5Ideal.Read.val_main_v148_eq]
    exact congr (congrArg₂ (Cert.Reference5Ideal.Read.val_main_v148 (F := Ideal)) (hagree c).1 (hagree c).2.1) (hagree c).2.2.1

/-! ## The output projection and the router -/

/-- The output projection runs at any float model, arguments unchanged and semaphores at zero. -/
theorem frame_kernel6 : Cert.quiescent_Kernel6 := fun m ρ _ => Cert.Kernel6.Gen.frame m ρ

/-- The same of its idealization. -/
theorem frame_ideal6 : Cert.quiescent_Kernel6Ideal := fun m ρ _ => Cert.Kernel6Ideal.Gen.frame m ρ

/-- The same under the precondition. -/
theorem frame_ideal6_pre : Cert.quiescent_Kernel6Ideal_pre_finite_mix := fun m ρ _ => Cert.Kernel6Ideal.Gen.frame m ρ

/-- Its reference runs, arguments unchanged. -/
theorem frame_reference6 : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

/-- The same under the precondition. -/
theorem frame_reference6_pre : Cert.quiescent_Reference6Ideal_pre_finite_mix := fun m ρ _ =>
  frame_reference6 m ρ trivial

/-- THE VALUE: the tokens after the mixers, the tokens the experts read and the affinities are the reference's, for finite
    arrays. -/
theorem value6 : Cert.algebraic_Kernel6Ideal_Reference6Ideal_pre_finite_mix := by
  intro m ρ m' ρ' hpre hagree
  refine ⟨fun c => Cert.Kernel6Ideal.Out.GX m c, fun c => Cert.Kernel6Ideal.Out.GM m c, fun c => Cert.Kernel6Ideal.Out.GA m c, ?_, ?_⟩
  · refine (θ_run Cert.Kernel6Ideal.defs _ _).mono (fun r h c => ?_) (Cert.Kernel6Ideal.Value.run_blocks (F := Ideal) m ρ)
    obtain ⟨h0, h1, h2, h3, h4, h5, h6, h7⟩ := Cert.Pre_finite_mix.real_of_pre _ _ _ _ _ _ _ _ (hpre c)
    have hf : Cert.Kernel6Ideal.Out.Finite m c := ⟨h0, h1, h2, h3, h4, h5, h6, h7⟩
    exact ⟨(h c).1.trans (Cert.Kernel6Ideal.Out.final_x m c), (h c).2.1.trans (Cert.Kernel6Ideal.Out.final_m m c hf),
      (h c).2.2.1.trans (Cert.Kernel6Ideal.Out.final_a m c hf), (h c).2.2.2⟩
  · refine (θ_run Cert.Reference6Ideal.defs _ _).mono (fun r h c => ?_) (Cert.Reference6Ideal.Value.run (F := Ideal) m' ρ')
    obtain ⟨a0, a1, a2, a3, a4, a5, a6, a7⟩ := hagree c
    refine ⟨(h c).1.trans ?_, (h c).2.1.trans ?_, (h c).2.2.1.trans ?_, (h c).2.2.2⟩
    · refine (Cert.Reference6Ideal.Read.val_main_v64_eq _ _ _ _ _ _ _).trans ?_
      exact congr (congr (congr (congr (congr (congrArg₂ (Cert.Reference6Ideal.Read.val_main_v64 (F := Ideal)) a0 a1) a2) a3) a4) a5) a6
    · rw [Cert.Reference6Ideal.Read.val_main_v63_eq]
      exact congr (congr (congr (congr (congr (congr (congrArg₂ (Cert.Reference6Ideal.Read.val_main_v63 (F := Ideal)) a0 a1) a2) a3) a4) a5) a6) a7
    · rw [Cert.Reference6Ideal.Read.val_main_v65_eq]
      exact congr (congr (congr (congr (congr (congr (congrArg₂ (Cert.Reference6Ideal.Read.val_main_v65 (F := Ideal)) a0 a1) a2) a3) a4) a5) a6) a7

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_scores.Gen.facts, Cert.Pre_finite_inputs.Gen.facts, Cert.Pre_finite_mix.Gen.facts,
  frame_kernel, frame_ideal, frame_ideal_pre, frame_reference, frame_reference_pre,
  frame_kernel2, frame_ideal2, frame_ideal2_pre, frame_reference2, frame_reference2_pre,
  frame_kernel3, frame_ideal3, frame_reference3,
  frame_kernel4, frame_ideal4, frame_reference4,
  frame_kernel5, frame_ideal5, frame_reference5,
  frame_kernel6, frame_ideal6, frame_ideal6_pre, frame_reference6, frame_reference6_pre,
  trivial, value, trivial, value2, trivial, value3, trivial, value4, trivial, value5, trivial, value6⟩

end Cert.Proof

end
